-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3584 : Shape := ⟨3, ![2, 128, 3584]⟩
abbrev S2 : Shape := ⟨1, ![2]⟩
abbrev S3584x18944 : Shape := ⟨2, ![3584, 18944]⟩
abbrev S3584 : Shape := ⟨1, ![3584]⟩
abbrev S256x3584 : Shape := ⟨2, ![256, 3584]⟩
abbrev S1x3584 : Shape := ⟨2, ![1, 3584]⟩
abbrev S256x18944 : Shape := ⟨2, ![256, 18944]⟩
abbrev S1x18944 : Shape := ⟨2, ![1, 18944]⟩
abbrev S2x128 : Shape := ⟨2, ![2, 128]⟩
abbrev S3584x512 : Shape := ⟨2, ![3584, 512]⟩
abbrev S256x512 : Shape := ⟨2, ![256, 512]⟩
abbrev S1x512 : Shape := ⟨2, ![1, 512]⟩
abbrev S3584x128 : Shape := ⟨2, ![3584, 128]⟩
abbrev S256x128 : Shape := ⟨2, ![256, 128]⟩
abbrev S128x1 : Shape := ⟨2, ![128, 1]⟩
abbrev S1 : Shape := ⟨1, ![1]⟩
abbrev S256x1 : Shape := ⟨2, ![256, 1]⟩
abbrev S128 : Shape := ⟨1, ![128]⟩
abbrev S1x128 : Shape := ⟨2, ![1, 128]⟩
abbrev S128x128 : Shape := ⟨2, ![128, 128]⟩
abbrev S256 : Shape := ⟨1, ![256]⟩
abbrev S8x128 : Shape := ⟨2, ![8, 128]⟩
abbrev S32x128 : Shape := ⟨2, ![32, 128]⟩
abbrev S2x128x18944 : Shape := ⟨3, ![2, 128, 18944]⟩
abbrev S18944 : Shape := ⟨1, ![18944]⟩

abbrev nBuf : Space → Nat
  | .hbm => 15
  | .vmem => 18
  | .smem => 1
  | _ => 0

abbrev bufTy : (tb : Table) → Fin (tcTables nBuf tb) → BufTy
  | .hbm, ⟨0, _⟩ => ⟨S2x128x3584, .bf16⟩
  | .hbm, ⟨1, _⟩ => ⟨S3584x18944, .bf16⟩
  | .hbm, ⟨2, _⟩ => ⟨S3584, .f32⟩
  | .hbm, ⟨3, _⟩ => ⟨S256x3584, .bf16⟩
  | .hbm, ⟨4, _⟩ => ⟨S1x3584, .f32⟩
  | .hbm, ⟨5, _⟩ => ⟨S256x18944, .bf16⟩
  | .hbm, ⟨6, _⟩ => ⟨S1x3584, .f32⟩
  | .hbm, ⟨7, _⟩ => ⟨S3584x18944, .i8⟩
  | .hbm, ⟨8, _⟩ => ⟨S1x18944, .f32⟩
  | .hbm, ⟨9, _⟩ => ⟨S256x3584, .i8⟩
  | .hbm, ⟨10, _⟩ => ⟨S2x128, .f32⟩
  | .hbm, ⟨11, _⟩ => ⟨S2x128x18944, .bf16⟩
  | .hbm, ⟨12, _⟩ => ⟨S3584, .f32⟩
  | .hbm, ⟨13, _⟩ => ⟨S18944, .f32⟩
  | .hbm, ⟨14, _⟩ => ⟨S2x128x3584, .i8⟩
  | .local _ .vmem, ⟨0, _⟩ => ⟨S256x3584, .bf16⟩
  | .local _ .vmem, ⟨1, _⟩ => ⟨S1x3584, .f32⟩
  | .local _ .vmem, ⟨2, _⟩ => ⟨S3584x512, .bf16⟩
  | .local _ .vmem, ⟨3, _⟩ => ⟨S3584x512, .bf16⟩
  | .local _ .vmem, ⟨4, _⟩ => ⟨S256x512, .bf16⟩
  | .local _ .vmem, ⟨5, _⟩ => ⟨S256x512, .bf16⟩
  | .local _ .vmem, ⟨6, _⟩ => ⟨S1x3584, .f32⟩
  | .local _ .vmem, ⟨7, _⟩ => ⟨S3584x512, .i8⟩
  | .local _ .vmem, ⟨8, _⟩ => ⟨S3584x512, .i8⟩
  | .local _ .vmem, ⟨9, _⟩ => ⟨S1x512, .f32⟩
  | .local _ .vmem, ⟨10, _⟩ => ⟨S1x512, .f32⟩
  | .local _ .vmem, ⟨11, _⟩ => ⟨S256x3584, .i8⟩
  | .local _ .vmem, ⟨12, _⟩ => ⟨S2x128, .f32⟩
  | .local _ .vmem, ⟨13, _⟩ => ⟨S3584x128, .f32⟩
  | .local _ .vmem, ⟨14, _⟩ => ⟨S256x3584, .bf16⟩
  | .local _ .vmem, ⟨15, _⟩ => ⟨S256x128, .f32⟩
  | .local _ .vmem, ⟨16, _⟩ => ⟨S3584x512, .f32⟩
  | .local _ .vmem, ⟨17, _⟩ => ⟨S3584x512, .bf16⟩
  | .local _ .smem, ⟨0, _⟩ => ⟨S2, .i32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![37], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_4 : BitVec 32 := 0#32
  let c112_i32 : BitVec 32 := 112#32
  let v7 : BitVec 32 := Scalar.addi c0_i32_4 c112_i32
  let c1_i32 : BitVec 32 := 1#32
  ⟨c0_i32_4, v7, c1_i32⟩
def k0_mult1 (k0_t1 : Fin k0_t1_loop.trips) : BitVec 32 :=
  let c0_i32_4 : BitVec 32 := 0#32
  let c1_i32 : BitVec 32 := 1#32
  let arg16 : BitVec 32 := Scf.iv c0_i32_4 c1_i32 k0_t1
  let c32_i32 : BitVec 32 := 32#32
  let v101 : BitVec 32 := Scalar.muli arg16 c32_i32
  v101
def k0_off1 (k0_t1 : Fin k0_t1_loop.trips) : Fin 2 → Nat :=
  let c0_i32_4 : BitVec 32 := 0#32
  let c1_i32 : BitVec 32 := 1#32
  let arg16 : BitVec 32 := Scf.iv c0_i32_4 c1_i32 k0_t1
  let c32_i32 : BitVec 32 := 32#32
  let v101 : BitVec 32 := Scalar.muli arg16 c32_i32
  let v102 : BitVec 32 := v101
  let v103 : Index := Scalar.indexCast v102
  let c0_63 : Index := 0#32
  ![v103.toNat, 0]
def k0_off2 (k0_t1 : Fin k0_t1_loop.trips) : Fin 2 → Nat :=
  let c0_i32_4 : BitVec 32 := 0#32
  let c1_i32 : BitVec 32 := 1#32
  let arg16 : BitVec 32 := Scf.iv c0_i32_4 c1_i32 k0_t1
  let c32_i32 : BitVec 32 := 32#32
  let v101 : BitVec 32 := Scalar.muli arg16 c32_i32
  let v102 : BitVec 32 := v101
  let v105 : Index := Scalar.indexCast v102
  let c0_64 : Index := 0#32
  ![v105.toNat, 0]
def k0_off3 (k0_t1 : Fin k0_t1_loop.trips) : Fin 2 → Nat :=
  let c0_i32_4 : BitVec 32 := 0#32
  let c1_i32 : BitVec 32 := 1#32
  let arg16 : BitVec 32 := Scf.iv c0_i32_4 c1_i32 k0_t1
  let c32_i32 : BitVec 32 := 32#32
  let v101 : BitVec 32 := Scalar.muli arg16 c32_i32
  let v102 : BitVec 32 := v101
  let v122 : Index := Scalar.indexCast v102
  let c128_66 : Index := 128#32
  ![v122.toNat, 128]
def k0_off4 (k0_t1 : Fin k0_t1_loop.trips) : Fin 2 → Nat :=
  let c0_i32_4 : BitVec 32 := 0#32
  let c1_i32 : BitVec 32 := 1#32
  let arg16 : BitVec 32 := Scf.iv c0_i32_4 c1_i32 k0_t1
  let c32_i32 : BitVec 32 := 32#32
  let v101 : BitVec 32 := Scalar.muli arg16 c32_i32
  let v102 : BitVec 32 := v101
  let v139 : Index := Scalar.indexCast v102
  let c256_68 : Index := 256#32
  ![v139.toNat, 256]
def k0_off5 (k0_t1 : Fin k0_t1_loop.trips) : Fin 2 → Nat :=
  let c0_i32_4 : BitVec 32 := 0#32
  let c1_i32 : BitVec 32 := 1#32
  let arg16 : BitVec 32 := Scf.iv c0_i32_4 c1_i32 k0_t1
  let c32_i32 : BitVec 32 := 32#32
  let v101 : BitVec 32 := Scalar.muli arg16 c32_i32
  let v102 : BitVec 32 := v101
  let v156 : Index := Scalar.indexCast v102
  let c384_70 : Index := 384#32
  ![v156.toNat, 384]
@[reducible] def k0_t2_loop : Scf.Loop 32 :=
  let c0_i32_30 : BitVec 32 := 0#32
  let c112_i32_31 : BitVec 32 := 112#32
  let v61 : BitVec 32 := Scalar.addi c0_i32_30 c112_i32_31
  let c1_i32_32 : BitVec 32 := 1#32
  ⟨c0_i32_30, v61, c1_i32_32⟩
def k0_mult2 (k0_t2 : Fin k0_t2_loop.trips) : BitVec 32 :=
  let c0_i32_30 : BitVec 32 := 0#32
  let c1_i32_32 : BitVec 32 := 1#32
  let arg16 : BitVec 32 := Scf.iv c0_i32_30 c1_i32_32 k0_t2
  let c32_i32 : BitVec 32 := 32#32
  let v101 : BitVec 32 := Scalar.muli arg16 c32_i32
  v101
def k0_off6 (k0_t2 : Fin k0_t2_loop.trips) : Fin 2 → Nat :=
  let c0_i32_30 : BitVec 32 := 0#32
  let c1_i32_32 : BitVec 32 := 1#32
  let arg16 : BitVec 32 := Scf.iv c0_i32_30 c1_i32_32 k0_t2
  let c32_i32 : BitVec 32 := 32#32
  let v101 : BitVec 32 := Scalar.muli arg16 c32_i32
  let v102 : BitVec 32 := v101
  let v103 : Index := Scalar.indexCast v102
  let c0_63 : Index := 0#32
  ![v103.toNat, 0]
def k0_off7 (k0_t2 : Fin k0_t2_loop.trips) : Fin 2 → Nat :=
  let c0_i32_30 : BitVec 32 := 0#32
  let c1_i32_32 : BitVec 32 := 1#32
  let arg16 : BitVec 32 := Scf.iv c0_i32_30 c1_i32_32 k0_t2
  let c32_i32 : BitVec 32 := 32#32
  let v101 : BitVec 32 := Scalar.muli arg16 c32_i32
  let v102 : BitVec 32 := v101
  let v119 : Index := Scalar.indexCast v102
  let c128_68 : Index := 128#32
  ![v119.toNat, 128]
def k0_off8 (k0_t2 : Fin k0_t2_loop.trips) : Fin 2 → Nat :=
  let c0_i32_30 : BitVec 32 := 0#32
  let c1_i32_32 : BitVec 32 := 1#32
  let arg16 : BitVec 32 := Scf.iv c0_i32_30 c1_i32_32 k0_t2
  let c32_i32 : BitVec 32 := 32#32
  let v101 : BitVec 32 := Scalar.muli arg16 c32_i32
  let v102 : BitVec 32 := v101
  let v135 : Index := Scalar.indexCast v102
  let c256_73 : Index := 256#32
  ![v135.toNat, 256]
def k0_off9 (k0_t2 : Fin k0_t2_loop.trips) : Fin 2 → Nat :=
  let c0_i32_30 : BitVec 32 := 0#32
  let c1_i32_32 : BitVec 32 := 1#32
  let arg16 : BitVec 32 := Scf.iv c0_i32_30 c1_i32_32 k0_t2
  let c32_i32 : BitVec 32 := 32#32
  let v101 : BitVec 32 := Scalar.muli arg16 c32_i32
  let v102 : BitVec 32 := v101
  let v151 : Index := Scalar.indexCast v102
  let c384_78 : Index := 384#32
  ![v151.toNat, 384]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3584x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x3584 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x128x3584 : Shape := ⟨3, ![2, 128, 3584]⟩
abbrev S2 : Shape := ⟨1, ![2]⟩
abbrev S3584x18944 : Shape := ⟨2, ![3584, 18944]⟩
abbrev S3584 : Shape := ⟨1, ![3584]⟩
abbrev S2x128x18944 : Shape := ⟨3, ![2, 128, 18944]⟩
abbrev S18944 : Shape := ⟨1, ![18944]⟩
abbrev S2x128 : Shape := ⟨2, ![2, 128]⟩
abbrev S1x128x1 : Shape := ⟨3, ![1, 128, 1]⟩
abbrev S1 : Shape := ⟨1, ![1]⟩
abbrev S2x128x1 : Shape := ⟨3, ![2, 128, 1]⟩
abbrev S3584x1 : Shape := ⟨2, ![3584, 1]⟩
abbrev S1x18944 : Shape := ⟨2, ![1, 18944]⟩
abbrev S1x1x3584 : Shape := ⟨3, ![1, 1, 3584]⟩
abbrev S1x1x18944 : Shape := ⟨3, ![1, 1, 18944]⟩

abbrev nBuf : Space → Nat
  | .hbm => 10
  | .vmem => 9
  | .smem => 1
  | _ => 0

abbrev bufTy : (tb : Table) → Fin (tcTables nBuf tb) → BufTy
  | .hbm, ⟨0, _⟩ => ⟨S2x128x3584, .bf16⟩
  | .hbm, ⟨1, _⟩ => ⟨S2, .i32⟩
  | .hbm, ⟨2, _⟩ => ⟨S3584x18944, .bf16⟩
  | .hbm, ⟨3, _⟩ => ⟨S3584, .f32⟩
  | .hbm, ⟨4, _⟩ => ⟨S2x128x18944, .bf16⟩
  | .hbm, ⟨5, _⟩ => ⟨S3584, .f32⟩
  | .hbm, ⟨6, _⟩ => ⟨S3584x18944, .i8⟩
  | .hbm, ⟨7, _⟩ => ⟨S18944, .f32⟩
  | .hbm, ⟨8, _⟩ => ⟨S2x128x3584, .i8⟩
  | .hbm, ⟨9, _⟩ => ⟨S2x128, .f32⟩
  | .local _ .vmem, ⟨0, _⟩ => ⟨S2x128x3584, .bf16⟩
  | .local _ .vmem, ⟨1, _⟩ => ⟨S3584x18944, .bf16⟩
  | .local _ .vmem, ⟨2, _⟩ => ⟨S3584, .f32⟩
  | .local _ .vmem, ⟨3, _⟩ => ⟨S2x128x18944, .bf16⟩
  | .local _ .vmem, ⟨4, _⟩ => ⟨S3584, .f32⟩
  | .local _ .vmem, ⟨5, _⟩ => ⟨S3584x18944, .i8⟩
  | .local _ .vmem, ⟨6, _⟩ => ⟨S18944, .f32⟩
  | .local _ .vmem, ⟨7, _⟩ => ⟨S2x128x3584, .i8⟩
  | .local _ .vmem, ⟨8, _⟩ => ⟨S2x128, .f32⟩
  | .local _ .smem, ⟨0, _⟩ => ⟨S2, .i32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x18944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x18944 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18944 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x3584 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.K.Points.lean ====
/- When each window's block is fetched and written back, over the grid's points. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 37 = 0 :=
  (fun t => Pipeline.Window.fetchOf_const cc0_transform_0 (fun _ _ => rfl) (n := 37) (by decide) t : ∀ t : Fin grid0.N, Pipeline.Window.fetchOf grid0 false cc0_transform_0 t = true ↔ t.val % 37 = 0)
/-- Window 1 (operand 2 (%1)) is fetched at the first point only, at any contents of the tables (its index map reads none). -/
theorem fetch0_1 (a : (pcfg0 (F := F)).Adm) : ∀ t : Fin (cfg0 a).N, ((cfg0 a).win 1).fetch t = true ↔ t.val % 37 = 0 :=
  (fun t => Pipeline.Window.fetchOf_const cc0_transform_1 (fun _ _ => rfl) (n := 37) (by decide) t : ∀ t : Fin grid0.N, Pipeline.Window.fetchOf grid0 false cc0_transform_1 t = true ↔ t.val % 37 = 0)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (result 0 (%2#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 1 (fun _ => rfl) (by decide)) (P := 1) (m := 0) (by decide) rfl t).mpr (Nat.mod_one _) : ∀ t : Fin grid0.N, Pipeline.Window.flushOf grid0 true cc0_transform_3 t = true)
/-- Window 4 (result 1 (%2#1)) is written back at the last point only, at any contents of the tables (its index map reads none). -/
theorem flush0_4 (a : (pcfg0 (F := F)).Adm) : ∀ t : Fin (cfg0 a).N, ((cfg0 a).win 4).flush t = true ↔ t.val % 37 = 36 :=
  (fun t => Pipeline.Window.flushOf_const cc0_transform_4 (fun _ _ => rfl) (n := 37) (by decide) rfl t : ∀ t : Fin grid0.N, Pipeline.Window.flushOf grid0 true cc0_transform_4 t = true ↔ t.val % 37 = 36)
/-- Window 5 (result 2 (%2#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 1 (fun _ => rfl) (by decide)) (P := 1) (m := 0) (by decide) rfl t).mpr (Nat.mod_one _) : ∀ t : Fin grid0.N, Pipeline.Window.flushOf grid0 true cc0_transform_5 t = true)
/-- Window 6 (result 3 (%2#3)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 1 (fun _ => rfl) (by decide)) (P := 1) (m := 0) (by decide) rfl t).mpr (Nat.mod_one _) : ∀ t : Fin grid0.N, Pipeline.Window.flushOf grid0 true cc0_transform_6 t = true)
/-- Window 7 (result 4 (%2#4)) is written back at the last point only, at any contents of the tables (its index map reads none). -/
theorem flush0_7 (a : (pcfg0 (F := F)).Adm) : ∀ t : Fin (cfg0 a).N, ((cfg0 a).win 7).flush t = true ↔ t.val % 37 = 36 :=
  (fun t => Pipeline.Window.flushOf_const cc0_transform_7 (fun _ _ => rfl) (n := 37) (by decide) rfl t : ∀ t : Fin grid0.N, Pipeline.Window.flushOf grid0 true cc0_transform_7 t = true ↔ t.val % 37 = 36)
/-- Window 8 (result 5 (%2#5)) is written back at the last point only, at any contents of the tables (its index map reads none). -/
theorem flush0_8 (a : (pcfg0 (F := F)).Adm) : ∀ t : Fin (cfg0 a).N, ((cfg0 a).win 8).flush t = true ↔ t.val % 37 = 36 :=
  (fun t => Pipeline.Window.flushOf_const cc0_transform_8 (fun _ _ => rfl) (n := 37) (by decide) rfl t : ∀ t : Fin grid0.N, Pipeline.Window.flushOf grid0 true cc0_transform_8 t = true ↔ t.val % 37 = 36)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_smoothquant_w8a8 (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.Kernel.Gen

end
-- ==== Proof.K.Runs.lean ====
/- What the runs of the kernel's body share: the launch, the windows, the buffers and the branch conditions. -/
module

public import proofs.«01_k».proof.Proof.Gen.Kernel.Launch
public import proofs.«01_k».proof.Proof.Gen.Kernel.Skeleton
public import proofs.«01_k».proof.Proof.Gen.Kernel.Loops
public import proofs.«01_k».proof.Proof.K.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v3, main_v4, main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      (Pipeline.RDat.FramePostR.arr_in h c 2 rfl).trans ((hA c 2).trans (V_main_arg2 m c)),
      ((h c).2 main_arg3 (by decide : main_arg3 ∈ Pipeline.restRefs sig spec0 \ T0)).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x3584 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x3584 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S3584x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3584 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S3584x512 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x512 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x3584 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S2x128 .f32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S3584x128 .f32 := Memref.whole cc0_scratch0
abbrev scM0_1 : Memref sig .tc .vmem S256x3584 .bf16 := Memref.whole cc0_scratch1
abbrev scM0_2 : Memref sig .tc .vmem S256x128 .f32 := Memref.whole cc0_scratch2
abbrev scM0_3 : Memref sig .tc .vmem S3584x512 .f32 := Memref.whole cc0_scratch3
abbrev scM0_4 : Memref sig .tc .vmem S3584x512 .bf16 := Memref.whole cc0_scratch4
/-- The scratch `arg11` the kernel carries between points, as a view: what it holds is stated through it. -/
abbrev VS0_0 : View sig .tc .vmem S3584x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.K.RunA.lean ====
/- The run of the kernel's whole body at the grid's first point. -/
module

public import proofs.«01_k».proof.Proof.K.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2380000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8) at anything, handed back at some contents nothing names. -/
noncomputable def kernelRun0_A (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : cond0_0 i)
    (x0 : Vec F S256x3584 .bf16) (x1 : Vec F S1x3584 .f32) (x2 : Vec F S3584x512 .bf16) (xt0 : TbBuf0 (F := F) c tbM0_0) :
    { LS0 : List (View.Piece (Elt F) S3584x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_smoothquant_w8a8 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_smoothquant_w8a8_eq_skeleton]; unfold cc0_smoothquant_w8a8_skel
    simp only [k0_part42_eq_skeleton, k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part43_eq_skeleton, k0_part44_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.Kernel.Gen

end
-- ==== Proof.K.RunB.lean ====
/- The run of the kernel's whole body at every later point of the grid. -/
module

public import proofs.«01_k».proof.Proof.K.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 36: 36 of 37), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8) at anything, handed back at some contents nothing names. -/
noncomputable def kernelRun0_B (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : ¬cond0_0 i)
    (x0 : Vec F S256x3584 .bf16) (x1 : Vec F S1x3584 .f32) (x2 : Vec F S3584x512 .bf16) (xt0 : TbBuf0 (F := F) c tbM0_0) (xs0 : Vec F S3584x128 .f32) :
    { LS0 : List (View.Piece (Elt F) S3584x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_smoothquant_w8a8 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], fun E K => ?run⟩
  case run =>
    simp only [cc0_smoothquant_w8a8_eq_skeleton]; unfold cc0_smoothquant_w8a8_skel
    simp only [k0_part42_eq_skeleton, k0_part43_eq_skeleton, k0_part44_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg11.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.Kernel.Gen

end
-- ==== Proof.K.ForgetFrame.lean ====
/- The frame of the program: every execution ends, faults nowhere, and leaves the arguments as they were. -/
module

public import proofs.«01_k».proof.Proof.K.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: 28 pieces of `S128x128` tiling it (Lib/Ring.lean `Piece.tiledL`). -/
theorem scover0_A_0 (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : cond0_0 i)
    (x0 : Vec F S256x3584 .bf16) (x1 : Vec F S1x3584 .f32) (x2 : Vec F S3584x512 .bf16) (xt0 : TbBuf0 (F := F) c tbM0_0) (y : S3584x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xt0).1 S128x128.size (by sl_kernel_rfl) y

/-- What case A leaves in scratch `arg11`: its pieces read back over junk. -/
def sout0_A_0 (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : cond0_0 i)
    (x0 : Vec F S256x3584 .bf16) (x1 : Vec F S1x3584 .f32) (x2 : Vec F S3584x512 .bf16) (xt0 : TbBuf0 (F := F) c tbM0_0) : Vec F S3584x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xt0).1)

/-- Case B stores nothing into scratch `arg11`: it holds what the point before left. -/
def sout0_B_0 (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : ¬cond0_0 i)
    (x0 : Vec F S256x3584 .bf16) (x1 : Vec F S1x3584 .f32) (x2 : Vec F S3584x512 .bf16) (xt0 : TbBuf0 (F := F) c tbM0_0) (xs0 : Vec F S3584x128 .f32) : Vec F S3584x128 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S3584x128 .f32
  | 0, hn => sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m hO c 0 ⟨0, hn⟩) (iblk m hO c 1 ⟨0, hn⟩) (iblk m hO c 2 ⟨0, hn⟩) (tbl m 0)
  | n + 1, hn =>
    if h0 : (n + 1) % 37 = 0 then
      sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m hO c 0 ⟨n + 1, hn⟩) (iblk m hO c 1 ⟨n + 1, hn⟩) (iblk m hO c 2 ⟨n + 1, hn⟩) (tbl m 0)
    else
      sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn))

/-- `outsAt0` at a point of case A: that case's contents. -/
theorem outsAt0_A (hO : Ok m) (c : Dev nD) (t : Fin (cfgM m hO).N) (h0 : t.val % 37 = 0) :
    outsAt0 m hO c t.val t.isLt = sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) ((hcond0_0 t).mpr h0) (iblk m hO c 0 t) (iblk m hO c 1 t) (iblk m hO c 2 t) (tbl m 0) := by
  obtain ⟨n, hn⟩ := t
  cases n with
  | zero => exact rfl
  | succ n => exact (dif_pos h0).trans rfl

/-- `outsAt0` at a point of case B: that case's contents, over what the point before left. -/
theorem outsAt0_B (hO : Ok m) (c : Dev nD) (t : Fin (cfgM m hO).N) (h0 : ¬t.val % 37 = 0) :
    outsAt0 m hO c t.val t.isLt = sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m hO c 0 t) (iblk m hO c 1 t) (iblk m hO c 2 t) (tbl m 0) (outsAt0 m hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c) := by
  cases n with
  | zero => exact absurd rfl hz
  | succ n => rfl

/-! ## The pipeline's proof data -/

/-- The output windows this certificate FORGETS (3, 4, 5, 6, 7, 8): nothing reads what the kernel leaves in them, so nothing
    of it is named (Lib/Pipeline/Dat.lean `Dat.toRForget`). -/
def forgets0 : Fin 9 → Bool := fun w => w.val == 3 || w.val == 4 || w.val == 5 || w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 37 := lt_of_lt_of_eq t.isLt (show (cfgM m hO).N = 37 from N_0)
  by_cases h0 : t.val % 37 = 0
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    by_cases hz : t.val = 0
    · rw [PhiS_castSucc m hO c t, PhiS_zero m hO c _ _ hz, PhiT0_eq, PhiA0_eq]
      rw [outsAt0_A m hO c t h0]
      unfold sout0_A_0
      iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (tbl m 0)).2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HT0]; · iexact HT0
      iintro ⟨H0, H1, H2, H3, H4, H5, H6, H7, H8, ⟨%es0, HS0⟩, HS1, HS2, HS3, HS4, HT0⟩
      isplitl [HS0 HS1 HS2 HS3 HS4 Hg HT0]
      · isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            isplitl [HS1]
            · iexact HS1
            isplitl [HS2]
            · iexact HS2
            isplitl [HS3]
            · iexact HS3
            iexact HS4
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · exfalso; have hN : t.val < 37 := lt_of_lt_of_eq t.isLt (show (cfgM m hO).N = 37 from N_0); omega
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    by_cases hz : t.val = 0
    · exfalso; have hN : t.val < 37 := lt_of_lt_of_eq t.isLt (show (cfgM m hO).N = 37 from N_0); omega
    · rw [PhiS_castSucc m hO c t, PhiS_pos m hO c _ _ hz, PhiT0_eq]
      rw [outsAt0_B m hO c t h0]
      unfold sout0_B_0
      iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ (fun h => h0 ((hcond0_0 t).mp h)) (iblk m hO c 0 t) (iblk m hO c 1 t) (iblk m hO c 2 t) (tbl m 0) _).2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HT0]; · iexact HT0
      iintro ⟨H0, H1, H2, H3, H4, H5, H6, H7, H8, HS0, HS1, HS2, HS3, HS4, HT0⟩
      isplitl [HS0 HS1 HS2 HS3 HS4 Hg HT0]
      · isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4⟩, Hg⟩, -⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 37 := N_0; omega)

/-! ## The run and the frame -/

-- `θ_run_frameP_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_track_forget (Q' := _) pcfgs (fun _ => adm m hO) (dats m hO) (0 : Fin 1) launch0 defs₀ Variants.none forgets0 T0 m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 3, 4, 5, 6, 7, 8) (Lib/Pipeline/Frame.lean `RDat.FramePostR` over the proof data with those windows
    forgotten, Dat.lean `Dat.toRForget`), and every other unscoped buffer outside `T0` at its region-entry contents. -/
theorem run_main (hO : Ok m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel.Gen

end
-- ==== Proof.KI.Points.lean ====
/- When each window's block is fetched and written back, over the grid's points. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 37 = 0 :=
  (fun t => Pipeline.Window.fetchOf_const cc0_transform_0 (fun _ _ => rfl) (n := 37) (by decide) t : ∀ t : Fin grid0.N, Pipeline.Window.fetchOf grid0 false cc0_transform_0 t = true ↔ t.val % 37 = 0)
/-- Window 1 (operand 2 (%1)) is fetched at the first point only, at any contents of the tables (its index map reads none). -/
theorem fetch0_1 (a : (pcfg0 (F := F)).Adm) : ∀ t : Fin (cfg0 a).N, ((cfg0 a).win 1).fetch t = true ↔ t.val % 37 = 0 :=
  (fun t => Pipeline.Window.fetchOf_const cc0_transform_1 (fun _ _ => rfl) (n := 37) (by decide) t : ∀ t : Fin grid0.N, Pipeline.Window.fetchOf grid0 false cc0_transform_1 t = true ↔ t.val % 37 = 0)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (result 0 (%2#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 1 (fun _ => rfl) (by decide)) (P := 1) (m := 0) (by decide) rfl t).mpr (Nat.mod_one _) : ∀ t : Fin grid0.N, Pipeline.Window.flushOf grid0 true cc0_transform_3 t = true)
/-- Window 4 (result 1 (%2#1)) is written back at the last point only, at any contents of the tables (its index map reads none). -/
theorem flush0_4 (a : (pcfg0 (F := F)).Adm) : ∀ t : Fin (cfg0 a).N, ((cfg0 a).win 4).flush t = true ↔ t.val % 37 = 36 :=
  (fun t => Pipeline.Window.flushOf_const cc0_transform_4 (fun _ _ => rfl) (n := 37) (by decide) rfl t : ∀ t : Fin grid0.N, Pipeline.Window.flushOf grid0 true cc0_transform_4 t = true ↔ t.val % 37 = 36)
/-- Window 5 (result 2 (%2#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 1 (fun _ => rfl) (by decide)) (P := 1) (m := 0) (by decide) rfl t).mpr (Nat.mod_one _) : ∀ t : Fin grid0.N, Pipeline.Window.flushOf grid0 true cc0_transform_5 t = true)
/-- Window 6 (result 3 (%2#3)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 1 (fun _ => rfl) (by decide)) (P := 1) (m := 0) (by decide) rfl t).mpr (Nat.mod_one _) : ∀ t : Fin grid0.N, Pipeline.Window.flushOf grid0 true cc0_transform_6 t = true)
/-- Window 7 (result 4 (%2#4)) is written back at the last point only, at any contents of the tables (its index map reads none). -/
theorem flush0_7 (a : (pcfg0 (F := F)).Adm) : ∀ t : Fin (cfg0 a).N, ((cfg0 a).win 7).flush t = true ↔ t.val % 37 = 36 :=
  (fun t => Pipeline.Window.flushOf_const cc0_transform_7 (fun _ _ => rfl) (n := 37) (by decide) rfl t : ∀ t : Fin grid0.N, Pipeline.Window.flushOf grid0 true cc0_transform_7 t = true ↔ t.val % 37 = 36)
/-- Window 8 (result 5 (%2#5)) is written back at the last point only, at any contents of the tables (its index map reads none). -/
theorem flush0_8 (a : (pcfg0 (F := F)).Adm) : ∀ t : Fin (cfg0 a).N, ((cfg0 a).win 8).flush t = true ↔ t.val % 37 = 36 :=
  (fun t => Pipeline.Window.flushOf_const cc0_transform_8 (fun _ _ => rfl) (n := 37) (by decide) rfl t : ∀ t : Fin grid0.N, Pipeline.Window.flushOf grid0 true cc0_transform_8 t = true ↔ t.val % 37 = 36)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_smoothquant_w8a8 (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.KernelIdeal.Gen

end
-- ==== Proof.KI.Runs.lean ====
/- What the runs of the kernel's body share: the launch, the windows, the buffers and the branch conditions. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KI.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v3, main_v4, main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      (Pipeline.RDat.FramePostR.arr_in h c 2 rfl).trans ((hA c 2).trans (V_main_arg2 m c)),
      ((h c).2 main_arg3 (by decide : main_arg3 ∈ Pipeline.restRefs sig spec0 \ T0)).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x3584 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x3584 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S3584x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3584 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S3584x512 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x512 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x3584 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S2x128 .f32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S3584x128 .f32 := Memref.whole cc0_scratch0
abbrev scM0_1 : Memref sig .tc .vmem S256x3584 .bf16 := Memref.whole cc0_scratch1
abbrev scM0_2 : Memref sig .tc .vmem S256x128 .f32 := Memref.whole cc0_scratch2
abbrev scM0_3 : Memref sig .tc .vmem S3584x512 .f32 := Memref.whole cc0_scratch3
abbrev scM0_4 : Memref sig .tc .vmem S3584x512 .bf16 := Memref.whole cc0_scratch4
/-- The scratch `arg11` the kernel carries between points, as a view: what it holds is stated through it. -/
abbrev VS0_0 : View sig .tc .vmem S3584x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.KI.RunA.lean ====
/- The run of the kernel's whole body at the grid's first point. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2380000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8) at anything, handed back at some contents nothing names. -/
noncomputable def kernelRun0_A (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : cond0_0 i)
    (x0 : Vec F S256x3584 .bf16) (x1 : Vec F S1x3584 .f32) (x2 : Vec F S3584x512 .bf16) (xt0 : TbBuf0 (F := F) c tbM0_0) :
    { LS0 : List (View.Piece (Elt F) S3584x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_smoothquant_w8a8 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_smoothquant_w8a8_eq_skeleton]; unfold cc0_smoothquant_w8a8_skel
    simp only [k0_part42_eq_skeleton, k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part43_eq_skeleton, k0_part44_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.KernelIdeal.Gen

end
-- ==== Proof.KI.RunB.lean ====
/- The run of the kernel's whole body at every later point of the grid. -/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 36: 36 of 37), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8) at anything, handed back at some contents nothing names. -/
noncomputable def kernelRun0_B (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : ¬cond0_0 i)
    (x0 : Vec F S256x3584 .bf16) (x1 : Vec F S1x3584 .f32) (x2 : Vec F S3584x512 .bf16) (xt0 : TbBuf0 (F := F) c tbM0_0) (xs0 : Vec F S3584x128 .f32) :
    { LS0 : List (View.Piece (Elt F) S3584x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_smoothquant_w8a8 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], fun E K => ?run⟩
  case run =>
    simp only [cc0_smoothquant_w8a8_eq_skeleton]; unfold cc0_smoothquant_w8a8_skel
    simp only [k0_part42_eq_skeleton, k0_part43_eq_skeleton, k0_part44_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, ⟨%ds3, %fs3, -, HS3⟩, ⟨%ds4, %fs4, -, HS4⟩, HT0, Hk⟩
    obtain rfl := harg2.eq_unread hf0; obtain rfl := harg3.eq_unread hf1; obtain rfl := harg4.eq_unread hf2; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg11.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.KernelIdeal.Gen

end
-- ==== Proof.KI.ForgetFrame.lean ====
/- The frame of the program: every execution ends, faults nowhere, and leaves the arguments as they were. -/
module

public import proofs.«01_k».proof.Proof.KI.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: 28 pieces of `S128x128` tiling it (Lib/Ring.lean `Piece.tiledL`). -/
theorem scover0_A_0 (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : cond0_0 i)
    (x0 : Vec F S256x3584 .bf16) (x1 : Vec F S1x3584 .f32) (x2 : Vec F S3584x512 .bf16) (xt0 : TbBuf0 (F := F) c tbM0_0) (y : S3584x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xt0).1 S128x128.size (by sl_kernel_rfl) y

/-- What case A leaves in scratch `arg11`: its pieces read back over junk. -/
def sout0_A_0 (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : cond0_0 i)
    (x0 : Vec F S256x3584 .bf16) (x1 : Vec F S1x3584 .f32) (x2 : Vec F S3584x512 .bf16) (xt0 : TbBuf0 (F := F) c tbM0_0) : Vec F S3584x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xt0).1)

/-- Case B stores nothing into scratch `arg11`: it holds what the point before left. -/
def sout0_B_0 (c : Dev nD) (i : grid0.Coords) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc0 : ¬cond0_0 i)
    (x0 : Vec F S256x3584 .bf16) (x1 : Vec F S1x3584 .f32) (x2 : Vec F S3584x512 .bf16) (xt0 : TbBuf0 (F := F) c tbM0_0) (xs0 : Vec F S3584x128 .f32) : Vec F S3584x128 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S3584x128 .f32
  | 0, hn => sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m hO c 0 ⟨0, hn⟩) (iblk m hO c 1 ⟨0, hn⟩) (iblk m hO c 2 ⟨0, hn⟩) (tbl m 0)
  | n + 1, hn =>
    if h0 : (n + 1) % 37 = 0 then
      sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m hO c 0 ⟨n + 1, hn⟩) (iblk m hO c 1 ⟨n + 1, hn⟩) (iblk m hO c 2 ⟨n + 1, hn⟩) (tbl m 0)
    else
      sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (tbl m 0) (outsAt0 hO c n (Nat.lt_of_succ_lt hn))

/-- `outsAt0` at a point of case A: that case's contents. -/
theorem outsAt0_A (hO : Ok m) (c : Dev nD) (t : Fin (cfgM m hO).N) (h0 : t.val % 37 = 0) :
    outsAt0 m hO c t.val t.isLt = sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) ((hcond0_0 t).mpr h0) (iblk m hO c 0 t) (iblk m hO c 1 t) (iblk m hO c 2 t) (tbl m 0) := by
  obtain ⟨n, hn⟩ := t
  cases n with
  | zero => exact rfl
  | succ n => exact (dif_pos h0).trans rfl

/-- `outsAt0` at a point of case B: that case's contents, over what the point before left. -/
theorem outsAt0_B (hO : Ok m) (c : Dev nD) (t : Fin (cfgM m hO).N) (h0 : ¬t.val % 37 = 0) :
    outsAt0 m hO c t.val t.isLt = sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m hO c 0 t) (iblk m hO c 1 t) (iblk m hO c 2 t) (tbl m 0) (outsAt0 m hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) ∗ Pipeline.ΦT pre0 (tbl m) c) := by
  cases n with
  | zero => exact absurd rfl hz
  | succ n => rfl

/-! ## The pipeline's proof data -/

/-- The output windows this certificate FORGETS (3, 4, 5, 6, 7, 8): nothing reads what the kernel leaves in them, so nothing
    of it is named (Lib/Pipeline/Dat.lean `Dat.toRForget`). -/
def forgets0 : Fin 9 → Bool := fun w => w.val == 3 || w.val == 4 || w.val == 5 || w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 37 := lt_of_lt_of_eq t.isLt (show (cfgM m hO).N = 37 from N_0)
  by_cases h0 : t.val % 37 = 0
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    by_cases hz : t.val = 0
    · rw [PhiS_castSucc m hO c t, PhiS_zero m hO c _ _ hz, PhiT0_eq, PhiA0_eq]
      rw [outsAt0_A m hO c t h0]
      unfold sout0_A_0
      iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (tbl m 0)).2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HT0]; · iexact HT0
      iintro ⟨H0, H1, H2, H3, H4, H5, H6, H7, H8, ⟨%es0, HS0⟩, HS1, HS2, HS3, HS4, HT0⟩
      isplitl [HS0 HS1 HS2 HS3 HS4 Hg HT0]
      · isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            isplitl [HS1]
            · iexact HS1
            isplitl [HS2]
            · iexact HS2
            isplitl [HS3]
            · iexact HS3
            iexact HS4
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · exfalso; have hN : t.val < 37 := lt_of_lt_of_eq t.isLt (show (cfgM m hO).N = 37 from N_0); omega
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    by_cases hz : t.val = 0
    · exfalso; have hN : t.val < 37 := lt_of_lt_of_eq t.isLt (show (cfgM m hO).N = 37 from N_0); omega
    · rw [PhiS_castSucc m hO c t, PhiS_pos m hO c _ _ hz, PhiT0_eq]
      rw [outsAt0_B m hO c t h0]
      unfold sout0_B_0
      iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ (fun h => h0 ((hcond0_0 t).mp h)) (iblk m hO c 0 t) (iblk m hO c 1 t) (iblk m hO c 2 t) (tbl m 0) _).2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HT0]; · iexact HT0
      iintro ⟨H0, H1, H2, H3, H4, H5, H6, H7, H8, HS0, HS1, HS2, HS3, HS4, HT0⟩
      isplitl [HS0 HS1 HS2 HS3 HS4 Hg HT0]
      · isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4⟩, Hg⟩, -⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 37 := N_0; omega)

/-! ## The run and the frame -/

-- `θ_run_frameP_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_track_forget (Q' := _) pcfgs (fun _ => adm m hO) (dats m hO) (0 : Fin 1) launch0 defs₀ Variants.none forgets0 T0 m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 3, 4, 5, 6, 7, 8) (Lib/Pipeline/Frame.lean `RDat.FramePostR` over the proof data with those windows
    forgotten, Dat.lean `Dat.toRForget`), and every other unscoped buffer outside `T0` at its region-entry contents. -/
theorem run_main (hO : Ok m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Gen

end
-- ==== Proof.KI.Model.lean ====
/- The quantities the kernel computes, as plain functions over the extended reals, and how buffers written in rectangles are read. -/
module

public import proofs.«01_k».proof.Proof.KI.Runs
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL.Sem

/-- The largest code, 127. -/
abbrev qHi : EReal := Ideal.ofBits FTy.f32 1123942400#32
/-- The smallest code, -127. -/
abbrev qLo : EReal := Ideal.ofBits FTy.f32 3271426048#32
/-- The magnitude of a value. -/
abbrev ab (x : EReal) : EReal := FloatOps.absf (F := Ideal) (φ := FTy.f32) x
/-- The quantization step of a group of values whose largest magnitude is `a`: `a / 127`, and `1` for a group of zeros. -/
def stepOf (a : EReal) : EReal := if a = 0 then 1 else Ideal.div a qHi
/-- A value rounded to the nearest integer (ties to even) and clipped to `[-127, 127]`. -/
def codeF (x : EReal) : EReal := min qHi (max qLo (Ideal.liftRound Ideal.roundHalfEven x))
/-- `codeF` as an 8-bit integer. -/
def codeI (x : EReal) : BitVec 8 := FloatOps.fptosi (F := Ideal) (φ := FTy.f32) 8 (codeF x)

theorem ab_nonneg (x : EReal) : 0 ≤ ab x := by
  show 0 ≤ max x (-x)
  rcases le_total 0 x with h | h
  · exact le_max_of_le_left h
  · exact le_max_of_le_right (by simpa using h)

theorem neg_inf_bits : Ideal.ofBits FTy.f32 4286578688#32 = ⊥ := by
  simp [Ideal.ofBits, Ideal.ieee]

/-- The weights scaled by their row's channel scale, the scales given as a column repeated over 128 lanes. -/
def wsT (x2 : Vec Ideal S3584x512 .bf16) (sc : Vec Ideal S3584x128 .f32) : Vec Ideal S3584x512 .f32 :=
  fun y => (x2 y : EReal) * (sc (ix2 (y 0) ⟨(y 1).val % 128, Nat.mod_lt _ (by decide)⟩) : EReal)

/-- A load of a rectangle at computed offsets reads, at `x`, what the buffer holds at the offsets plus `x`. -/
theorem readAt_unit_apply {sig : RefSig} {κ : Kind} {sp : Space} {s : Shape} {e : EltTy} {Val : EltTy → Type} (v : View sig κ sp s e) (f : v.ty.Contents Val)
    {off off' size : Fin s.rank → ℕ} (inb : ∀ a, off a + size a ≤ s.size a) (h : off = off')
    (x : (Rect.unit off size inb).shape.Idx) (y : s.Idx) (hy : ∀ a, (y a).val = off' a + (x a).val) :
    v.readAt Val (Rect.unit off size inb).toLoadRect f x = v.read Val f y := by
  subst h
  exact congrArg (v.read Val f) (funext fun a => Fin.ext (by
    show off a + 1 * (x a).val = (y a).val
    rw [hy a]; omega))

/-- Rows `32k … 32k+31` of a `[3584, 512]` buffer written in four groups of 128 columns: if the rows before held `G` and the
    four pieces hold `G`, the rows before `32(k+1)` hold `G`. -/
theorem four_groups {sig : RefSig} {κ : Kind} {sp : Space} {e : EltTy} (v : View sig κ sp S3584x512 e) (f : v.ty.Contents (Elt Ideal)) (k : ℕ)
    (hk : k < 112) {o0 o1 o2 o3 : Fin S3584x512.rank → ℕ}
    (i0 : ∀ a, o0 a + S32x128.size a ≤ S3584x512.size a) (i1 : ∀ a, o1 a + S32x128.size a ≤ S3584x512.size a)
    (i2 : ∀ a, o2 a + S32x128.size a ≤ S3584x512.size a) (i3 : ∀ a, o3 a + S32x128.size a ≤ S3584x512.size a)
    (w0 w1 w2 w3 : S32x128.Idx → Elt Ideal e)
    (h0 : o0 = ![32 * k, 0]) (h1 : o1 = ![32 * k, 128]) (h2 : o2 = ![32 * k, 256]) (h3 : o3 = ![32 * k, 384])
    (G : S3584x512.Idx → Elt Ideal e)
    (hold : ∀ y : S3584x512.Idx, (y 0).val < 32 * k → v.read (Elt Ideal) f y = G y)
    (g0 : ∀ (r : Fin 32) (l : Fin 128), w0 (ix2 r l) = G (ix2 ⟨32 * k + r.val, by omega⟩ ⟨0 + l.val, by omega⟩))
    (g1 : ∀ (r : Fin 32) (l : Fin 128), w1 (ix2 r l) = G (ix2 ⟨32 * k + r.val, by omega⟩ ⟨128 + l.val, by omega⟩))
    (g2 : ∀ (r : Fin 32) (l : Fin 128), w2 (ix2 r l) = G (ix2 ⟨32 * k + r.val, by omega⟩ ⟨256 + l.val, by omega⟩))
    (g3 : ∀ (r : Fin 32) (l : Fin 128), w3 (ix2 r l) = G (ix2 ⟨32 * k + r.val, by omega⟩ ⟨384 + l.val, by omega⟩))
    (y : S3584x512.Idx) (hy : (y 0).val < 32 * (k + 1)) :
    v.read (Elt Ideal) (v.writes (Elt Ideal) f [⟨Rect.unit o3 S32x128.size i3, w3⟩, ⟨Rect.unit o2 S32x128.size i2, w2⟩,
      ⟨Rect.unit o1 S32x128.size i1, w1⟩, ⟨Rect.unit o0 S32x128.size i0, w0⟩]) y = G y := by
  obtain ⟨a, b, rfl⟩ : ∃ (a : Fin 3584) (b : Fin 512), y = ix2 a b := ⟨y 0, y 1, by funext z; fin_cases z <;> rfl⟩
  have hy' : a.val < 32 * (k + 1) := hy
  by_cases hlt : a.val < 32 * k
  · rw [View.read_writes_cons_unit_of_not_mem v f i3 w3 _ (ix2 a b) h3 0 (Or.inl hlt),
      View.read_writes_cons_unit_of_not_mem v f i2 w2 _ (ix2 a b) h2 0 (Or.inl hlt),
      View.read_writes_cons_unit_of_not_mem v f i1 w1 _ (ix2 a b) h1 0 (Or.inl hlt),
      View.read_writes_cons_unit_of_not_mem v f i0 w0 _ (ix2 a b) h0 0 (Or.inl hlt)]
    exact hold _ hlt
  · have hb := b.isLt
    by_cases c3 : 384 ≤ b.val
    · rw [View.read_writes_cons_unit_of_mem v f i3 w3 _ (ix2 a b) (ix2 (⟨a.val - 32 * k, by omega⟩ : Fin 32) (⟨b.val - 384, by omega⟩ : Fin 128)) h3
        (Fin.forall_fin_two.mpr ⟨by show a.val = 32 * k + (a.val - 32 * k); omega, by show b.val = 384 + (b.val - 384); omega⟩)]
      refine (g3 _ _).trans (congrArg G (congrArg₂ ix2 (Fin.ext ?_) (Fin.ext ?_))) <;> dsimp only <;> omega
    rw [View.read_writes_cons_unit_of_not_mem v f i3 w3 _ (ix2 a b) h3 1 (Or.inl (by show b.val < 384; omega))]
    by_cases c2 : 256 ≤ b.val
    · rw [View.read_writes_cons_unit_of_mem v f i2 w2 _ (ix2 a b) (ix2 (⟨a.val - 32 * k, by omega⟩ : Fin 32) (⟨b.val - 256, by omega⟩ : Fin 128)) h2
        (Fin.forall_fin_two.mpr ⟨by show a.val = 32 * k + (a.val - 32 * k); omega, by show b.val = 256 + (b.val - 256); omega⟩)]
      refine (g2 _ _).trans (congrArg G (congrArg₂ ix2 (Fin.ext ?_) (Fin.ext ?_))) <;> dsimp only <;> omega
    rw [View.read_writes_cons_unit_of_not_mem v f i2 w2 _ (ix2 a b) h2 1 (Or.inl (by show b.val < 256; omega))]
    by_cases c1 : 128 ≤ b.val
    · rw [View.read_writes_cons_unit_of_mem v f i1 w1 _ (ix2 a b) (ix2 (⟨a.val - 32 * k, by omega⟩ : Fin 32) (⟨b.val - 128, by omega⟩ : Fin 128)) h1
        (Fin.forall_fin_two.mpr ⟨by show a.val = 32 * k + (a.val - 32 * k); omega, by show b.val = 128 + (b.val - 128); omega⟩)]
      refine (g1 _ _).trans (congrArg G (congrArg₂ ix2 (Fin.ext ?_) (Fin.ext ?_))) <;> dsimp only <;> omega
    rw [View.read_writes_cons_unit_of_not_mem v f i1 w1 _ (ix2 a b) h1 1 (Or.inl (by show b.val < 128; omega))]
    rw [View.read_writes_cons_unit_of_mem v f i0 w0 _ (ix2 a b) (ix2 (⟨a.val - 32 * k, by omega⟩ : Fin 32) (⟨b.val, by omega⟩ : Fin 128)) h0
        (Fin.forall_fin_two.mpr ⟨by show a.val = 32 * k + (a.val - 32 * k); omega, by show b.val = 0 + b.val; omega⟩)]
    refine (g0 _ _).trans (congrArg G (congrArg₂ ix2 (Fin.ext ?_) (Fin.ext ?_))) <;> dsimp only <;> omega

/-- What a running maximum of magnitudes over rows `< 32k` of column group `c` (first column `c`) holds: at `(r, l)` the
    largest magnitude of column `c + l` over the rows that are `r` modulo 8, and zero. Stated by its upper bounds. -/
def AccOk (ws : Vec Ideal S3584x512 .f32) (c : ℕ) (hc : c ≤ 384) (k : ℕ) (a : Vec Ideal S8x128 .f32) : Prop :=
  ∀ (r : Fin 8) (l : Fin 128) (z : EReal), (a (ix2 r l) : EReal) ≤ z ↔
    0 ≤ z ∧ ∀ x : Fin 3584, x.val < 32 * k → x.val % 8 = r.val → ab (ws (ix2 x ⟨c + l.val, by omega⟩)) ≤ z

/-- One trip's four blocks of eight rows advance the running maximum. -/
theorem AccOk.step {ws : Vec Ideal S3584x512 .f32} {c : ℕ} {hc : c ≤ 384} {k : ℕ} (hk : k < 112) {a a' : Vec Ideal S8x128 .f32} (h : AccOk ws c hc k a)
    (h' : ∀ (r : Fin 8) (l : Fin 128), (a' (ix2 r l) : EReal) = max (max (max (max (a (ix2 r l) : EReal)
      (ab (ws (ix2 ⟨32 * k + r.val, by omega⟩ ⟨c + l.val, by omega⟩)))) (ab (ws (ix2 ⟨32 * k + (8 + r.val), by omega⟩ ⟨c + l.val, by omega⟩))))
      (ab (ws (ix2 ⟨32 * k + (16 + r.val), by omega⟩ ⟨c + l.val, by omega⟩)))) (ab (ws (ix2 ⟨32 * k + (24 + r.val), by omega⟩ ⟨c + l.val, by omega⟩)))) :
    AccOk ws c hc (k + 1) a' := by
  intro r l z
  rw [h' r l, max_le_iff, max_le_iff, max_le_iff, max_le_iff, h r l z]
  have hr := r.isLt
  constructor
  · rintro ⟨⟨⟨⟨⟨h0, h1⟩, q0⟩, q1⟩, q2⟩, q3⟩
    refine ⟨h0, fun x hx hm => ?_⟩
    by_cases hlt : x.val < 32 * k
    · exact h1 x hlt hm
    have : x.val = 32 * k + r.val ∨ x.val = 32 * k + (8 + r.val) ∨ x.val = 32 * k + (16 + r.val) ∨ x.val = 32 * k + (24 + r.val) := by omega
    rcases this with e | e | e | e
    · rw [show x = ⟨32 * k + r.val, by omega⟩ from Fin.ext e]; exact q0
    · rw [show x = ⟨32 * k + (8 + r.val), by omega⟩ from Fin.ext e]; exact q1
    · rw [show x = ⟨32 * k + (16 + r.val), by omega⟩ from Fin.ext e]; exact q2
    · rw [show x = ⟨32 * k + (24 + r.val), by omega⟩ from Fin.ext e]; exact q3
  · rintro ⟨h0, h1⟩
    refine ⟨⟨⟨⟨⟨h0, fun x hx hm => h1 x (by omega) hm⟩, h1 _ ?_ ?_⟩, h1 _ ?_ ?_⟩, h1 _ ?_ ?_⟩, h1 _ ?_ ?_⟩ <;> dsimp only <;> omega

/-- Before any row the running maximum is zero. -/
theorem AccOk.zero {ws : Vec Ideal S3584x512 .f32} {c : ℕ} {hc : c ≤ 384} {a : Vec Ideal S8x128 .f32}
    (h : ∀ (r : Fin 8) (l : Fin 128), (a (ix2 r l) : EReal) = 0) : AccOk ws c hc 0 a := by
  intro r l z
  rw [h r l]
  exact ⟨fun h => ⟨h, fun x hx => by omega⟩, fun h => h.1⟩

/-- The largest magnitude in column `n` of the scaled weights. -/
def colAb (ws : Vec Ideal S3584x512 .f32) (n : Fin 512) : EReal := ⨆ x : Fin 3584, ab (ws (ix2 x n))

/-- The running maximum after all rows, taken over its eight rows, is the column's largest magnitude. -/
theorem AccOk.fold {ws : Vec Ideal S3584x512 .f32} {c : ℕ} {hc : c ≤ 384} {a : Vec Ideal S8x128 .f32} (h : AccOk ws c hc 112 a) (l : Fin 128) :
    Finset.fold max (Ideal.ofBits FTy.f32 4286578688#32) (fun x : Fin 8 => (a (ix2 x l) : EReal)) Finset.univ
      = colAb ws ⟨c + l.val, by omega⟩ := by
  refine eq_of_forall_ge_iff fun z => ?_
  rw [Finset.fold_max_le, neg_inf_bits, colAb, iSup_le_iff]
  constructor
  · rintro ⟨-, h1⟩ x
    exact ((h ⟨x.val % 8, Nat.mod_lt _ (by decide)⟩ l z).1 (h1 _ (Finset.mem_univ _))).2 x (by omega) rfl
  · intro h1
    exact ⟨bot_le, fun r _ => (h r l z).2 ⟨(ab_nonneg _).trans (h1 0), fun x _ _ => h1 x⟩⟩

end Cert.KernelIdeal.Gen

end
-- ==== Proof.KI.HeadPays.lean ====
/- The values the kernel computes at the grid's first point: channel scales, activation codes and their steps, read at one index. -/
module

public import proofs.«01_k».proof.Proof.KI.Model
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic

/-- The lower bound every magnitude is held to, `1e-5`. -/
abbrev qEps : EReal := Ideal.ofBits FTy.f32 925353388#32
/-- A channel's scale: the square root of the channel's largest magnitude among the valid rows over that of the weights' largest magnitude. -/
def colS (m : Fin 256 → BitVec 1) (xc : Fin 256 → EReal) (wm : EReal) : EReal :=
  Ideal.div (Ideal.sqrt (max (Finset.fold max (Ideal.ofBits FTy.f32 4286578688#32) (fun r => Scalar.select (m r) (ab (xc r)) 0) Finset.univ) qEps))
    (Ideal.sqrt (max wm qEps))
/-- A value divided by its channel's scale, as a magnitude. -/
abbrev scAb (x s : EReal) : EReal := ab (Ideal.div x s)

theorem s6_0 (l0 : Elt Ideal .i32) (l1 : Elt Ideal .i32) (X0 : Vec Ideal S256x128 .bf16) (W0 : Vec Ideal S1x128 .f32) (l : Fin 128) : (k0_pay3 (F := Ideal) l0 l1 X0 W0) (ix2 0 l) = colS (fun r => (k0_pay1 (F := Ideal) l0 l1 (ix2 r 0))) (fun r => X0 (ix2 r l)) (W0 (ix2 0 l)) := by
  pointwise [k0_pay2, k0_pay3]
  rfl

theorem s11_0 (l0 : Elt Ideal .i32) (l1 : Elt Ideal .i32) (X0 : Vec Ideal S256x128 .bf16) (W0 : Vec Ideal S1x128 .f32) (k l : Fin 128) : (k0_pay4 (F := Ideal) l0 l1 X0 W0) (ix2 k l) = colS (fun r => (k0_pay1 (F := Ideal) l0 l1 (ix2 r 0))) (fun r => X0 (ix2 r k)) (W0 (ix2 0 k)) := by
  pointwise [k0_pay2, k0_pay3, k0_pay4]
  rfl

theorem s6_1 (m : IVec S256x1 1) (X1 : Vec Ideal S256x128 .bf16) (W1 : Vec Ideal S1x128 .f32) (l : Fin 128) : (k0_pay8 (F := Ideal) m (k0_pay6 (F := Ideal) X1) W1) (ix2 0 l) = colS (fun r => m (ix2 r 0)) (fun r => X1 (ix2 r l)) (W1 (ix2 0 l)) := by
  pointwise [k0_pay6, k0_pay7, k0_pay8]
  rfl

theorem s11_1 (m : IVec S256x1 1) (X1 : Vec Ideal S256x128 .bf16) (W1 : Vec Ideal S1x128 .f32) (k l : Fin 128) : (k0_pay9 (F := Ideal) m (k0_pay6 (F := Ideal) X1) W1) (ix2 k l) = colS (fun r => m (ix2 r 0)) (fun r => X1 (ix2 r k)) (W1 (ix2 0 k)) := by
  pointwise [k0_pay6, k0_pay7, k0_pay8, k0_pay9]
  rfl

theorem s6_2 (m : IVec S256x1 1) (X2 : Vec Ideal S256x128 .bf16) (W2 : Vec Ideal S1x128 .f32) (l : Fin 128) : (k0_pay13 (F := Ideal) (k0_pay12 (F := Ideal) m X2) W2) (ix2 0 l) = colS (fun r => m (ix2 r 0)) (fun r => X2 (ix2 r l)) (W2 (ix2 0 l)) := by
  pointwise [k0_pay11, k0_pay12, k0_pay13]
  rfl

theorem s11_2 (m : IVec S256x1 1) (X2 : Vec Ideal S256x128 .bf16) (W2 : Vec Ideal S1x128 .f32) (k l : Fin 128) : (k0_pay14 (F := Ideal) (k0_pay12 (F := Ideal) m X2) W2) (ix2 k l) = colS (fun r => m (ix2 r 0)) (fun r => X2 (ix2 r k)) (W2 (ix2 0 k)) := by
  pointwise [k0_pay11, k0_pay12, k0_pay13, k0_pay14]
  rfl

theorem s6_3 (m : IVec S256x1 1) (X3 : Vec Ideal S256x128 .bf16) (W3 : Vec Ideal S1x128 .f32) (l : Fin 128) : (k0_pay17 (F := Ideal) m X3 W3) (ix2 0 l) = colS (fun r => m (ix2 r 0)) (fun r => X3 (ix2 r l)) (W3 (ix2 0 l)) := by
  pointwise [k0_pay16, k0_pay17]
  rfl

theorem s11_3 (m : IVec S256x1 1) (X3 : Vec Ideal S256x128 .bf16) (W3 : Vec Ideal S1x128 .f32) (k l : Fin 128) : (k0_pay19 (F := Ideal) (k0_pay18 (F := Ideal) m X3 W3)) (ix2 k l) = colS (fun r => m (ix2 r 0)) (fun r => X3 (ix2 r k)) (W3 (ix2 0 k)) := by
  pointwise [k0_pay16, k0_pay17, k0_pay18, k0_pay19]
  rfl

theorem s6_4 (m : IVec S256x1 1) (X4 : Vec Ideal S256x128 .bf16) (W4 : Vec Ideal S1x128 .f32) (l : Fin 128) : (k0_pay21 (F := Ideal) m X4 W4) (ix2 0 l) = colS (fun r => m (ix2 r 0)) (fun r => X4 (ix2 r l)) (W4 (ix2 0 l)) := by
  pointwise [k0_pay20, k0_pay21]
  rfl

theorem s11_4 (m : IVec S256x1 1) (X4 : Vec Ideal S256x128 .bf16) (W4 : Vec Ideal S1x128 .f32) (k l : Fin 128) : (k0_pay22 (F := Ideal) m X4 W4) (ix2 k l) = colS (fun r => m (ix2 r 0)) (fun r => X4 (ix2 r k)) (W4 (ix2 0 k)) := by
  pointwise [k0_pay20, k0_pay21, k0_pay22]
  rfl

theorem s6_5 (m : IVec S256x1 1) (X5 : Vec Ideal S256x128 .bf16) (W5 : Vec Ideal S1x128 .f32) (l : Fin 128) : (k0_pay27 (F := Ideal) (k0_pay25 (F := Ideal) X5) (Scalar.ofBits (F := Ideal) .f32 0x00000000#32) (k0_pay26 m) W5) (ix2 0 l) = colS (fun r => m (ix2 r 0)) (fun r => X5 (ix2 r l)) (W5 (ix2 0 l)) := by
  pointwise [k0_pay24, k0_pay25, k0_pay26, k0_pay27]
  rfl

theorem s11_5 (m : IVec S256x1 1) (X5 : Vec Ideal S256x128 .bf16) (W5 : Vec Ideal S1x128 .f32) (k l : Fin 128) : (k0_pay28 (F := Ideal) (k0_pay25 (F := Ideal) X5) (Scalar.ofBits (F := Ideal) .f32 0x00000000#32) (k0_pay26 m) W5) (ix2 k l) = colS (fun r => m (ix2 r 0)) (fun r => X5 (ix2 r k)) (W5 (ix2 0 k)) := by
  pointwise [k0_pay24, k0_pay25, k0_pay26, k0_pay27, k0_pay28]
  rfl

theorem s6_6 (m : IVec S256x1 1) (X6 : Vec Ideal S256x128 .bf16) (W6 : Vec Ideal S1x128 .f32) (l : Fin 128) : (k0_pay34 (F := Ideal) (k0_pay31 (F := Ideal) m X6) (k0_pay32 (F := Ideal) W6) (k0_pay33 (F := Ideal) )) (ix2 0 l) = colS (fun r => m (ix2 r 0)) (fun r => X6 (ix2 r l)) (W6 (ix2 0 l)) := by
  pointwise [k0_pay30, k0_pay31, k0_pay32, k0_pay33, k0_pay34]
  rfl

theorem s11_6 (m : IVec S256x1 1) (X6 : Vec Ideal S256x128 .bf16) (W6 : Vec Ideal S1x128 .f32) (k l : Fin 128) : (k0_pay35 (F := Ideal) (k0_pay31 (F := Ideal) m X6) (k0_pay32 (F := Ideal) W6) (k0_pay33 (F := Ideal) )) (ix2 k l) = colS (fun r => m (ix2 r 0)) (fun r => X6 (ix2 r k)) (W6 (ix2 0 k)) := by
  pointwise [k0_pay30, k0_pay31, k0_pay32, k0_pay33, k0_pay34, k0_pay35]
  rfl

theorem s6_7 (m : IVec S256x1 1) (X7 : Vec Ideal S256x128 .bf16) (W7 : Vec Ideal S1x128 .f32) (l : Fin 128) : (k0_pay38 (F := Ideal) m X7 W7) (ix2 0 l) = colS (fun r => m (ix2 r 0)) (fun r => X7 (ix2 r l)) (W7 (ix2 0 l)) := by
  pointwise [k0_pay37, k0_pay38]
  rfl

theorem s11_7 (m : IVec S256x1 1) (X7 : Vec Ideal S256x128 .bf16) (W7 : Vec Ideal S1x128 .f32) (k l : Fin 128) : (k0_pay39 (F := Ideal) m X7 W7) (ix2 k l) = colS (fun r => m (ix2 r 0)) (fun r => X7 (ix2 r k)) (W7 (ix2 0 k)) := by
  pointwise [k0_pay37, k0_pay38, k0_pay39]
  rfl

theorem s6_8 (m : IVec S256x1 1) (X8 : Vec Ideal S256x128 .bf16) (W8 : Vec Ideal S1x128 .f32) (l : Fin 128) : (k0_pay41 (F := Ideal) m X8 W8) (ix2 0 l) = colS (fun r => m (ix2 r 0)) (fun r => X8 (ix2 r l)) (W8 (ix2 0 l)) := by
  pointwise [k0_pay40, k0_pay41]
  rfl

theorem s11_8 (m : IVec S256x1 1) (X8 : Vec Ideal S256x128 .bf16) (W8 : Vec Ideal S1x128 .f32) (k l : Fin 128) : (k0_pay42 (F := Ideal) m X8 W8) (ix2 k l) = colS (fun r => m (ix2 r 0)) (fun r => X8 (ix2 r k)) (W8 (ix2 0 k)) := by
  pointwise [k0_pay40, k0_pay41, k0_pay42]
  rfl

theorem s6_9 (m : IVec S256x1 1) (X9 : Vec Ideal S256x128 .bf16) (W9 : Vec Ideal S1x128 .f32) (l : Fin 128) : (k0_pay46 (F := Ideal) (k0_pay45 (F := Ideal) m X9) W9) (ix2 0 l) = colS (fun r => m (ix2 r 0)) (fun r => X9 (ix2 r l)) (W9 (ix2 0 l)) := by
  pointwise [k0_pay44, k0_pay45, k0_pay46]
  rfl

theorem s11_9 (m : IVec S256x1 1) (X9 : Vec Ideal S256x128 .bf16) (W9 : Vec Ideal S1x128 .f32) (k l : Fin 128) : (k0_pay47 (F := Ideal) (k0_pay45 (F := Ideal) m X9) W9) (ix2 k l) = colS (fun r => m (ix2 r 0)) (fun r => X9 (ix2 r k)) (W9 (ix2 0 k)) := by
  pointwise [k0_pay44, k0_pay45, k0_pay46, k0_pay47]
  rfl

theorem s6_10 (m : IVec S256x1 1) (X10 : Vec Ideal S256x128 .bf16) (W10 : Vec Ideal S1x128 .f32) (l : Fin 128) : (k0_pay50 (F := Ideal) m X10 W10) (ix2 0 l) = colS (fun r => m (ix2 r 0)) (fun r => X10 (ix2 r l)) (W10 (ix2 0 l)) := by
  pointwise [k0_pay49, k0_pay50]
  rfl

theorem s11_10 (m : IVec S256x1 1) (X10 : Vec Ideal S256x128 .bf16) (W10 : Vec Ideal S1x128 .f32) (k l : Fin 128) : (k0_pay51 (F := Ideal) (k0_pay50 (F := Ideal) m X10 W10)) (ix2 k l) = colS (fun r => m (ix2 r 0)) (fun r => X10 (ix2 r k)) (W10 (ix2 0 k)) := by
  pointwise [k0_pay49, k0_pay50, k0_pay51]
  rfl

theorem s6_11 (m : IVec S256x1 1) (X11 : Vec Ideal S256x128 .bf16) (W11 : Vec Ideal S1x128 .f32) (l : Fin 128) : (k0_pay53 (F := Ideal) m X11 W11) (ix2 0 l) = colS (fun r => m (ix2 r 0)) (fun r => X11 (ix2 r l)) (W11 (ix2 0 l)) := by
  pointwise [k0_pay52, k0_pay53]
  rfl

theorem s11_11 (m : IVec S256x1 1) (X11 : Vec Ideal S256x128 .bf16) (W11 : Vec Ideal S1x128 .f32) (k l : Fin 128) : (k0_pay54 (F := Ideal) m X11 W11) (ix2 k l) = colS (fun r => m (ix2 r 0)) (fun r => X11 (ix2 r k)) (W11 (ix2 0 k)) := by
  pointwise [k0_pay52, k0_pay53, k0_pay54]
  rfl

theorem s6_12 (m : IVec S256x1 1) (X12 : Vec Ideal S256x128 .bf16) (W12 : Vec Ideal S1x128 .f32) (l : Fin 128) : (k0_pay57 (F := Ideal) m X12 W12) (ix2 0 l) = colS (fun r => m (ix2 r 0)) (fun r => X12 (ix2 r l)) (W12 (ix2 0 l)) := by
  pointwise [k0_pay56, k0_pay57]
  rfl

theorem s11_12 (m : IVec S256x1 1) (X12 : Vec Ideal S256x128 .bf16) (W12 : Vec Ideal S1x128 .f32) (k l : Fin 128) : (k0_pay58 (F := Ideal) m X12 W12) (ix2 k l) = colS (fun r => m (ix2 r 0)) (fun r => X12 (ix2 r k)) (W12 (ix2 0 k)) := by
  pointwise [k0_pay56, k0_pay57, k0_pay58]
  rfl

theorem s6_13 (m : IVec S256x1 1) (X13 : Vec Ideal S256x128 .bf16) (W13 : Vec Ideal S1x128 .f32) (l : Fin 128) : (k0_pay63 (F := Ideal) (k0_pay61 (F := Ideal) m X13) (k0_pay62 (F := Ideal) ) W13) (ix2 0 l) = colS (fun r => m (ix2 r 0)) (fun r => X13 (ix2 r l)) (W13 (ix2 0 l)) := by
  pointwise [k0_pay60, k0_pay61, k0_pay62, k0_pay63]
  rfl

theorem s11_13 (m : IVec S256x1 1) (X13 : Vec Ideal S256x128 .bf16) (W13 : Vec Ideal S1x128 .f32) (k l : Fin 128) : (k0_pay64 (F := Ideal) (k0_pay61 (F := Ideal) m X13) (k0_pay62 (F := Ideal) ) W13) (ix2 k l) = colS (fun r => m (ix2 r 0)) (fun r => X13 (ix2 r k)) (W13 (ix2 0 k)) := by
  pointwise [k0_pay60, k0_pay61, k0_pay62, k0_pay63, k0_pay64]
  rfl

theorem s6_14 (m : IVec S256x1 1) (X14 : Vec Ideal S256x128 .bf16) (W14 : Vec Ideal S1x128 .f32) (l : Fin 128) : (k0_pay67 (F := Ideal) m X14 W14) (ix2 0 l) = colS (fun r => m (ix2 r 0)) (fun r => X14 (ix2 r l)) (W14 (ix2 0 l)) := by
  pointwise [k0_pay66, k0_pay67]
  rfl

theorem s11_14 (m : IVec S256x1 1) (X14 : Vec Ideal S256x128 .bf16) (W14 : Vec Ideal S1x128 .f32) (k l : Fin 128) : (k0_pay69 (F := Ideal) (k0_pay68 (F := Ideal) m X14 W14)) (ix2 k l) = colS (fun r => m (ix2 r 0)) (fun r => X14 (ix2 r k)) (W14 (ix2 0 k)) := by
  pointwise [k0_pay66, k0_pay67, k0_pay68, k0_pay69]
  rfl

theorem s6_15 (m : IVec S256x1 1) (X15 : Vec Ideal S256x128 .bf16) (W15 : Vec Ideal S1x128 .f32) (l : Fin 128) : (k0_pay71 (F := Ideal) m X15 W15) (ix2 0 l) = colS (fun r => m (ix2 r 0)) (fun r => X15 (ix2 r l)) (W15 (ix2 0 l)) := by
  pointwise [k0_pay70, k0_pay71]
  rfl

theorem s11_15 (m : IVec S256x1 1) (X15 : Vec Ideal S256x128 .bf16) (W15 : Vec Ideal S1x128 .f32) (k l : Fin 128) : (k0_pay72 (F := Ideal) m X15 W15) (ix2 k l) = colS (fun r => m (ix2 r 0)) (fun r => X15 (ix2 r k)) (W15 (ix2 0 k)) := by
  pointwise [k0_pay70, k0_pay71, k0_pay72]
  rfl

theorem s6_16 (m : IVec S256x1 1) (X16 : Vec Ideal S256x128 .bf16) (W16 : Vec Ideal S1x128 .f32) (l : Fin 128) : (k0_pay76 (F := Ideal) m (k0_pay74 (F := Ideal) X16) W16) (ix2 0 l) = colS (fun r => m (ix2 r 0)) (fun r => X16 (ix2 r l)) (W16 (ix2 0 l)) := by
  pointwise [k0_pay74, k0_pay75, k0_pay76]
  rfl

theorem s11_16 (m : IVec S256x1 1) (X16 : Vec Ideal S256x128 .bf16) (W16 : Vec Ideal S1x128 .f32) (k l : Fin 128) : (k0_pay77 (F := Ideal) m (k0_pay74 (F := Ideal) X16) W16) (ix2 k l) = colS (fun r => m (ix2 r 0)) (fun r => X16 (ix2 r k)) (W16 (ix2 0 k)) := by
  pointwise [k0_pay74, k0_pay75, k0_pay76, k0_pay77]
  rfl

theorem s6_17 (m : IVec S256x1 1) (X17 : Vec Ideal S256x128 .bf16) (W17 : Vec Ideal S1x128 .f32) (l : Fin 128) : (k0_pay81 (F := Ideal) (k0_pay80 (F := Ideal) m X17) W17) (ix2 0 l) = colS (fun r => m (ix2 r 0)) (fun r => X17 (ix2 r l)) (W17 (ix2 0 l)) := by
  pointwise [k0_pay79, k0_pay80, k0_pay81]
  rfl

theorem s11_17 (m : IVec S256x1 1) (X17 : Vec Ideal S256x128 .bf16) (W17 : Vec Ideal S1x128 .f32) (k l : Fin 128) : (k0_pay82 (F := Ideal) (k0_pay80 (F := Ideal) m X17) W17) (ix2 k l) = colS (fun r => m (ix2 r 0)) (fun r => X17 (ix2 r k)) (W17 (ix2 0 k)) := by
  pointwise [k0_pay79, k0_pay80, k0_pay81, k0_pay82]
  rfl

theorem s6_18 (m : IVec S256x1 1) (X18 : Vec Ideal S256x128 .bf16) (W18 : Vec Ideal S1x128 .f32) (l : Fin 128) : (k0_pay85 (F := Ideal) m X18 W18) (ix2 0 l) = colS (fun r => m (ix2 r 0)) (fun r => X18 (ix2 r l)) (W18 (ix2 0 l)) := by
  pointwise [k0_pay84, k0_pay85]
  rfl

theorem s11_18 (m : IVec S256x1 1) (X18 : Vec Ideal S256x128 .bf16) (W18 : Vec Ideal S1x128 .f32) (k l : Fin 128) : (k0_pay87 (F := Ideal) (k0_pay86 (F := Ideal) m X18 W18)) (ix2 k l) = colS (fun r => m (ix2 r 0)) (fun r => X18 (ix2 r k)) (W18 (ix2 0 k)) := by
  pointwise [k0_pay84, k0_pay85, k0_pay86, k0_pay87]
  rfl

theorem s6_19 (m : IVec S256x1 1) (X19 : Vec Ideal S256x128 .bf16) (W19 : Vec Ideal S1x128 .f32) (l : Fin 128) : (k0_pay89 (F := Ideal) m X19 W19) (ix2 0 l) = colS (fun r => m (ix2 r 0)) (fun r => X19 (ix2 r l)) (W19 (ix2 0 l)) := by
  pointwise [k0_pay88, k0_pay89]
  rfl

theorem s11_19 (m : IVec S256x1 1) (X19 : Vec Ideal S256x128 .bf16) (W19 : Vec Ideal S1x128 .f32) (k l : Fin 128) : (k0_pay90 (F := Ideal) m X19 W19) (ix2 k l) = colS (fun r => m (ix2 r 0)) (fun r => X19 (ix2 r k)) (W19 (ix2 0 k)) := by
  pointwise [k0_pay88, k0_pay89, k0_pay90]
  rfl

theorem s6_20 (m : IVec S256x1 1) (X20 : Vec Ideal S256x128 .bf16) (W20 : Vec Ideal S1x128 .f32) (l : Fin 128) : (k0_pay95 (F := Ideal) (k0_pay93 (F := Ideal) X20) (Scalar.ofBits (F := Ideal) .f32 0x00000000#32) (k0_pay94 m) W20) (ix2 0 l) = colS (fun r => m (ix2 r 0)) (fun r => X20 (ix2 r l)) (W20 (ix2 0 l)) := by
  pointwise [k0_pay92, k0_pay93, k0_pay94, k0_pay95]
  rfl

theorem s11_20 (m : IVec S256x1 1) (X20 : Vec Ideal S256x128 .bf16) (W20 : Vec Ideal S1x128 .f32) (k l : Fin 128) : (k0_pay96 (F := Ideal) (k0_pay93 (F := Ideal) X20) (Scalar.ofBits (F := Ideal) .f32 0x00000000#32) (k0_pay94 m) W20) (ix2 k l) = colS (fun r => m (ix2 r 0)) (fun r => X20 (ix2 r k)) (W20 (ix2 0 k)) := by
  pointwise [k0_pay92, k0_pay93, k0_pay94, k0_pay95, k0_pay96]
  rfl

theorem s6_21 (m : IVec S256x1 1) (X21 : Vec Ideal S256x128 .bf16) (W21 : Vec Ideal S1x128 .f32) (l : Fin 128) : (k0_pay102 (F := Ideal) (k0_pay99 (F := Ideal) m X21) (k0_pay100 (F := Ideal) W21) (k0_pay101 (F := Ideal) )) (ix2 0 l) = colS (fun r => m (ix2 r 0)) (fun r => X21 (ix2 r l)) (W21 (ix2 0 l)) := by
  pointwise [k0_pay98, k0_pay99, k0_pay100, k0_pay101, k0_pay102]
  rfl

theorem s11_21 (m : IVec S256x1 1) (X21 : Vec Ideal S256x128 .bf16) (W21 : Vec Ideal S1x128 .f32) (k l : Fin 128) : (k0_pay103 (F := Ideal) (k0_pay99 (F := Ideal) m X21) (k0_pay100 (F := Ideal) W21) (k0_pay101 (F := Ideal) )) (ix2 k l) = colS (fun r => m (ix2 r 0)) (fun r => X21 (ix2 r k)) (W21 (ix2 0 k)) := by
  pointwise [k0_pay98, k0_pay99, k0_pay100, k0_pay101, k0_pay102, k0_pay103]
  rfl

theorem s6_22 (m : IVec S256x1 1) (X22 : Vec Ideal S256x128 .bf16) (W22 : Vec Ideal S1x128 .f32) (l : Fin 128) : (k0_pay106 (F := Ideal) m X22 W22) (ix2 0 l) = colS (fun r => m (ix2 r 0)) (fun r => X22 (ix2 r l)) (W22 (ix2 0 l)) := by
  pointwise [k0_pay105, k0_pay106]
  rfl

theorem s11_22 (m : IVec S256x1 1) (X22 : Vec Ideal S256x128 .bf16) (W22 : Vec Ideal S1x128 .f32) (k l : Fin 128) : (k0_pay107 (F := Ideal) m X22 W22) (ix2 k l) = colS (fun r => m (ix2 r 0)) (fun r => X22 (ix2 r k)) (W22 (ix2 0 k)) := by
  pointwise [k0_pay105, k0_pay106, k0_pay107]
  rfl

theorem s6_23 (m : IVec S256x1 1) (X23 : Vec Ideal S256x128 .bf16) (W23 : Vec Ideal S1x128 .f32) (l : Fin 128) : (k0_pay109 (F := Ideal) m X23 W23) (ix2 0 l) = colS (fun r => m (ix2 r 0)) (fun r => X23 (ix2 r l)) (W23 (ix2 0 l)) := by
  pointwise [k0_pay108, k0_pay109]
  rfl

theorem s11_23 (m : IVec S256x1 1) (X23 : Vec Ideal S256x128 .bf16) (W23 : Vec Ideal S1x128 .f32) (k l : Fin 128) : (k0_pay110 (F := Ideal) m X23 W23) (ix2 k l) = colS (fun r => m (ix2 r 0)) (fun r => X23 (ix2 r k)) (W23 (ix2 0 k)) := by
  pointwise [k0_pay108, k0_pay109, k0_pay110]
  rfl

theorem s6_24 (m : IVec S256x1 1) (X24 : Vec Ideal S256x128 .bf16) (W24 : Vec Ideal S1x128 .f32) (l : Fin 128) : (k0_pay114 (F := Ideal) (k0_pay113 (F := Ideal) m X24) W24) (ix2 0 l) = colS (fun r => m (ix2 r 0)) (fun r => X24 (ix2 r l)) (W24 (ix2 0 l)) := by
  pointwise [k0_pay112, k0_pay113, k0_pay114]
  rfl

theorem s11_24 (m : IVec S256x1 1) (X24 : Vec Ideal S256x128 .bf16) (W24 : Vec Ideal S1x128 .f32) (k l : Fin 128) : (k0_pay115 (F := Ideal) (k0_pay113 (F := Ideal) m X24) W24) (ix2 k l) = colS (fun r => m (ix2 r 0)) (fun r => X24 (ix2 r k)) (W24 (ix2 0 k)) := by
  pointwise [k0_pay112, k0_pay113, k0_pay114, k0_pay115]
  rfl

theorem s6_25 (m : IVec S256x1 1) (X25 : Vec Ideal S256x128 .bf16) (W25 : Vec Ideal S1x128 .f32) (l : Fin 128) : (k0_pay118 (F := Ideal) m X25 W25) (ix2 0 l) = colS (fun r => m (ix2 r 0)) (fun r => X25 (ix2 r l)) (W25 (ix2 0 l)) := by
  pointwise [k0_pay117, k0_pay118]
  rfl

theorem s11_25 (m : IVec S256x1 1) (X25 : Vec Ideal S256x128 .bf16) (W25 : Vec Ideal S1x128 .f32) (k l : Fin 128) : (k0_pay119 (F := Ideal) (k0_pay118 (F := Ideal) m X25 W25)) (ix2 k l) = colS (fun r => m (ix2 r 0)) (fun r => X25 (ix2 r k)) (W25 (ix2 0 k)) := by
  pointwise [k0_pay117, k0_pay118, k0_pay119]
  rfl

theorem s6_26 (m : IVec S256x1 1) (X26 : Vec Ideal S256x128 .bf16) (W26 : Vec Ideal S1x128 .f32) (l : Fin 128) : (k0_pay121 (F := Ideal) m X26 W26) (ix2 0 l) = colS (fun r => m (ix2 r 0)) (fun r => X26 (ix2 r l)) (W26 (ix2 0 l)) := by
  pointwise [k0_pay120, k0_pay121]
  rfl

theorem s11_26 (m : IVec S256x1 1) (X26 : Vec Ideal S256x128 .bf16) (W26 : Vec Ideal S1x128 .f32) (k l : Fin 128) : (k0_pay122 (F := Ideal) m X26 W26) (ix2 k l) = colS (fun r => m (ix2 r 0)) (fun r => X26 (ix2 r k)) (W26 (ix2 0 k)) := by
  pointwise [k0_pay120, k0_pay121, k0_pay122]
  rfl

theorem s6_27 (m : IVec S256x1 1) (X27 : Vec Ideal S256x128 .bf16) (W27 : Vec Ideal S1x128 .f32) (l : Fin 128) : (k0_pay125 (F := Ideal) m X27 W27) (ix2 0 l) = colS (fun r => m (ix2 r 0)) (fun r => X27 (ix2 r l)) (W27 (ix2 0 l)) := by
  pointwise [k0_pay124, k0_pay125]
  rfl

theorem s11_27 (m : IVec S256x1 1) (X27 : Vec Ideal S256x128 .bf16) (W27 : Vec Ideal S1x128 .f32) (k l : Fin 128) : (k0_pay126 (F := Ideal) m X27 W27) (ix2 k l) = colS (fun r => m (ix2 r 0)) (fun r => X27 (ix2 r k)) (W27 (ix2 0 k)) := by
  pointwise [k0_pay124, k0_pay125, k0_pay126]
  rfl

theorem c9_0 (m : IVec S256x1 1) (X0 : Vec Ideal S256x128 .bf16) (T0 : Vec Ideal S1x128 .f32) (q : FVec Ideal S256x1 .f32) (r : Fin 256) (l : Fin 128) : ((k0_pay134 (F := Ideal) m q X0 T0) (ix2 r l) : BitVec 8) = FloatOps.fptosi (F := Ideal) (φ := FTy.f32) 8 (Scalar.select (m (ix2 r 0)) (codeF (Ideal.div (Ideal.div (X0 (ix2 r l)) (T0 (ix2 0 l))) (q (ix2 r 0)))) 0) := by
  pointwise [k0_pay133, k0_pay134]
  rfl

theorem c12_0 (m : IVec S256x1 1) (X0 : Vec Ideal S256x128 .bf16) (T0 : Vec Ideal S1x128 .f32) (q : FVec Ideal S256x1 .f32) (r : Fin 256) (l : Fin 128) : ((k0_pay135 (F := Ideal) m q X0 T0) (ix2 r l) : EReal) = Scalar.select (m (ix2 r 0)) (codeF (Ideal.div (Ideal.div (X0 (ix2 r l)) (T0 (ix2 0 l))) (q (ix2 r 0)))) 0 := by
  pointwise [k0_pay133, k0_pay135]
  rfl

theorem c9_1 (m : IVec S256x1 1) (X1 : Vec Ideal S256x128 .bf16) (T1 : Vec Ideal S1x128 .f32) (q : FVec Ideal S256x1 .f32) (r : Fin 256) (l : Fin 128) : ((k0_pay137 (F := Ideal) m q X1 T1) (ix2 r l) : BitVec 8) = FloatOps.fptosi (F := Ideal) (φ := FTy.f32) 8 (Scalar.select (m (ix2 r 0)) (codeF (Ideal.div (Ideal.div (X1 (ix2 r l)) (T1 (ix2 0 l))) (q (ix2 r 0)))) 0) := by
  pointwise [k0_pay136, k0_pay137]
  rfl

theorem c12_1 (m : IVec S256x1 1) (X1 : Vec Ideal S256x128 .bf16) (T1 : Vec Ideal S1x128 .f32) (q : FVec Ideal S256x1 .f32) (r : Fin 256) (l : Fin 128) : ((k0_pay138 (F := Ideal) m q X1 T1) (ix2 r l) : EReal) = Scalar.select (m (ix2 r 0)) (codeF (Ideal.div (Ideal.div (X1 (ix2 r l)) (T1 (ix2 0 l))) (q (ix2 r 0)))) 0 := by
  pointwise [k0_pay136, k0_pay138]
  rfl

theorem c9_2 (m : IVec S256x1 1) (X2 : Vec Ideal S256x128 .bf16) (T2 : Vec Ideal S1x128 .f32) (q : FVec Ideal S256x1 .f32) (r : Fin 256) (l : Fin 128) : ((k0_pay140 (F := Ideal) (k0_pay139 (F := Ideal) m q X2 T2)) (ix2 r l) : BitVec 8) = FloatOps.fptosi (F := Ideal) (φ := FTy.f32) 8 (Scalar.select (m (ix2 r 0)) (codeF (Ideal.div (Ideal.div (X2 (ix2 r l)) (T2 (ix2 0 l))) (q (ix2 r 0)))) 0) := by
  pointwise [k0_pay139, k0_pay140]
  rfl

theorem c12_2 (m : IVec S256x1 1) (X2 : Vec Ideal S256x128 .bf16) (T2 : Vec Ideal S1x128 .f32) (q : FVec Ideal S256x1 .f32) (r : Fin 256) (l : Fin 128) : ((k0_pay141 (F := Ideal) (k0_pay139 (F := Ideal) m q X2 T2)) (ix2 r l) : EReal) = Scalar.select (m (ix2 r 0)) (codeF (Ideal.div (Ideal.div (X2 (ix2 r l)) (T2 (ix2 0 l))) (q (ix2 r 0)))) 0 := by
  pointwise [k0_pay139, k0_pay141]
  rfl

theorem c9_3 (m : IVec S256x1 1) (X3 : Vec Ideal S256x128 .bf16) (T3 : Vec Ideal S1x128 .f32) (q : FVec Ideal S256x1 .f32) (r : Fin 256) (l : Fin 128) : ((k0_pay143 (F := Ideal) m q X3 T3) (ix2 r l) : BitVec 8) = FloatOps.fptosi (F := Ideal) (φ := FTy.f32) 8 (Scalar.select (m (ix2 r 0)) (codeF (Ideal.div (Ideal.div (X3 (ix2 r l)) (T3 (ix2 0 l))) (q (ix2 r 0)))) 0) := by
  pointwise [k0_pay142, k0_pay143]
  rfl

theorem c12_3 (m : IVec S256x1 1) (X3 : Vec Ideal S256x128 .bf16) (T3 : Vec Ideal S1x128 .f32) (q : FVec Ideal S256x1 .f32) (r : Fin 256) (l : Fin 128) : ((k0_pay144 (F := Ideal) m q X3 T3) (ix2 r l) : EReal) = Scalar.select (m (ix2 r 0)) (codeF (Ideal.div (Ideal.div (X3 (ix2 r l)) (T3 (ix2 0 l))) (q (ix2 r 0)))) 0 := by
  pointwise [k0_pay142, k0_pay144]
  rfl

theorem c9_4 (m : IVec S256x1 1) (X4 : Vec Ideal S256x128 .bf16) (T4 : Vec Ideal S1x128 .f32) (q : FVec Ideal S256x1 .f32) (r : Fin 256) (l : Fin 128) : ((k0_pay147 (F := Ideal) m q (k0_pay145 (F := Ideal) X4 T4)) (ix2 r l) : BitVec 8) = FloatOps.fptosi (F := Ideal) (φ := FTy.f32) 8 (Scalar.select (m (ix2 r 0)) (codeF (Ideal.div (Ideal.div (X4 (ix2 r l)) (T4 (ix2 0 l))) (q (ix2 r 0)))) 0) := by
  pointwise [k0_pay145, k0_pay146, k0_pay147]
  rfl

theorem c12_4 (m : IVec S256x1 1) (X4 : Vec Ideal S256x128 .bf16) (T4 : Vec Ideal S1x128 .f32) (q : FVec Ideal S256x1 .f32) (r : Fin 256) (l : Fin 128) : ((k0_pay148 (F := Ideal) m q (k0_pay145 (F := Ideal) X4 T4)) (ix2 r l) : EReal) = Scalar.select (m (ix2 r 0)) (codeF (Ideal.div (Ideal.div (X4 (ix2 r l)) (T4 (ix2 0 l))) (q (ix2 r 0)))) 0 := by
  pointwise [k0_pay145, k0_pay146, k0_pay148]
  rfl

theorem c9_5 (m : IVec S256x1 1) (X5 : Vec Ideal S256x128 .bf16) (T5 : Vec Ideal S1x128 .f32) (q : FVec Ideal S256x1 .f32) (r : Fin 256) (l : Fin 128) : ((k0_pay150 (F := Ideal) m q X5 T5) (ix2 r l) : BitVec 8) = FloatOps.fptosi (F := Ideal) (φ := FTy.f32) 8 (Scalar.select (m (ix2 r 0)) (codeF (Ideal.div (Ideal.div (X5 (ix2 r l)) (T5 (ix2 0 l))) (q (ix2 r 0)))) 0) := by
  pointwise [k0_pay149, k0_pay150]
  rfl

theorem c12_5 (m : IVec S256x1 1) (X5 : Vec Ideal S256x128 .bf16) (T5 : Vec Ideal S1x128 .f32) (q : FVec Ideal S256x1 .f32) (r : Fin 256) (l : Fin 128) : ((k0_pay152 (F := Ideal) (k0_pay151 (F := Ideal) m q X5 T5)) (ix2 r l) : EReal) = Scalar.select (m (ix2 r 0)) (codeF (Ideal.div (Ideal.div (X5 (ix2 r l)) (T5 (ix2 0 l))) (q (ix2 r 0)))) 0 := by
  pointwise [k0_pay149, k0_pay151, k0_pay152]
  rfl

theorem c9_6 (m : IVec S256x1 1) (X6 : Vec Ideal S256x128 .bf16) (T6 : Vec Ideal S1x128 .f32) (q : FVec Ideal S256x1 .f32) (r : Fin 256) (l : Fin 128) : ((k0_pay154 (F := Ideal) m q X6 T6) (ix2 r l) : BitVec 8) = FloatOps.fptosi (F := Ideal) (φ := FTy.f32) 8 (Scalar.select (m (ix2 r 0)) (codeF (Ideal.div (Ideal.div (X6 (ix2 r l)) (T6 (ix2 0 l))) (q (ix2 r 0)))) 0) := by
  pointwise [k0_pay153, k0_pay154]
  rfl

theorem c12_6 (m : IVec S256x1 1) (X6 : Vec Ideal S256x128 .bf16) (T6 : Vec Ideal S1x128 .f32) (q : FVec Ideal S256x1 .f32) (r : Fin 256) (l : Fin 128) : ((k0_pay155 (F := Ideal) m q X6 T6) (ix2 r l) : EReal) = Scalar.select (m (ix2 r 0)) (codeF (Ideal.div (Ideal.div (X6 (ix2 r l)) (T6 (ix2 0 l))) (q (ix2 r 0)))) 0 := by
  pointwise [k0_pay153, k0_pay155]
  rfl

theorem c9_7 (m : IVec S256x1 1) (X7 : Vec Ideal S256x128 .bf16) (T7 : Vec Ideal S1x128 .f32) (q : FVec Ideal S256x1 .f32) (r : Fin 256) (l : Fin 128) : ((k0_pay158 (F := Ideal) m (k0_pay156 (F := Ideal) q X7 T7)) (ix2 r l) : BitVec 8) = FloatOps.fptosi (F := Ideal) (φ := FTy.f32) 8 (Scalar.select (m (ix2 r 0)) (codeF (Ideal.div (Ideal.div (X7 (ix2 r l)) (T7 (ix2 0 l))) (q (ix2 r 0)))) 0) := by
  pointwise [k0_pay156, k0_pay157, k0_pay158]
  rfl

theorem c12_7 (m : IVec S256x1 1) (X7 : Vec Ideal S256x128 .bf16) (T7 : Vec Ideal S1x128 .f32) (q : FVec Ideal S256x1 .f32) (r : Fin 256) (l : Fin 128) : ((k0_pay159 (F := Ideal) m (k0_pay156 (F := Ideal) q X7 T7)) (ix2 r l) : EReal) = Scalar.select (m (ix2 r 0)) (codeF (Ideal.div (Ideal.div (X7 (ix2 r l)) (T7 (ix2 0 l))) (q (ix2 r 0)))) 0 := by
  pointwise [k0_pay156, k0_pay157, k0_pay159]
  rfl

theorem c9_8 (m : IVec S256x1 1) (X8 : Vec Ideal S256x128 .bf16) (T8 : Vec Ideal S1x128 .f32) (q : FVec Ideal S256x1 .f32) (r : Fin 256) (l : Fin 128) : ((k0_pay161 (F := Ideal) m q X8 T8) (ix2 r l) : BitVec 8) = FloatOps.fptosi (F := Ideal) (φ := FTy.f32) 8 (Scalar.select (m (ix2 r 0)) (codeF (Ideal.div (Ideal.div (X8 (ix2 r l)) (T8 (ix2 0 l))) (q (ix2 r 0)))) 0) := by
  pointwise [k0_pay160, k0_pay161]
  rfl

theorem c12_8 (m : IVec S256x1 1) (X8 : Vec Ideal S256x128 .bf16) (T8 : Vec Ideal S1x128 .f32) (q : FVec Ideal S256x1 .f32) (r : Fin 256) (l : Fin 128) : ((k0_pay162 (F := Ideal) m q X8 T8) (ix2 r l) : EReal) = Scalar.select (m (ix2 r 0)) (codeF (Ideal.div (Ideal.div (X8 (ix2 r l)) (T8 (ix2 0 l))) (q (ix2 r 0)))) 0 := by
  pointwise [k0_pay160, k0_pay162]
  rfl

theorem c9_9 (m : IVec S256x1 1) (X9 : Vec Ideal S256x128 .bf16) (T9 : Vec Ideal S1x128 .f32) (q : FVec Ideal S256x1 .f32) (r : Fin 256) (l : Fin 128) : ((k0_pay165 (F := Ideal) m q (k0_pay163 (F := Ideal) X9) T9) (ix2 r l) : BitVec 8) = FloatOps.fptosi (F := Ideal) (φ := FTy.f32) 8 (Scalar.select (m (ix2 r 0)) (codeF (Ideal.div (Ideal.div (X9 (ix2 r l)) (T9 (ix2 0 l))) (q (ix2 r 0)))) 0) := by
  pointwise [k0_pay163, k0_pay164, k0_pay165]
  rfl

theorem c12_9 (m : IVec S256x1 1) (X9 : Vec Ideal S256x128 .bf16) (T9 : Vec Ideal S1x128 .f32) (q : FVec Ideal S256x1 .f32) (r : Fin 256) (l : Fin 128) : ((k0_pay166 (F := Ideal) m q (k0_pay163 (F := Ideal) X9) T9) (ix2 r l) : EReal) = Scalar.select (m (ix2 r 0)) (codeF (Ideal.div (Ideal.div (X9 (ix2 r l)) (T9 (ix2 0 l))) (q (ix2 r 0)))) 0 := by
  pointwise [k0_pay163, k0_pay164, k0_pay166]
  rfl

theorem c9_10 (m : IVec S256x1 1) (X10 : Vec Ideal S256x128 .bf16) (T10 : Vec Ideal S1x128 .f32) (q : FVec Ideal S256x1 .f32) (r : Fin 256) (l : Fin 128) : ((k0_pay168 (F := Ideal) m q X10 T10) (ix2 r l) : BitVec 8) = FloatOps.fptosi (F := Ideal) (φ := FTy.f32) 8 (Scalar.select (m (ix2 r 0)) (codeF (Ideal.div (Ideal.div (X10 (ix2 r l)) (T10 (ix2 0 l))) (q (ix2 r 0)))) 0) := by
  pointwise [k0_pay167, k0_pay168]
  rfl

theorem c12_10 (m : IVec S256x1 1) (X10 : Vec Ideal S256x128 .bf16) (T10 : Vec Ideal S1x128 .f32) (q : FVec Ideal S256x1 .f32) (r : Fin 256) (l : Fin 128) : ((k0_pay169 (F := Ideal) (k0_pay167 (F := Ideal) m q X10 T10)) (ix2 r l) : EReal) = Scalar.select (m (ix2 r 0)) (codeF (Ideal.div (Ideal.div (X10 (ix2 r l)) (T10 (ix2 0 l))) (q (ix2 r 0)))) 0 := by
  pointwise [k0_pay167, k0_pay169]
  rfl

theorem c9_11 (m : IVec S256x1 1) (X11 : Vec Ideal S256x128 .bf16) (T11 : Vec Ideal S1x128 .f32) (q : FVec Ideal S256x1 .f32) (r : Fin 256) (l : Fin 128) : ((k0_pay171 (F := Ideal) m q X11 T11) (ix2 r l) : BitVec 8) = FloatOps.fptosi (F := Ideal) (φ := FTy.f32) 8 (Scalar.select (m (ix2 r 0)) (codeF (Ideal.div (Ideal.div (X11 (ix2 r l)) (T11 (ix2 0 l))) (q (ix2 r 0)))) 0) := by
  pointwise [k0_pay170, k0_pay171]
  rfl

theorem c12_11 (m : IVec S256x1 1) (X11 : Vec Ideal S256x128 .bf16) (T11 : Vec Ideal S1x128 .f32) (q : FVec Ideal S256x1 .f32) (r : Fin 256) (l : Fin 128) : ((k0_pay172 (F := Ideal) m q X11 T11) (ix2 r l) : EReal) = Scalar.select (m (ix2 r 0)) (codeF (Ideal.div (Ideal.div (X11 (ix2 r l)) (T11 (ix2 0 l))) (q (ix2 r 0)))) 0 := by
  pointwise [k0_pay170, k0_pay172]
  rfl

theorem c9_12 (m : IVec S256x1 1) (X12 : Vec Ideal S256x128 .bf16) (T12 : Vec Ideal S1x128 .f32) (q : FVec Ideal S256x1 .f32) (r : Fin 256) (l : Fin 128) : ((k0_pay175 (F := Ideal) m (k0_pay173 (F := Ideal) q X12 T12) (Scalar.ofBits (F := Ideal) .f32 0xC2FE0000#32)) (ix2 r l) : BitVec 8) = FloatOps.fptosi (F := Ideal) (φ := FTy.f32) 8 (Scalar.select (m (ix2 r 0)) (codeF (Ideal.div (Ideal.div (X12 (ix2 r l)) (T12 (ix2 0 l))) (q (ix2 r 0)))) 0) := by
  pointwise [k0_pay173, k0_pay174, k0_pay175]
  rfl

theorem c12_12 (m : IVec S256x1 1) (X12 : Vec Ideal S256x128 .bf16) (T12 : Vec Ideal S1x128 .f32) (q : FVec Ideal S256x1 .f32) (r : Fin 256) (l : Fin 128) : ((k0_pay176 (F := Ideal) m (k0_pay173 (F := Ideal) q X12 T12) (Scalar.ofBits (F := Ideal) .f32 0xC2FE0000#32)) (ix2 r l) : EReal) = Scalar.select (m (ix2 r 0)) (codeF (Ideal.div (Ideal.div (X12 (ix2 r l)) (T12 (ix2 0 l))) (q (ix2 r 0)))) 0 := by
  pointwise [k0_pay173, k0_pay174, k0_pay176]
  rfl

theorem c9_13 (m : IVec S256x1 1) (X13 : Vec Ideal S256x128 .bf16) (T13 : Vec Ideal S1x128 .f32) (q : FVec Ideal S256x1 .f32) (r : Fin 256) (l : Fin 128) : ((k0_pay178 (F := Ideal) m q X13 T13) (ix2 r l) : BitVec 8) = FloatOps.fptosi (F := Ideal) (φ := FTy.f32) 8 (Scalar.select (m (ix2 r 0)) (codeF (Ideal.div (Ideal.div (X13 (ix2 r l)) (T13 (ix2 0 l))) (q (ix2 r 0)))) 0) := by
  pointwise [k0_pay177, k0_pay178]
  rfl

theorem c12_13 (m : IVec S256x1 1) (X13 : Vec Ideal S256x128 .bf16) (T13 : Vec Ideal S1x128 .f32) (q : FVec Ideal S256x1 .f32) (r : Fin 256) (l : Fin 128) : ((k0_pay179 (F := Ideal) m q X13 T13) (ix2 r l) : EReal) = Scalar.select (m (ix2 r 0)) (codeF (Ideal.div (Ideal.div (X13 (ix2 r l)) (T13 (ix2 0 l))) (q (ix2 r 0)))) 0 := by
  pointwise [k0_pay177, k0_pay179]
  rfl

theorem c9_14 (m : IVec S256x1 1) (X14 : Vec Ideal S256x128 .bf16) (T14 : Vec Ideal S1x128 .f32) (q : FVec Ideal S256x1 .f32) (r : Fin 256) (l : Fin 128) : ((k0_pay181 (F := Ideal) m q X14 T14) (ix2 r l) : BitVec 8) = FloatOps.fptosi (F := Ideal) (φ := FTy.f32) 8 (Scalar.select (m (ix2 r 0)) (codeF (Ideal.div (Ideal.div (X14 (ix2 r l)) (T14 (ix2 0 l))) (q (ix2 r 0)))) 0) := by
  pointwise [k0_pay180, k0_pay181]
  rfl

theorem c12_14 (m : IVec S256x1 1) (X14 : Vec Ideal S256x128 .bf16) (T14 : Vec Ideal S1x128 .f32) (q : FVec Ideal S256x1 .f32) (r : Fin 256) (l : Fin 128) : ((k0_pay182 (F := Ideal) m q X14 T14) (ix2 r l) : EReal) = Scalar.select (m (ix2 r 0)) (codeF (Ideal.div (Ideal.div (X14 (ix2 r l)) (T14 (ix2 0 l))) (q (ix2 r 0)))) 0 := by
  pointwise [k0_pay180, k0_pay182]
  rfl

theorem c9_15 (m : IVec S256x1 1) (X15 : Vec Ideal S256x128 .bf16) (T15 : Vec Ideal S1x128 .f32) (q : FVec Ideal S256x1 .f32) (r : Fin 256) (l : Fin 128) : ((k0_pay187 (F := Ideal) (k0_pay183 (F := Ideal) q X15 T15) (k0_pay184 m) (k0_pay185 (F := Ideal) )) (ix2 r l) : BitVec 8) = FloatOps.fptosi (F := Ideal) (φ := FTy.f32) 8 (Scalar.select (m (ix2 r 0)) (codeF (Ideal.div (Ideal.div (X15 (ix2 r l)) (T15 (ix2 0 l))) (q (ix2 r 0)))) 0) := by
  pointwise [k0_pay183, k0_pay184, k0_pay185, k0_pay186, k0_pay187]
  rfl

theorem c12_15 (m : IVec S256x1 1) (X15 : Vec Ideal S256x128 .bf16) (T15 : Vec Ideal S1x128 .f32) (q : FVec Ideal S256x1 .f32) (r : Fin 256) (l : Fin 128) : ((k0_pay188 (F := Ideal) (k0_pay183 (F := Ideal) q X15 T15) (k0_pay184 m) (k0_pay185 (F := Ideal) )) (ix2 r l) : EReal) = Scalar.select (m (ix2 r 0)) (codeF (Ideal.div (Ideal.div (X15 (ix2 r l)) (T15 (ix2 0 l))) (q (ix2 r 0)))) 0 := by
  pointwise [k0_pay183, k0_pay184, k0_pay185, k0_pay186, k0_pay188]
  rfl

theorem c9_16 (m : IVec S256x1 1) (X16 : Vec Ideal S256x128 .bf16) (T16 : Vec Ideal S1x128 .f32) (q : FVec Ideal S256x1 .f32) (r : Fin 256) (l : Fin 128) : ((k0_pay190 (F := Ideal) m q X16 T16) (ix2 r l) : BitVec 8) = FloatOps.fptosi (F := Ideal) (φ := FTy.f32) 8 (Scalar.select (m (ix2 r 0)) (codeF (Ideal.div (Ideal.div (X16 (ix2 r l)) (T16 (ix2 0 l))) (q (ix2 r 0)))) 0) := by
  pointwise [k0_pay189, k0_pay190]
  rfl

theorem c12_16 (m : IVec S256x1 1) (X16 : Vec Ideal S256x128 .bf16) (T16 : Vec Ideal S1x128 .f32) (q : FVec Ideal S256x1 .f32) (r : Fin 256) (l : Fin 128) : ((k0_pay191 (F := Ideal) m q X16 T16) (ix2 r l) : EReal) = Scalar.select (m (ix2 r 0)) (codeF (Ideal.div (Ideal.div (X16 (ix2 r l)) (T16 (ix2 0 l))) (q (ix2 r 0)))) 0 := by
  pointwise [k0_pay189, k0_pay191]
  rfl

theorem c9_17 (m : IVec S256x1 1) (X17 : Vec Ideal S256x128 .bf16) (T17 : Vec Ideal S1x128 .f32) (q : FVec Ideal S256x1 .f32) (r : Fin 256) (l : Fin 128) : ((k0_pay195 (F := Ideal) m q (k0_pay192 (F := Ideal) X17) (k0_pay193 (F := Ideal) T17)) (ix2 r l) : BitVec 8) = FloatOps.fptosi (F := Ideal) (φ := FTy.f32) 8 (Scalar.select (m (ix2 r 0)) (codeF (Ideal.div (Ideal.div (X17 (ix2 r l)) (T17 (ix2 0 l))) (q (ix2 r 0)))) 0) := by
  pointwise [k0_pay192, k0_pay193, k0_pay194, k0_pay195]
  rfl

theorem c12_17 (m : IVec S256x1 1) (X17 : Vec Ideal S256x128 .bf16) (T17 : Vec Ideal S1x128 .f32) (q : FVec Ideal S256x1 .f32) (r : Fin 256) (l : Fin 128) : ((k0_pay196 (F := Ideal) m q (k0_pay192 (F := Ideal) X17) (k0_pay193 (F := Ideal) T17)) (ix2 r l) : EReal) = Scalar.select (m (ix2 r 0)) (codeF (Ideal.div (Ideal.div (X17 (ix2 r l)) (T17 (ix2 0 l))) (q (ix2 r 0)))) 0 := by
  pointwise [k0_pay192, k0_pay193, k0_pay194, k0_pay196]
  rfl

theorem c9_18 (m : IVec S256x1 1) (X18 : Vec Ideal S256x128 .bf16) (T18 : Vec Ideal S1x128 .f32) (q : FVec Ideal S256x1 .f32) (r : Fin 256) (l : Fin 128) : ((k0_pay198 (F := Ideal) m q X18 T18) (ix2 r l) : BitVec 8) = FloatOps.fptosi (F := Ideal) (φ := FTy.f32) 8 (Scalar.select (m (ix2 r 0)) (codeF (Ideal.div (Ideal.div (X18 (ix2 r l)) (T18 (ix2 0 l))) (q (ix2 r 0)))) 0) := by
  pointwise [k0_pay197, k0_pay198]
  rfl

theorem c12_18 (m : IVec S256x1 1) (X18 : Vec Ideal S256x128 .bf16) (T18 : Vec Ideal S1x128 .f32) (q : FVec Ideal S256x1 .f32) (r : Fin 256) (l : Fin 128) : ((k0_pay200 (F := Ideal) (k0_pay199 (F := Ideal) m q X18 T18)) (ix2 r l) : EReal) = Scalar.select (m (ix2 r 0)) (codeF (Ideal.div (Ideal.div (X18 (ix2 r l)) (T18 (ix2 0 l))) (q (ix2 r 0)))) 0 := by
  pointwise [k0_pay197, k0_pay199, k0_pay200]
  rfl

theorem c9_19 (m : IVec S256x1 1) (X19 : Vec Ideal S256x128 .bf16) (T19 : Vec Ideal S1x128 .f32) (q : FVec Ideal S256x1 .f32) (r : Fin 256) (l : Fin 128) : ((k0_pay202 (F := Ideal) m q X19 T19) (ix2 r l) : BitVec 8) = FloatOps.fptosi (F := Ideal) (φ := FTy.f32) 8 (Scalar.select (m (ix2 r 0)) (codeF (Ideal.div (Ideal.div (X19 (ix2 r l)) (T19 (ix2 0 l))) (q (ix2 r 0)))) 0) := by
  pointwise [k0_pay201, k0_pay202]
  rfl

theorem c12_19 (m : IVec S256x1 1) (X19 : Vec Ideal S256x128 .bf16) (T19 : Vec Ideal S1x128 .f32) (q : FVec Ideal S256x1 .f32) (r : Fin 256) (l : Fin 128) : ((k0_pay203 (F := Ideal) m q X19 T19) (ix2 r l) : EReal) = Scalar.select (m (ix2 r 0)) (codeF (Ideal.div (Ideal.div (X19 (ix2 r l)) (T19 (ix2 0 l))) (q (ix2 r 0)))) 0 := by
  pointwise [k0_pay201, k0_pay203]
  rfl

theorem c9_20 (m : IVec S256x1 1) (X20 : Vec Ideal S256x128 .bf16) (T20 : Vec Ideal S1x128 .f32) (q : FVec Ideal S256x1 .f32) (r : Fin 256) (l : Fin 128) : ((k0_pay207 (F := Ideal) m (k0_pay204 (F := Ideal) q X20 T20) (k0_pay205 (F := Ideal) )) (ix2 r l) : BitVec 8) = FloatOps.fptosi (F := Ideal) (φ := FTy.f32) 8 (Scalar.select (m (ix2 r 0)) (codeF (Ideal.div (Ideal.div (X20 (ix2 r l)) (T20 (ix2 0 l))) (q (ix2 r 0)))) 0) := by
  pointwise [k0_pay204, k0_pay205, k0_pay206, k0_pay207]
  rfl

theorem c12_20 (m : IVec S256x1 1) (X20 : Vec Ideal S256x128 .bf16) (T20 : Vec Ideal S1x128 .f32) (q : FVec Ideal S256x1 .f32) (r : Fin 256) (l : Fin 128) : ((k0_pay208 (F := Ideal) m (k0_pay204 (F := Ideal) q X20 T20) (k0_pay205 (F := Ideal) )) (ix2 r l) : EReal) = Scalar.select (m (ix2 r 0)) (codeF (Ideal.div (Ideal.div (X20 (ix2 r l)) (T20 (ix2 0 l))) (q (ix2 r 0)))) 0 := by
  pointwise [k0_pay204, k0_pay205, k0_pay206, k0_pay208]
  rfl

theorem c9_21 (m : IVec S256x1 1) (X21 : Vec Ideal S256x128 .bf16) (T21 : Vec Ideal S1x128 .f32) (q : FVec Ideal S256x1 .f32) (r : Fin 256) (l : Fin 128) : ((k0_pay210 (F := Ideal) m q X21 T21) (ix2 r l) : BitVec 8) = FloatOps.fptosi (F := Ideal) (φ := FTy.f32) 8 (Scalar.select (m (ix2 r 0)) (codeF (Ideal.div (Ideal.div (X21 (ix2 r l)) (T21 (ix2 0 l))) (q (ix2 r 0)))) 0) := by
  pointwise [k0_pay209, k0_pay210]
  rfl

theorem c12_21 (m : IVec S256x1 1) (X21 : Vec Ideal S256x128 .bf16) (T21 : Vec Ideal S1x128 .f32) (q : FVec Ideal S256x1 .f32) (r : Fin 256) (l : Fin 128) : ((k0_pay211 (F := Ideal) m q X21 T21) (ix2 r l) : EReal) = Scalar.select (m (ix2 r 0)) (codeF (Ideal.div (Ideal.div (X21 (ix2 r l)) (T21 (ix2 0 l))) (q (ix2 r 0)))) 0 := by
  pointwise [k0_pay209, k0_pay211]
  rfl

theorem c9_22 (m : IVec S256x1 1) (X22 : Vec Ideal S256x128 .bf16) (T22 : Vec Ideal S1x128 .f32) (q : FVec Ideal S256x1 .f32) (r : Fin 256) (l : Fin 128) : ((k0_pay214 (F := Ideal) m q (k0_pay212 (F := Ideal) X22) T22) (ix2 r l) : BitVec 8) = FloatOps.fptosi (F := Ideal) (φ := FTy.f32) 8 (Scalar.select (m (ix2 r 0)) (codeF (Ideal.div (Ideal.div (X22 (ix2 r l)) (T22 (ix2 0 l))) (q (ix2 r 0)))) 0) := by
  pointwise [k0_pay212, k0_pay213, k0_pay214]
  rfl

theorem c12_22 (m : IVec S256x1 1) (X22 : Vec Ideal S256x128 .bf16) (T22 : Vec Ideal S1x128 .f32) (q : FVec Ideal S256x1 .f32) (r : Fin 256) (l : Fin 128) : ((k0_pay215 (F := Ideal) m q (k0_pay212 (F := Ideal) X22) T22) (ix2 r l) : EReal) = Scalar.select (m (ix2 r 0)) (codeF (Ideal.div (Ideal.div (X22 (ix2 r l)) (T22 (ix2 0 l))) (q (ix2 r 0)))) 0 := by
  pointwise [k0_pay212, k0_pay213, k0_pay215]
  rfl

theorem c9_23 (m : IVec S256x1 1) (X23 : Vec Ideal S256x128 .bf16) (T23 : Vec Ideal S1x128 .f32) (q : FVec Ideal S256x1 .f32) (r : Fin 256) (l : Fin 128) : ((k0_pay217 (F := Ideal) m q X23 T23) (ix2 r l) : BitVec 8) = FloatOps.fptosi (F := Ideal) (φ := FTy.f32) 8 (Scalar.select (m (ix2 r 0)) (codeF (Ideal.div (Ideal.div (X23 (ix2 r l)) (T23 (ix2 0 l))) (q (ix2 r 0)))) 0) := by
  pointwise [k0_pay216, k0_pay217]
  rfl

theorem c12_23 (m : IVec S256x1 1) (X23 : Vec Ideal S256x128 .bf16) (T23 : Vec Ideal S1x128 .f32) (q : FVec Ideal S256x1 .f32) (r : Fin 256) (l : Fin 128) : ((k0_pay218 (F := Ideal) (k0_pay216 (F := Ideal) m q X23 T23)) (ix2 r l) : EReal) = Scalar.select (m (ix2 r 0)) (codeF (Ideal.div (Ideal.div (X23 (ix2 r l)) (T23 (ix2 0 l))) (q (ix2 r 0)))) 0 := by
  pointwise [k0_pay216, k0_pay218]
  rfl

theorem c9_24 (m : IVec S256x1 1) (X24 : Vec Ideal S256x128 .bf16) (T24 : Vec Ideal S1x128 .f32) (q : FVec Ideal S256x1 .f32) (r : Fin 256) (l : Fin 128) : ((k0_pay220 (F := Ideal) m q X24 T24) (ix2 r l) : BitVec 8) = FloatOps.fptosi (F := Ideal) (φ := FTy.f32) 8 (Scalar.select (m (ix2 r 0)) (codeF (Ideal.div (Ideal.div (X24 (ix2 r l)) (T24 (ix2 0 l))) (q (ix2 r 0)))) 0) := by
  pointwise [k0_pay219, k0_pay220]
  rfl

theorem c12_24 (m : IVec S256x1 1) (X24 : Vec Ideal S256x128 .bf16) (T24 : Vec Ideal S1x128 .f32) (q : FVec Ideal S256x1 .f32) (r : Fin 256) (l : Fin 128) : ((k0_pay221 (F := Ideal) m q X24 T24) (ix2 r l) : EReal) = Scalar.select (m (ix2 r 0)) (codeF (Ideal.div (Ideal.div (X24 (ix2 r l)) (T24 (ix2 0 l))) (q (ix2 r 0)))) 0 := by
  pointwise [k0_pay219, k0_pay221]
  rfl

theorem c9_25 (m : IVec S256x1 1) (X25 : Vec Ideal S256x128 .bf16) (T25 : Vec Ideal S1x128 .f32) (q : FVec Ideal S256x1 .f32) (r : Fin 256) (l : Fin 128) : ((k0_pay224 (F := Ideal) m (k0_pay222 (F := Ideal) q X25 T25)) (ix2 r l) : BitVec 8) = FloatOps.fptosi (F := Ideal) (φ := FTy.f32) 8 (Scalar.select (m (ix2 r 0)) (codeF (Ideal.div (Ideal.div (X25 (ix2 r l)) (T25 (ix2 0 l))) (q (ix2 r 0)))) 0) := by
  pointwise [k0_pay222, k0_pay223, k0_pay224]
  rfl

theorem c12_25 (m : IVec S256x1 1) (X25 : Vec Ideal S256x128 .bf16) (T25 : Vec Ideal S1x128 .f32) (q : FVec Ideal S256x1 .f32) (r : Fin 256) (l : Fin 128) : ((k0_pay225 (F := Ideal) m (k0_pay222 (F := Ideal) q X25 T25)) (ix2 r l) : EReal) = Scalar.select (m (ix2 r 0)) (codeF (Ideal.div (Ideal.div (X25 (ix2 r l)) (T25 (ix2 0 l))) (q (ix2 r 0)))) 0 := by
  pointwise [k0_pay222, k0_pay223, k0_pay225]
  rfl

theorem c9_26 (m : IVec S256x1 1) (X26 : Vec Ideal S256x128 .bf16) (T26 : Vec Ideal S1x128 .f32) (q : FVec Ideal S256x1 .f32) (r : Fin 256) (l : Fin 128) : ((k0_pay227 (F := Ideal) m q X26 T26) (ix2 r l) : BitVec 8) = FloatOps.fptosi (F := Ideal) (φ := FTy.f32) 8 (Scalar.select (m (ix2 r 0)) (codeF (Ideal.div (Ideal.div (X26 (ix2 r l)) (T26 (ix2 0 l))) (q (ix2 r 0)))) 0) := by
  pointwise [k0_pay226, k0_pay227]
  rfl

theorem c12_26 (m : IVec S256x1 1) (X26 : Vec Ideal S256x128 .bf16) (T26 : Vec Ideal S1x128 .f32) (q : FVec Ideal S256x1 .f32) (r : Fin 256) (l : Fin 128) : ((k0_pay228 (F := Ideal) m q X26 T26) (ix2 r l) : EReal) = Scalar.select (m (ix2 r 0)) (codeF (Ideal.div (Ideal.div (X26 (ix2 r l)) (T26 (ix2 0 l))) (q (ix2 r 0)))) 0 := by
  pointwise [k0_pay226, k0_pay228]
  rfl

theorem c9_27 (m : IVec S256x1 1) (X27 : Vec Ideal S256x128 .bf16) (T27 : Vec Ideal S1x128 .f32) (q : FVec Ideal S256x1 .f32) (r : Fin 256) (l : Fin 128) : ((k0_pay248 (F := Ideal) (k0_pay229 (F := Ideal) q X27 T27) (Scalar.ofBits (F := Ideal) .f32 0x00000000#32) (k0_pay230 m)) (ix2 r l) : BitVec 8) = FloatOps.fptosi (F := Ideal) (φ := FTy.f32) 8 (Scalar.select (m (ix2 r 0)) (codeF (Ideal.div (Ideal.div (X27 (ix2 r l)) (T27 (ix2 0 l))) (q (ix2 r 0)))) 0) := by
  pointwise [k0_pay229, k0_pay230, k0_pay247, k0_pay248]
  rfl

theorem c12_27 (m : IVec S256x1 1) (X27 : Vec Ideal S256x128 .bf16) (T27 : Vec Ideal S1x128 .f32) (q : FVec Ideal S256x1 .f32) (r : Fin 256) (l : Fin 128) : ((k0_pay249 (F := Ideal) (k0_pay229 (F := Ideal) q X27 T27) (Scalar.ofBits (F := Ideal) .f32 0x00000000#32) (k0_pay230 m)) (ix2 r l) : EReal) = Scalar.select (m (ix2 r 0)) (codeF (Ideal.div (Ideal.div (X27 (ix2 r l)) (T27 (ix2 0 l))) (q (ix2 r 0)))) 0 := by
  pointwise [k0_pay229, k0_pay230, k0_pay247, k0_pay249]
  rfl

theorem a_0 (l0 : Elt Ideal .i32) (l1 : Elt Ideal .i32) (X0 : Vec Ideal S256x128 .bf16) (W0 : Vec Ideal S1x128 .f32) (r : Fin 256) (l : Fin 128) : (k0_pay5 (F := Ideal) l0 l1 X0 W0) (ix2 r l) = max 0 (scAb (X0 (ix2 r l)) (colS (fun r => (k0_pay1 (F := Ideal) l0 l1 (ix2 r 0))) (fun r => X0 (ix2 r l)) (W0 (ix2 0 l)))) := by
  pointwise [k0_pay2, k0_pay3, k0_pay5]
  rfl

theorem a_1 (m : IVec S256x1 1) (A0 : FVec Ideal S256x128 .f32) (X1 : Vec Ideal S256x128 .bf16) (W1 : Vec Ideal S1x128 .f32) (r : Fin 256) (l : Fin 128) : (k0_pay10 (F := Ideal) m A0 (k0_pay6 (F := Ideal) X1) W1) (ix2 r l) = max (A0 (ix2 r l) : EReal) (scAb (X1 (ix2 r l)) (colS (fun r => m (ix2 r 0)) (fun r => X1 (ix2 r l)) (W1 (ix2 0 l)))) := by
  pointwise [k0_pay6, k0_pay7, k0_pay8, k0_pay10]
  rfl

theorem a_2 (m : IVec S256x1 1) (A1 : FVec Ideal S256x128 .f32) (X2 : Vec Ideal S256x128 .bf16) (W2 : Vec Ideal S1x128 .f32) (r : Fin 256) (l : Fin 128) : (k0_pay15 (F := Ideal) A1 (k0_pay11 (F := Ideal) X2) (k0_pay12 (F := Ideal) m X2) W2) (ix2 r l) = max (A1 (ix2 r l) : EReal) (scAb (X2 (ix2 r l)) (colS (fun r => m (ix2 r 0)) (fun r => X2 (ix2 r l)) (W2 (ix2 0 l)))) := by
  pointwise [k0_pay11, k0_pay12, k0_pay13, k0_pay15]
  rfl

theorem a_4 (m : IVec S256x1 1) (A2 : FVec Ideal S256x128 .f32) (X3 : Vec Ideal S256x128 .bf16) (X4 : Vec Ideal S256x128 .bf16) (W3 : Vec Ideal S1x128 .f32) (W4 : Vec Ideal S1x128 .f32) (r : Fin 256) (l : Fin 128) : (k0_pay23 (F := Ideal) m A2 (k0_pay16 (F := Ideal) X3) (k0_pay17 (F := Ideal) m X3 W3) X4 W4) (ix2 r l) = max (max (A2 (ix2 r l) : EReal) (scAb (X3 (ix2 r l)) (colS (fun r => m (ix2 r 0)) (fun r => X3 (ix2 r l)) (W3 (ix2 0 l))))) (scAb (X4 (ix2 r l)) (colS (fun r => m (ix2 r 0)) (fun r => X4 (ix2 r l)) (W4 (ix2 0 l)))) := by
  pointwise [k0_pay16, k0_pay17, k0_pay20, k0_pay21, k0_pay23]
  rfl

theorem a_5 (m : IVec S256x1 1) (A4 : FVec Ideal S256x128 .f32) (X5 : Vec Ideal S256x128 .bf16) (W5 : Vec Ideal S1x128 .f32) (r : Fin 256) (l : Fin 128) : (k0_pay29 (F := Ideal) A4 (k0_pay24 (F := Ideal) X5) (k0_pay25 (F := Ideal) X5) (Scalar.ofBits (F := Ideal) .f32 0x00000000#32) (k0_pay26 m) W5) (ix2 r l) = max (A4 (ix2 r l) : EReal) (scAb (X5 (ix2 r l)) (colS (fun r => m (ix2 r 0)) (fun r => X5 (ix2 r l)) (W5 (ix2 0 l)))) := by
  pointwise [k0_pay24, k0_pay25, k0_pay26, k0_pay27, k0_pay29]
  rfl

theorem a_6 (m : IVec S256x1 1) (A5 : FVec Ideal S256x128 .f32) (X6 : Vec Ideal S256x128 .bf16) (W6 : Vec Ideal S1x128 .f32) (r : Fin 256) (l : Fin 128) : (k0_pay36 (F := Ideal) A5 (k0_pay30 (F := Ideal) X6) (k0_pay31 (F := Ideal) m X6) (k0_pay32 (F := Ideal) W6) (k0_pay33 (F := Ideal) )) (ix2 r l) = max (A5 (ix2 r l) : EReal) (scAb (X6 (ix2 r l)) (colS (fun r => m (ix2 r 0)) (fun r => X6 (ix2 r l)) (W6 (ix2 0 l)))) := by
  pointwise [k0_pay30, k0_pay31, k0_pay32, k0_pay33, k0_pay34, k0_pay36]
  rfl

theorem a_8 (m : IVec S256x1 1) (A6 : FVec Ideal S256x128 .f32) (X7 : Vec Ideal S256x128 .bf16) (X8 : Vec Ideal S256x128 .bf16) (W7 : Vec Ideal S1x128 .f32) (W8 : Vec Ideal S1x128 .f32) (r : Fin 256) (l : Fin 128) : (k0_pay43 (F := Ideal) m A6 (k0_pay37 (F := Ideal) X7) (k0_pay38 (F := Ideal) m X7 W7) X8 W8) (ix2 r l) = max (max (A6 (ix2 r l) : EReal) (scAb (X7 (ix2 r l)) (colS (fun r => m (ix2 r 0)) (fun r => X7 (ix2 r l)) (W7 (ix2 0 l))))) (scAb (X8 (ix2 r l)) (colS (fun r => m (ix2 r 0)) (fun r => X8 (ix2 r l)) (W8 (ix2 0 l)))) := by
  pointwise [k0_pay37, k0_pay38, k0_pay40, k0_pay41, k0_pay43]
  rfl

theorem a_9 (m : IVec S256x1 1) (A8 : FVec Ideal S256x128 .f32) (X9 : Vec Ideal S256x128 .bf16) (W9 : Vec Ideal S1x128 .f32) (r : Fin 256) (l : Fin 128) : (k0_pay48 (F := Ideal) A8 (k0_pay44 (F := Ideal) X9) (k0_pay45 (F := Ideal) m X9) W9) (ix2 r l) = max (A8 (ix2 r l) : EReal) (scAb (X9 (ix2 r l)) (colS (fun r => m (ix2 r 0)) (fun r => X9 (ix2 r l)) (W9 (ix2 0 l)))) := by
  pointwise [k0_pay44, k0_pay45, k0_pay46, k0_pay48]
  rfl

theorem a_11 (m : IVec S256x1 1) (A9 : FVec Ideal S256x128 .f32) (X10 : Vec Ideal S256x128 .bf16) (X11 : Vec Ideal S256x128 .bf16) (W10 : Vec Ideal S1x128 .f32) (W11 : Vec Ideal S1x128 .f32) (r : Fin 256) (l : Fin 128) : (k0_pay55 (F := Ideal) m A9 (k0_pay49 (F := Ideal) X10) (k0_pay50 (F := Ideal) m X10 W10) X11 W11) (ix2 r l) = max (max (A9 (ix2 r l) : EReal) (scAb (X10 (ix2 r l)) (colS (fun r => m (ix2 r 0)) (fun r => X10 (ix2 r l)) (W10 (ix2 0 l))))) (scAb (X11 (ix2 r l)) (colS (fun r => m (ix2 r 0)) (fun r => X11 (ix2 r l)) (W11 (ix2 0 l)))) := by
  pointwise [k0_pay49, k0_pay50, k0_pay52, k0_pay53, k0_pay55]
  rfl

theorem a_12 (m : IVec S256x1 1) (A11 : FVec Ideal S256x128 .f32) (X12 : Vec Ideal S256x128 .bf16) (W12 : Vec Ideal S1x128 .f32) (r : Fin 256) (l : Fin 128) : (k0_pay59 (F := Ideal) m A11 X12 W12) (ix2 r l) = max (A11 (ix2 r l) : EReal) (scAb (X12 (ix2 r l)) (colS (fun r => m (ix2 r 0)) (fun r => X12 (ix2 r l)) (W12 (ix2 0 l)))) := by
  pointwise [k0_pay56, k0_pay57, k0_pay59]
  rfl

theorem a_13 (m : IVec S256x1 1) (A12 : FVec Ideal S256x128 .f32) (X13 : Vec Ideal S256x128 .bf16) (W13 : Vec Ideal S1x128 .f32) (r : Fin 256) (l : Fin 128) : (k0_pay65 (F := Ideal) A12 (k0_pay60 (F := Ideal) X13) (k0_pay61 (F := Ideal) m X13) (k0_pay62 (F := Ideal) ) W13) (ix2 r l) = max (A12 (ix2 r l) : EReal) (scAb (X13 (ix2 r l)) (colS (fun r => m (ix2 r 0)) (fun r => X13 (ix2 r l)) (W13 (ix2 0 l)))) := by
  pointwise [k0_pay60, k0_pay61, k0_pay62, k0_pay63, k0_pay65]
  rfl

theorem a_15 (m : IVec S256x1 1) (A13 : FVec Ideal S256x128 .f32) (X14 : Vec Ideal S256x128 .bf16) (X15 : Vec Ideal S256x128 .bf16) (W14 : Vec Ideal S1x128 .f32) (W15 : Vec Ideal S1x128 .f32) (r : Fin 256) (l : Fin 128) : (k0_pay73 (F := Ideal) m A13 (k0_pay66 (F := Ideal) X14) (k0_pay67 (F := Ideal) m X14 W14) X15 W15) (ix2 r l) = max (max (A13 (ix2 r l) : EReal) (scAb (X14 (ix2 r l)) (colS (fun r => m (ix2 r 0)) (fun r => X14 (ix2 r l)) (W14 (ix2 0 l))))) (scAb (X15 (ix2 r l)) (colS (fun r => m (ix2 r 0)) (fun r => X15 (ix2 r l)) (W15 (ix2 0 l)))) := by
  pointwise [k0_pay66, k0_pay67, k0_pay70, k0_pay71, k0_pay73]
  rfl

theorem a_16 (m : IVec S256x1 1) (A15 : FVec Ideal S256x128 .f32) (X16 : Vec Ideal S256x128 .bf16) (W16 : Vec Ideal S1x128 .f32) (r : Fin 256) (l : Fin 128) : (k0_pay78 (F := Ideal) m A15 (k0_pay74 (F := Ideal) X16) W16) (ix2 r l) = max (A15 (ix2 r l) : EReal) (scAb (X16 (ix2 r l)) (colS (fun r => m (ix2 r 0)) (fun r => X16 (ix2 r l)) (W16 (ix2 0 l)))) := by
  pointwise [k0_pay74, k0_pay75, k0_pay76, k0_pay78]
  rfl

theorem a_17 (m : IVec S256x1 1) (A16 : FVec Ideal S256x128 .f32) (X17 : Vec Ideal S256x128 .bf16) (W17 : Vec Ideal S1x128 .f32) (r : Fin 256) (l : Fin 128) : (k0_pay83 (F := Ideal) A16 (k0_pay79 (F := Ideal) X17) (k0_pay80 (F := Ideal) m X17) W17) (ix2 r l) = max (A16 (ix2 r l) : EReal) (scAb (X17 (ix2 r l)) (colS (fun r => m (ix2 r 0)) (fun r => X17 (ix2 r l)) (W17 (ix2 0 l)))) := by
  pointwise [k0_pay79, k0_pay80, k0_pay81, k0_pay83]
  rfl

theorem a_19 (m : IVec S256x1 1) (A17 : FVec Ideal S256x128 .f32) (X18 : Vec Ideal S256x128 .bf16) (X19 : Vec Ideal S256x128 .bf16) (W18 : Vec Ideal S1x128 .f32) (W19 : Vec Ideal S1x128 .f32) (r : Fin 256) (l : Fin 128) : (k0_pay91 (F := Ideal) m A17 (k0_pay84 (F := Ideal) X18) (k0_pay85 (F := Ideal) m X18 W18) X19 W19) (ix2 r l) = max (max (A17 (ix2 r l) : EReal) (scAb (X18 (ix2 r l)) (colS (fun r => m (ix2 r 0)) (fun r => X18 (ix2 r l)) (W18 (ix2 0 l))))) (scAb (X19 (ix2 r l)) (colS (fun r => m (ix2 r 0)) (fun r => X19 (ix2 r l)) (W19 (ix2 0 l)))) := by
  pointwise [k0_pay84, k0_pay85, k0_pay88, k0_pay89, k0_pay91]
  rfl

theorem a_20 (m : IVec S256x1 1) (A19 : FVec Ideal S256x128 .f32) (X20 : Vec Ideal S256x128 .bf16) (W20 : Vec Ideal S1x128 .f32) (r : Fin 256) (l : Fin 128) : (k0_pay97 (F := Ideal) A19 (k0_pay92 (F := Ideal) X20) (k0_pay93 (F := Ideal) X20) (Scalar.ofBits (F := Ideal) .f32 0x00000000#32) (k0_pay94 m) W20) (ix2 r l) = max (A19 (ix2 r l) : EReal) (scAb (X20 (ix2 r l)) (colS (fun r => m (ix2 r 0)) (fun r => X20 (ix2 r l)) (W20 (ix2 0 l)))) := by
  pointwise [k0_pay92, k0_pay93, k0_pay94, k0_pay95, k0_pay97]
  rfl

theorem a_21 (m : IVec S256x1 1) (A20 : FVec Ideal S256x128 .f32) (X21 : Vec Ideal S256x128 .bf16) (W21 : Vec Ideal S1x128 .f32) (r : Fin 256) (l : Fin 128) : (k0_pay104 (F := Ideal) A20 (k0_pay98 (F := Ideal) X21) (k0_pay99 (F := Ideal) m X21) (k0_pay100 (F := Ideal) W21) (k0_pay101 (F := Ideal) )) (ix2 r l) = max (A20 (ix2 r l) : EReal) (scAb (X21 (ix2 r l)) (colS (fun r => m (ix2 r 0)) (fun r => X21 (ix2 r l)) (W21 (ix2 0 l)))) := by
  pointwise [k0_pay98, k0_pay99, k0_pay100, k0_pay101, k0_pay102, k0_pay104]
  rfl

theorem a_23 (m : IVec S256x1 1) (A21 : FVec Ideal S256x128 .f32) (X22 : Vec Ideal S256x128 .bf16) (X23 : Vec Ideal S256x128 .bf16) (W22 : Vec Ideal S1x128 .f32) (W23 : Vec Ideal S1x128 .f32) (r : Fin 256) (l : Fin 128) : (k0_pay111 (F := Ideal) m A21 (k0_pay105 (F := Ideal) X22) (k0_pay106 (F := Ideal) m X22 W22) X23 W23) (ix2 r l) = max (max (A21 (ix2 r l) : EReal) (scAb (X22 (ix2 r l)) (colS (fun r => m (ix2 r 0)) (fun r => X22 (ix2 r l)) (W22 (ix2 0 l))))) (scAb (X23 (ix2 r l)) (colS (fun r => m (ix2 r 0)) (fun r => X23 (ix2 r l)) (W23 (ix2 0 l)))) := by
  pointwise [k0_pay105, k0_pay106, k0_pay108, k0_pay109, k0_pay111]
  rfl

theorem a_24 (m : IVec S256x1 1) (A23 : FVec Ideal S256x128 .f32) (X24 : Vec Ideal S256x128 .bf16) (W24 : Vec Ideal S1x128 .f32) (r : Fin 256) (l : Fin 128) : (k0_pay116 (F := Ideal) A23 (k0_pay112 (F := Ideal) X24) (k0_pay113 (F := Ideal) m X24) W24) (ix2 r l) = max (A23 (ix2 r l) : EReal) (scAb (X24 (ix2 r l)) (colS (fun r => m (ix2 r 0)) (fun r => X24 (ix2 r l)) (W24 (ix2 0 l)))) := by
  pointwise [k0_pay112, k0_pay113, k0_pay114, k0_pay116]
  rfl

theorem a_26 (m : IVec S256x1 1) (A24 : FVec Ideal S256x128 .f32) (X25 : Vec Ideal S256x128 .bf16) (X26 : Vec Ideal S256x128 .bf16) (W25 : Vec Ideal S1x128 .f32) (W26 : Vec Ideal S1x128 .f32) (r : Fin 256) (l : Fin 128) : (k0_pay123 (F := Ideal) m A24 (k0_pay117 (F := Ideal) X25) (k0_pay118 (F := Ideal) m X25 W25) X26 W26) (ix2 r l) = max (max (A24 (ix2 r l) : EReal) (scAb (X25 (ix2 r l)) (colS (fun r => m (ix2 r 0)) (fun r => X25 (ix2 r l)) (W25 (ix2 0 l))))) (scAb (X26 (ix2 r l)) (colS (fun r => m (ix2 r 0)) (fun r => X26 (ix2 r l)) (W26 (ix2 0 l)))) := by
  pointwise [k0_pay117, k0_pay118, k0_pay120, k0_pay121, k0_pay123]
  rfl

theorem a_q (m : IVec S256x1 1) (A26 : FVec Ideal S256x128 .f32) (X27 : Vec Ideal S256x128 .bf16) (W27 : Vec Ideal S1x128 .f32) (r : Fin 256) : ((k0_pay127 (F := Ideal) m A26 X27 W27) (ix2 r 0) : EReal) = stepOf (Finset.fold max (Ideal.ofBits FTy.f32 4286578688#32) (fun l : Fin 128 => max (A26 (ix2 r l) : EReal) (scAb (X27 (ix2 r l)) (colS (fun r => m (ix2 r 0)) (fun r => X27 (ix2 r l)) (W27 (ix2 0 l))))) Finset.univ) := by
  pointwise [k0_pay124, k0_pay125, k0_pay127]
  rfl

theorem a_qm (m : IVec S256x1 1) (A26 : FVec Ideal S256x128 .f32) (X27 : Vec Ideal S256x128 .bf16) (W27 : Vec Ideal S1x128 .f32) (r : Fin 256) : ((k0_pay128 (F := Ideal) m A26 X27 W27) (ix2 r 0) : EReal) = Scalar.select (m (ix2 r 0)) (stepOf (Finset.fold max (Ideal.ofBits FTy.f32 4286578688#32) (fun l : Fin 128 => max (A26 (ix2 r l) : EReal) (scAb (X27 (ix2 r l)) (colS (fun r => m (ix2 r 0)) (fun r => X27 (ix2 r l)) (W27 (ix2 0 l))))) Finset.univ)) 1 := by
  pointwise [k0_pay124, k0_pay125, k0_pay127, k0_pay128]
  rfl

theorem pay130_at (a : FVec Ideal S256x1 .f32) (r : Fin 256) (l : Fin 128) : (k0_pay130 (F := Ideal) a) (ix2 r l) = a (ix2 r 0) := by
  pointwise [k0_pay130, k0_pay129]

theorem pay131_at (a : FVec Ideal S256x1 .f32) (l : Fin 128) : (k0_pay131 (F := Ideal) a) (ix2 0 l) = a (ix2 ⟨l.val, by omega⟩ 0) := by
  pointwise [k0_pay131, k0_pay129]

theorem pay132_at (a : FVec Ideal S256x1 .f32) (l : Fin 128) : (k0_pay132 (F := Ideal) a) (ix2 0 l) = a (ix2 ⟨128 + l.val, by omega⟩ 0) := by
  pointwise [k0_pay132, k0_pay129]

end Cert.KernelIdeal.Gen
-- ==== Proof.KI.HeadAcc.lean ====
/- The quantities of the grid's first point in closed form: channel scales, row steps, codes; and how the kernel's groups of 128 columns build them. -/
module

public import proofs.«01_k».proof.Proof.KI.HeadPays
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic

/-- The channel scales. -/
def sV (m : IVec S256x1 1) (x : Vec Ideal S256x3584 .bf16) (wm : Vec Ideal S1x3584 .f32) : Vec Ideal S1x3584 .f32 :=
  fun y => colS (fun r => m (ix2 r 0)) (fun r => x (ix2 r (y 1))) (wm (ix2 0 (y 1)))
/-- The channel scales as a column repeated over 128 lanes. -/
def scT (m : IVec S256x1 1) (x : Vec Ideal S256x3584 .bf16) (wm : Vec Ideal S1x3584 .f32) : Vec Ideal S3584x128 .f32 :=
  fun y => sV m x wm (ix2 0 (y 0))
/-- An activation over its channel's scale. -/
def x8V (m : IVec S256x1 1) (x : Vec Ideal S256x3584 .bf16) (wm : Vec Ideal S1x3584 .f32) (r : Fin 256) (k : Fin 3584) : EReal :=
  Ideal.div (x (ix2 r k)) (sV m x wm (ix2 0 k))
/-- A row's quantization step. -/
def qV (m : IVec S256x1 1) (x : Vec Ideal S256x3584 .bf16) (wm : Vec Ideal S1x3584 .f32) (r : Fin 256) : EReal :=
  stepOf (⨆ k : Fin 3584, ab (x8V m x wm r k))
/-- A row's step, `1` for a row that is not valid. -/
def qmV (m : IVec S256x1 1) (x : Vec Ideal S256x3584 .bf16) (wm : Vec Ideal S1x3584 .f32) (r : Fin 256) : EReal :=
  Scalar.select (m (ix2 r 0)) (qV m x wm r) 1
/-- The activations' codes as numbers, zero on rows that are not valid. -/
def xcbV (m : IVec S256x1 1) (x : Vec Ideal S256x3584 .bf16) (wm : Vec Ideal S1x3584 .f32) : Vec Ideal S256x3584 .bf16 :=
  fun y => (Scalar.select (m (ix2 (y 0) 0)) (codeF (Ideal.div (x8V m x wm (y 0) (y 1)) (qV m x wm (y 0)))) 0 : EReal)
/-- The activations' codes as 8-bit integers. -/
def xcV (m : IVec S256x1 1) (x : Vec Ideal S256x3584 .bf16) (wm : Vec Ideal S1x3584 .f32) : Vec Ideal S256x3584 .i8 :=
  fun y => FloatOps.fptosi (F := Ideal) (φ := FTy.f32) 8 (Scalar.select (m (ix2 (y 0) 0)) (codeF (Ideal.div (x8V m x wm (y 0) (y 1)) (qV m x wm (y 0)))) 0 : EReal)
/-- The rows' steps repeated over 128 lanes. -/
def xsbV (m : IVec S256x1 1) (x : Vec Ideal S256x3584 .bf16) (wm : Vec Ideal S1x3584 .f32) : Vec Ideal S256x128 .f32 :=
  fun y => qmV m x wm (y 0)
/-- The rows' steps as the kernel hands them back: row `128 a + b` at `(a, b)`. -/
def xsV (m : IVec S256x1 1) (x : Vec Ideal S256x3584 .bf16) (wm : Vec Ideal S1x3584 .f32) : Vec Ideal S2x128 .f32 :=
  fun y => qmV m x wm ⟨128 * (y 0).val + (y 1).val, by have h0 : (y 0).val < 2 := (y 0).isLt; have h1 : (y 1).val < 128 := (y 1).isLt; omega⟩

/-- A group of 128 columns of the activations, as loaded. -/
abbrev LX (arg2 : Memref sig .tc .vmem S256x3584 .bf16) (harg2 : arg2.IsWhole) (x : Vec Ideal S256x3584 .bf16) (o : ℕ)
    (inb : ∀ a, (![0, o] : Fin S256x3584.rank → ℕ) a + S256x128.size a ≤ S256x3584.size a) : Vec Ideal S256x128 .bf16 :=
  View.readAt (Elt Ideal) arg2.view (Rect.unit (s := S256x3584) ![0, o] S256x128.size inb).toLoadRect (harg2.unread x)
/-- A group of 128 of the weights' largest magnitudes, as loaded. -/
abbrev LW (arg3 : Memref sig .tc .vmem S1x3584 .f32) (harg3 : arg3.IsWhole) (wm : Vec Ideal S1x3584 .f32) (o : ℕ)
    (inb : ∀ a, (![0, o] : Fin S1x3584.rank → ℕ) a + S1x128.size a ≤ S1x3584.size a) : Vec Ideal S1x128 .f32 :=
  View.readAt (Elt Ideal) arg3.view (Rect.unit (s := S1x3584) ![0, o] S1x128.size inb).toLoadRect (harg3.unread wm)

theorem LX_at (arg2 : Memref sig .tc .vmem S256x3584 .bf16) (harg2 : arg2.IsWhole) (x : Vec Ideal S256x3584 .bf16) (o : ℕ) (inb) (r : Fin 256) (l : Fin 128) (h : o + l.val < 3584) :
    LX arg2 harg2 x o inb (ix2 r l) = x (ix2 r ⟨o + l.val, h⟩) := by
  refine (readAt_unit_apply arg2.view _ inb rfl _ (ix2 r ⟨o + l.val, h⟩) (Fin.forall_fin_two.mpr ⟨(Nat.zero_add _).symm, rfl⟩)).trans ?_
  rw [harg2.read_unread]

theorem LW_at (arg3 : Memref sig .tc .vmem S1x3584 .f32) (harg3 : arg3.IsWhole) (wm : Vec Ideal S1x3584 .f32) (o : ℕ) (inb) (l : Fin 128) (h : o + l.val < 3584) :
    LW arg3 harg3 wm o inb (ix2 0 l) = wm (ix2 0 ⟨o + l.val, h⟩) := by
  refine (readAt_unit_apply arg3.view _ inb rfl _ (ix2 0 ⟨o + l.val, h⟩) (Fin.forall_fin_two.mpr ⟨rfl, rfl⟩)).trans ?_
  rw [harg3.read_unread]

/-- The channel scales computed from a loaded group. -/
theorem colS_ld (m : IVec S256x1 1) (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (o : ℕ) (inb) (inb') (l : Fin 128) (h : o + l.val < 3584) :
    colS (fun r => m (ix2 r 0)) (fun r => LX arg2 harg2 x o inb (ix2 r l)) (LW arg3 harg3 wm o inb' (ix2 0 l)) = sV m x wm (ix2 0 ⟨o + l.val, h⟩) := by
  rw [LW_at arg3 harg3 wm o inb' l h]
  exact congrArg (fun f => colS (fun r => m (ix2 r 0)) f (wm (ix2 0 ⟨o + l.val, h⟩))) (funext fun r => LX_at arg2 harg2 x o inb r l h)

theorem scAb_ld (m : IVec S256x1 1) (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (o : ℕ) (inb) (inb') (r : Fin 256) (l : Fin 128) (h : o + l.val < 3584) :
    scAb (LX arg2 harg2 x o inb (ix2 r l)) (colS (fun r => m (ix2 r 0)) (fun r => LX arg2 harg2 x o inb (ix2 r l)) (LW arg3 harg3 wm o inb' (ix2 0 l))) = ab (x8V m x wm r ⟨o + l.val, h⟩) := by
  rw [colS_ld m arg2 harg2 arg3 harg3 x wm o inb inb' l h, LX_at arg2 harg2 x o inb r l h]; rfl

/-- The row maxima's running state after `j` groups of 128 columns: at lane `l`, the largest magnitude of the columns `l` modulo 128 so far. -/
def AccX (x8 : Fin 256 → Fin 3584 → EReal) (j : ℕ) (a : (⟨2, ![256, 128]⟩ : Shape).Idx → EReal) : Prop :=
  ∀ (r : Fin 256) (l : Fin 128) (z : EReal), a (ix2 r l) ≤ z ↔ 0 ≤ z ∧ ∀ q : ℕ, q < j → ∀ h : 128 * q + l.val < 3584, ab (x8 r ⟨128 * q + l.val, h⟩) ≤ z

theorem AccX.first {x8 : Fin 256 → Fin 3584 → EReal} {a : (⟨2, ![256, 128]⟩ : Shape).Idx → EReal}
    (h : ∀ (r : Fin 256) (l : Fin 128), a (ix2 r l) = max 0 (ab (x8 r ⟨0 + l.val, by omega⟩))) : AccX x8 1 a := by
  intro r l z
  rw [h r l, max_le_iff]
  refine and_congr_right fun _ => ⟨fun h q hq hl => ?_, fun h => ?_⟩
  · obtain rfl : q = 0 := by omega
    exact h
  · exact h 0 (by omega) (by omega)

theorem AccX.one {x8 : Fin 256 → Fin 3584 → EReal} {j : ℕ} {a a' : (⟨2, ![256, 128]⟩ : Shape).Idx → EReal} (ha : AccX x8 j a) (hj : j < 28)
    (h : ∀ (r : Fin 256) (l : Fin 128), a' (ix2 r l) = max (a (ix2 r l)) (ab (x8 r ⟨128 * j + l.val, by omega⟩))) : AccX x8 (j + 1) a' := by
  intro r l z
  rw [h r l, max_le_iff, ha r l z, and_assoc]
  refine and_congr_right fun _ => ⟨fun h q hq hl => ?_, fun h => ⟨fun q hq => h q (by omega), h j (by omega) (by omega)⟩⟩
  rcases Nat.lt_succ_iff_lt_or_eq.1 hq with hlt | rfl
  · exact h.1 q hlt hl
  · exact h.2

theorem AccX.two {x8 : Fin 256 → Fin 3584 → EReal} {j : ℕ} {a a' : (⟨2, ![256, 128]⟩ : Shape).Idx → EReal} (ha : AccX x8 j a) (hj : j + 1 < 28)
    (h : ∀ (r : Fin 256) (l : Fin 128), a' (ix2 r l) = max (max (a (ix2 r l)) (ab (x8 r ⟨128 * j + l.val, by omega⟩))) (ab (x8 r ⟨128 * (j + 1) + l.val, by omega⟩))) : AccX x8 (j + 2) a' :=
  AccX.one (j := j + 1) (a := fun y => max (a y) (ab (x8 (y 0) ⟨128 * j + (y 1).val, by have h1 : (y 1).val < 128 := (y 1).isLt; omega⟩)))
    (AccX.one ha (by omega) fun r l => rfl) hj h

/-- The running state after all the columns, taken over its lanes, is the row's largest magnitude. -/
theorem AccX.row {x8 : Fin 256 → Fin 3584 → EReal} {a : (⟨2, ![256, 128]⟩ : Shape).Idx → EReal} (ha : AccX x8 28 a) (r : Fin 256) :
    Finset.fold max (Ideal.ofBits FTy.f32 4286578688#32) (fun l : Fin 128 => a (ix2 r l)) Finset.univ = ⨆ k : Fin 3584, ab (x8 r k) := by
  refine eq_of_forall_ge_iff fun z => ?_
  rw [Finset.fold_max_le, neg_inf_bits, iSup_le_iff]
  constructor
  · rintro ⟨-, h1⟩ k
    have := ((ha r ⟨k.val % 128, Nat.mod_lt _ (by decide)⟩ z).1 (h1 _ (Finset.mem_univ _))).2 (k.val / 128) (by omega) (by dsimp only; omega)
    rwa [show (⟨128 * (k.val / 128) + k.val % 128, by omega⟩ : Fin 3584) = k from Fin.ext (Nat.div_add_mod _ _)] at this
  · intro h1
    exact ⟨bot_le, fun l _ => (ha r l z).2 ⟨(ab_nonneg _).trans (h1 0), fun q _ h => h1 _⟩⟩

/-- The row maxima's running states, group of columns by group. -/
abbrev aS0 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay5 (F := Ideal) l0 l1 (LX arg2 harg2 x 0 inb_S256x3584_S256x128_0_0) (LW arg3 harg3 wm 0 inb_S1x3584_S1x128_0_0))
abbrev aS1 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay10 (F := Ideal) (k0_pay1 (F := Ideal) l0 l1) (aS0 arg2 harg2 arg3 harg3 x wm l0 l1) (k0_pay6 (F := Ideal) (LX arg2 harg2 x 128 inb_S256x3584_S256x128_0_128)) (LW arg3 harg3 wm 128 inb_S1x3584_S1x128_0_128))
abbrev aS2 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay15 (F := Ideal) (aS1 arg2 harg2 arg3 harg3 x wm l0 l1) (k0_pay11 (F := Ideal) (LX arg2 harg2 x 256 inb_S256x3584_S256x128_0_256)) (k0_pay12 (F := Ideal) (k0_pay1 (F := Ideal) l0 l1) (LX arg2 harg2 x 256 inb_S256x3584_S256x128_0_256)) (LW arg3 harg3 wm 256 inb_S1x3584_S1x128_0_256))
abbrev aS4 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay23 (F := Ideal) (k0_pay1 (F := Ideal) l0 l1) (aS2 arg2 harg2 arg3 harg3 x wm l0 l1) (k0_pay16 (F := Ideal) (LX arg2 harg2 x 384 inb_S256x3584_S256x128_0_384)) (k0_pay17 (F := Ideal) (k0_pay1 (F := Ideal) l0 l1) (LX arg2 harg2 x 384 inb_S256x3584_S256x128_0_384) (LW arg3 harg3 wm 384 inb_S1x3584_S1x128_0_384)) (LX arg2 harg2 x 512 inb_S256x3584_S256x128_0_512) (LW arg3 harg3 wm 512 inb_S1x3584_S1x128_0_512))
abbrev aS5 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay29 (F := Ideal) (aS4 arg2 harg2 arg3 harg3 x wm l0 l1) (k0_pay24 (F := Ideal) (LX arg2 harg2 x 640 inb_S256x3584_S256x128_0_640)) (k0_pay25 (F := Ideal) (LX arg2 harg2 x 640 inb_S256x3584_S256x128_0_640)) (Scalar.ofBits (F := Ideal) .f32 0x00000000#32) (k0_pay26 (k0_pay1 (F := Ideal) l0 l1)) (LW arg3 harg3 wm 640 inb_S1x3584_S1x128_0_640))
abbrev aS6 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay36 (F := Ideal) (aS5 arg2 harg2 arg3 harg3 x wm l0 l1) (k0_pay30 (F := Ideal) (LX arg2 harg2 x 768 inb_S256x3584_S256x128_0_768)) (k0_pay31 (F := Ideal) (k0_pay1 (F := Ideal) l0 l1) (LX arg2 harg2 x 768 inb_S256x3584_S256x128_0_768)) (k0_pay32 (F := Ideal) (LW arg3 harg3 wm 768 inb_S1x3584_S1x128_0_768)) (k0_pay33 (F := Ideal) ))
abbrev aS8 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay43 (F := Ideal) (k0_pay1 (F := Ideal) l0 l1) (aS6 arg2 harg2 arg3 harg3 x wm l0 l1) (k0_pay37 (F := Ideal) (LX arg2 harg2 x 896 inb_S256x3584_S256x128_0_896)) (k0_pay38 (F := Ideal) (k0_pay1 (F := Ideal) l0 l1) (LX arg2 harg2 x 896 inb_S256x3584_S256x128_0_896) (LW arg3 harg3 wm 896 inb_S1x3584_S1x128_0_896)) (LX arg2 harg2 x 1024 inb_S256x3584_S256x128_0_1024) (LW arg3 harg3 wm 1024 inb_S1x3584_S1x128_0_1024))
abbrev aS9 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay48 (F := Ideal) (aS8 arg2 harg2 arg3 harg3 x wm l0 l1) (k0_pay44 (F := Ideal) (LX arg2 harg2 x 1152 inb_S256x3584_S256x128_0_1152)) (k0_pay45 (F := Ideal) (k0_pay1 (F := Ideal) l0 l1) (LX arg2 harg2 x 1152 inb_S256x3584_S256x128_0_1152)) (LW arg3 harg3 wm 1152 inb_S1x3584_S1x128_0_1152))
abbrev aS11 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay55 (F := Ideal) (k0_pay1 (F := Ideal) l0 l1) (aS9 arg2 harg2 arg3 harg3 x wm l0 l1) (k0_pay49 (F := Ideal) (LX arg2 harg2 x 1280 inb_S256x3584_S256x128_0_1280)) (k0_pay50 (F := Ideal) (k0_pay1 (F := Ideal) l0 l1) (LX arg2 harg2 x 1280 inb_S256x3584_S256x128_0_1280) (LW arg3 harg3 wm 1280 inb_S1x3584_S1x128_0_1280)) (LX arg2 harg2 x 1408 inb_S256x3584_S256x128_0_1408) (LW arg3 harg3 wm 1408 inb_S1x3584_S1x128_0_1408))
abbrev aS12 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay59 (F := Ideal) (k0_pay1 (F := Ideal) l0 l1) (aS11 arg2 harg2 arg3 harg3 x wm l0 l1) (LX arg2 harg2 x 1536 inb_S256x3584_S256x128_0_1536) (LW arg3 harg3 wm 1536 inb_S1x3584_S1x128_0_1536))
abbrev aS13 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay65 (F := Ideal) (aS12 arg2 harg2 arg3 harg3 x wm l0 l1) (k0_pay60 (F := Ideal) (LX arg2 harg2 x 1664 inb_S256x3584_S256x128_0_1664)) (k0_pay61 (F := Ideal) (k0_pay1 (F := Ideal) l0 l1) (LX arg2 harg2 x 1664 inb_S256x3584_S256x128_0_1664)) (k0_pay62 (F := Ideal) ) (LW arg3 harg3 wm 1664 inb_S1x3584_S1x128_0_1664))
abbrev aS15 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay73 (F := Ideal) (k0_pay1 (F := Ideal) l0 l1) (aS13 arg2 harg2 arg3 harg3 x wm l0 l1) (k0_pay66 (F := Ideal) (LX arg2 harg2 x 1792 inb_S256x3584_S256x128_0_1792)) (k0_pay67 (F := Ideal) (k0_pay1 (F := Ideal) l0 l1) (LX arg2 harg2 x 1792 inb_S256x3584_S256x128_0_1792) (LW arg3 harg3 wm 1792 inb_S1x3584_S1x128_0_1792)) (LX arg2 harg2 x 1920 inb_S256x3584_S256x128_0_1920) (LW arg3 harg3 wm 1920 inb_S1x3584_S1x128_0_1920))
abbrev aS16 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay78 (F := Ideal) (k0_pay1 (F := Ideal) l0 l1) (aS15 arg2 harg2 arg3 harg3 x wm l0 l1) (k0_pay74 (F := Ideal) (LX arg2 harg2 x 2048 inb_S256x3584_S256x128_0_2048)) (LW arg3 harg3 wm 2048 inb_S1x3584_S1x128_0_2048))
abbrev aS17 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay83 (F := Ideal) (aS16 arg2 harg2 arg3 harg3 x wm l0 l1) (k0_pay79 (F := Ideal) (LX arg2 harg2 x 2176 inb_S256x3584_S256x128_0_2176)) (k0_pay80 (F := Ideal) (k0_pay1 (F := Ideal) l0 l1) (LX arg2 harg2 x 2176 inb_S256x3584_S256x128_0_2176)) (LW arg3 harg3 wm 2176 inb_S1x3584_S1x128_0_2176))
abbrev aS19 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay91 (F := Ideal) (k0_pay1 (F := Ideal) l0 l1) (aS17 arg2 harg2 arg3 harg3 x wm l0 l1) (k0_pay84 (F := Ideal) (LX arg2 harg2 x 2304 inb_S256x3584_S256x128_0_2304)) (k0_pay85 (F := Ideal) (k0_pay1 (F := Ideal) l0 l1) (LX arg2 harg2 x 2304 inb_S256x3584_S256x128_0_2304) (LW arg3 harg3 wm 2304 inb_S1x3584_S1x128_0_2304)) (LX arg2 harg2 x 2432 inb_S256x3584_S256x128_0_2432) (LW arg3 harg3 wm 2432 inb_S1x3584_S1x128_0_2432))
abbrev aS20 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay97 (F := Ideal) (aS19 arg2 harg2 arg3 harg3 x wm l0 l1) (k0_pay92 (F := Ideal) (LX arg2 harg2 x 2560 inb_S256x3584_S256x128_0_2560)) (k0_pay93 (F := Ideal) (LX arg2 harg2 x 2560 inb_S256x3584_S256x128_0_2560)) (Scalar.ofBits (F := Ideal) .f32 0x00000000#32) (k0_pay94 (k0_pay1 (F := Ideal) l0 l1)) (LW arg3 harg3 wm 2560 inb_S1x3584_S1x128_0_2560))
abbrev aS21 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay104 (F := Ideal) (aS20 arg2 harg2 arg3 harg3 x wm l0 l1) (k0_pay98 (F := Ideal) (LX arg2 harg2 x 2688 inb_S256x3584_S256x128_0_2688)) (k0_pay99 (F := Ideal) (k0_pay1 (F := Ideal) l0 l1) (LX arg2 harg2 x 2688 inb_S256x3584_S256x128_0_2688)) (k0_pay100 (F := Ideal) (LW arg3 harg3 wm 2688 inb_S1x3584_S1x128_0_2688)) (k0_pay101 (F := Ideal) ))
abbrev aS23 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay111 (F := Ideal) (k0_pay1 (F := Ideal) l0 l1) (aS21 arg2 harg2 arg3 harg3 x wm l0 l1) (k0_pay105 (F := Ideal) (LX arg2 harg2 x 2816 inb_S256x3584_S256x128_0_2816)) (k0_pay106 (F := Ideal) (k0_pay1 (F := Ideal) l0 l1) (LX arg2 harg2 x 2816 inb_S256x3584_S256x128_0_2816) (LW arg3 harg3 wm 2816 inb_S1x3584_S1x128_0_2816)) (LX arg2 harg2 x 2944 inb_S256x3584_S256x128_0_2944) (LW arg3 harg3 wm 2944 inb_S1x3584_S1x128_0_2944))
abbrev aS24 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay116 (F := Ideal) (aS23 arg2 harg2 arg3 harg3 x wm l0 l1) (k0_pay112 (F := Ideal) (LX arg2 harg2 x 3072 inb_S256x3584_S256x128_0_3072)) (k0_pay113 (F := Ideal) (k0_pay1 (F := Ideal) l0 l1) (LX arg2 harg2 x 3072 inb_S256x3584_S256x128_0_3072)) (LW arg3 harg3 wm 3072 inb_S1x3584_S1x128_0_3072))
abbrev aS26 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x128 .f32 :=
  (k0_pay123 (F := Ideal) (k0_pay1 (F := Ideal) l0 l1) (aS24 arg2 harg2 arg3 harg3 x wm l0 l1) (k0_pay117 (F := Ideal) (LX arg2 harg2 x 3200 inb_S256x3584_S256x128_0_3200)) (k0_pay118 (F := Ideal) (k0_pay1 (F := Ideal) l0 l1) (LX arg2 harg2 x 3200 inb_S256x3584_S256x128_0_3200) (LW arg3 harg3 wm 3200 inb_S1x3584_S1x128_0_3200)) (LX arg2 harg2 x 3328 inb_S256x3584_S256x128_0_3328) (LW arg3 harg3 wm 3328 inb_S1x3584_S1x128_0_3328))
/-- The rows' steps, as computed. -/
abbrev aSq (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x1 .f32 :=
  (k0_pay127 (F := Ideal) (k0_pay1 (F := Ideal) l0 l1) (aS26 arg2 harg2 arg3 harg3 x wm l0 l1) (LX arg2 harg2 x 3456 inb_S256x3584_S256x128_0_3456) (LW arg3 harg3 wm 3456 inb_S1x3584_S1x128_0_3456))
/-- The rows' steps, as computed. -/
abbrev aSqm (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : FVec Ideal S256x1 .f32 :=
  (k0_pay128 (F := Ideal) (k0_pay1 (F := Ideal) l0 l1) (aS26 arg2 harg2 arg3 harg3 x wm l0 l1) (LX arg2 harg2 x 3456 inb_S256x3584_S256x128_0_3456) (LW arg3 harg3 wm 3456 inb_S1x3584_S1x128_0_3456))

/-- The running state after 27 of the 28 groups. -/
theorem acc27 (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) : AccX (x8V (k0_pay1 (F := Ideal) l0 l1) x wm) 27 (aS26 arg2 harg2 arg3 harg3 x wm l0 l1) := by
  have A0 : AccX (x8V (k0_pay1 (F := Ideal) l0 l1) x wm) 1 (aS0 arg2 harg2 arg3 harg3 x wm l0 l1) := AccX.first fun r l => (a_0 l0 l1 (LX arg2 harg2 x 0 inb_S256x3584_S256x128_0_0) (LW arg3 harg3 wm 0 inb_S1x3584_S1x128_0_0) r l).trans (congrArg (max 0) (scAb_ld (k0_pay1 (F := Ideal) l0 l1) arg2 harg2 arg3 harg3 x wm 0 inb_S256x3584_S256x128_0_0 inb_S1x3584_S1x128_0_0 r l (by omega)))
  have A1 : AccX (x8V (k0_pay1 (F := Ideal) l0 l1) x wm) 2 (aS1 arg2 harg2 arg3 harg3 x wm l0 l1) := A0.one (by decide) fun r l => (a_1 (k0_pay1 (F := Ideal) l0 l1) (aS0 arg2 harg2 arg3 harg3 x wm l0 l1) (LX arg2 harg2 x 128 inb_S256x3584_S256x128_0_128) (LW arg3 harg3 wm 128 inb_S1x3584_S1x128_0_128) r l).trans (congrArg (max _) (scAb_ld (k0_pay1 (F := Ideal) l0 l1) arg2 harg2 arg3 harg3 x wm 128 inb_S256x3584_S256x128_0_128 inb_S1x3584_S1x128_0_128 r l (by omega)))
  have A2 : AccX (x8V (k0_pay1 (F := Ideal) l0 l1) x wm) 3 (aS2 arg2 harg2 arg3 harg3 x wm l0 l1) := A1.one (by decide) fun r l => (a_2 (k0_pay1 (F := Ideal) l0 l1) (aS1 arg2 harg2 arg3 harg3 x wm l0 l1) (LX arg2 harg2 x 256 inb_S256x3584_S256x128_0_256) (LW arg3 harg3 wm 256 inb_S1x3584_S1x128_0_256) r l).trans (congrArg (max _) (scAb_ld (k0_pay1 (F := Ideal) l0 l1) arg2 harg2 arg3 harg3 x wm 256 inb_S256x3584_S256x128_0_256 inb_S1x3584_S1x128_0_256 r l (by omega)))
  have A4 : AccX (x8V (k0_pay1 (F := Ideal) l0 l1) x wm) 5 (aS4 arg2 harg2 arg3 harg3 x wm l0 l1) := A2.two (by decide) fun r l => (a_4 (k0_pay1 (F := Ideal) l0 l1) (aS2 arg2 harg2 arg3 harg3 x wm l0 l1) (LX arg2 harg2 x 384 inb_S256x3584_S256x128_0_384) (LX arg2 harg2 x 512 inb_S256x3584_S256x128_0_512) (LW arg3 harg3 wm 384 inb_S1x3584_S1x128_0_384) (LW arg3 harg3 wm 512 inb_S1x3584_S1x128_0_512) r l).trans (congrArg₂ max (congrArg (max _) (scAb_ld (k0_pay1 (F := Ideal) l0 l1) arg2 harg2 arg3 harg3 x wm 384 inb_S256x3584_S256x128_0_384 inb_S1x3584_S1x128_0_384 r l (by omega))) (scAb_ld (k0_pay1 (F := Ideal) l0 l1) arg2 harg2 arg3 harg3 x wm 512 inb_S256x3584_S256x128_0_512 inb_S1x3584_S1x128_0_512 r l (by omega)))
  have A5 : AccX (x8V (k0_pay1 (F := Ideal) l0 l1) x wm) 6 (aS5 arg2 harg2 arg3 harg3 x wm l0 l1) := A4.one (by decide) fun r l => (a_5 (k0_pay1 (F := Ideal) l0 l1) (aS4 arg2 harg2 arg3 harg3 x wm l0 l1) (LX arg2 harg2 x 640 inb_S256x3584_S256x128_0_640) (LW arg3 harg3 wm 640 inb_S1x3584_S1x128_0_640) r l).trans (congrArg (max _) (scAb_ld (k0_pay1 (F := Ideal) l0 l1) arg2 harg2 arg3 harg3 x wm 640 inb_S256x3584_S256x128_0_640 inb_S1x3584_S1x128_0_640 r l (by omega)))
  have A6 : AccX (x8V (k0_pay1 (F := Ideal) l0 l1) x wm) 7 (aS6 arg2 harg2 arg3 harg3 x wm l0 l1) := A5.one (by decide) fun r l => (a_6 (k0_pay1 (F := Ideal) l0 l1) (aS5 arg2 harg2 arg3 harg3 x wm l0 l1) (LX arg2 harg2 x 768 inb_S256x3584_S256x128_0_768) (LW arg3 harg3 wm 768 inb_S1x3584_S1x128_0_768) r l).trans (congrArg (max _) (scAb_ld (k0_pay1 (F := Ideal) l0 l1) arg2 harg2 arg3 harg3 x wm 768 inb_S256x3584_S256x128_0_768 inb_S1x3584_S1x128_0_768 r l (by omega)))
  have A8 : AccX (x8V (k0_pay1 (F := Ideal) l0 l1) x wm) 9 (aS8 arg2 harg2 arg3 harg3 x wm l0 l1) := A6.two (by decide) fun r l => (a_8 (k0_pay1 (F := Ideal) l0 l1) (aS6 arg2 harg2 arg3 harg3 x wm l0 l1) (LX arg2 harg2 x 896 inb_S256x3584_S256x128_0_896) (LX arg2 harg2 x 1024 inb_S256x3584_S256x128_0_1024) (LW arg3 harg3 wm 896 inb_S1x3584_S1x128_0_896) (LW arg3 harg3 wm 1024 inb_S1x3584_S1x128_0_1024) r l).trans (congrArg₂ max (congrArg (max _) (scAb_ld (k0_pay1 (F := Ideal) l0 l1) arg2 harg2 arg3 harg3 x wm 896 inb_S256x3584_S256x128_0_896 inb_S1x3584_S1x128_0_896 r l (by omega))) (scAb_ld (k0_pay1 (F := Ideal) l0 l1) arg2 harg2 arg3 harg3 x wm 1024 inb_S256x3584_S256x128_0_1024 inb_S1x3584_S1x128_0_1024 r l (by omega)))
  have A9 : AccX (x8V (k0_pay1 (F := Ideal) l0 l1) x wm) 10 (aS9 arg2 harg2 arg3 harg3 x wm l0 l1) := A8.one (by decide) fun r l => (a_9 (k0_pay1 (F := Ideal) l0 l1) (aS8 arg2 harg2 arg3 harg3 x wm l0 l1) (LX arg2 harg2 x 1152 inb_S256x3584_S256x128_0_1152) (LW arg3 harg3 wm 1152 inb_S1x3584_S1x128_0_1152) r l).trans (congrArg (max _) (scAb_ld (k0_pay1 (F := Ideal) l0 l1) arg2 harg2 arg3 harg3 x wm 1152 inb_S256x3584_S256x128_0_1152 inb_S1x3584_S1x128_0_1152 r l (by omega)))
  have A11 : AccX (x8V (k0_pay1 (F := Ideal) l0 l1) x wm) 12 (aS11 arg2 harg2 arg3 harg3 x wm l0 l1) := A9.two (by decide) fun r l => (a_11 (k0_pay1 (F := Ideal) l0 l1) (aS9 arg2 harg2 arg3 harg3 x wm l0 l1) (LX arg2 harg2 x 1280 inb_S256x3584_S256x128_0_1280) (LX arg2 harg2 x 1408 inb_S256x3584_S256x128_0_1408) (LW arg3 harg3 wm 1280 inb_S1x3584_S1x128_0_1280) (LW arg3 harg3 wm 1408 inb_S1x3584_S1x128_0_1408) r l).trans (congrArg₂ max (congrArg (max _) (scAb_ld (k0_pay1 (F := Ideal) l0 l1) arg2 harg2 arg3 harg3 x wm 1280 inb_S256x3584_S256x128_0_1280 inb_S1x3584_S1x128_0_1280 r l (by omega))) (scAb_ld (k0_pay1 (F := Ideal) l0 l1) arg2 harg2 arg3 harg3 x wm 1408 inb_S256x3584_S256x128_0_1408 inb_S1x3584_S1x128_0_1408 r l (by omega)))
  have A12 : AccX (x8V (k0_pay1 (F := Ideal) l0 l1) x wm) 13 (aS12 arg2 harg2 arg3 harg3 x wm l0 l1) := A11.one (by decide) fun r l => (a_12 (k0_pay1 (F := Ideal) l0 l1) (aS11 arg2 harg2 arg3 harg3 x wm l0 l1) (LX arg2 harg2 x 1536 inb_S256x3584_S256x128_0_1536) (LW arg3 harg3 wm 1536 inb_S1x3584_S1x128_0_1536) r l).trans (congrArg (max _) (scAb_ld (k0_pay1 (F := Ideal) l0 l1) arg2 harg2 arg3 harg3 x wm 1536 inb_S256x3584_S256x128_0_1536 inb_S1x3584_S1x128_0_1536 r l (by omega)))
  have A13 : AccX (x8V (k0_pay1 (F := Ideal) l0 l1) x wm) 14 (aS13 arg2 harg2 arg3 harg3 x wm l0 l1) := A12.one (by decide) fun r l => (a_13 (k0_pay1 (F := Ideal) l0 l1) (aS12 arg2 harg2 arg3 harg3 x wm l0 l1) (LX arg2 harg2 x 1664 inb_S256x3584_S256x128_0_1664) (LW arg3 harg3 wm 1664 inb_S1x3584_S1x128_0_1664) r l).trans (congrArg (max _) (scAb_ld (k0_pay1 (F := Ideal) l0 l1) arg2 harg2 arg3 harg3 x wm 1664 inb_S256x3584_S256x128_0_1664 inb_S1x3584_S1x128_0_1664 r l (by omega)))
  have A15 : AccX (x8V (k0_pay1 (F := Ideal) l0 l1) x wm) 16 (aS15 arg2 harg2 arg3 harg3 x wm l0 l1) := A13.two (by decide) fun r l => (a_15 (k0_pay1 (F := Ideal) l0 l1) (aS13 arg2 harg2 arg3 harg3 x wm l0 l1) (LX arg2 harg2 x 1792 inb_S256x3584_S256x128_0_1792) (LX arg2 harg2 x 1920 inb_S256x3584_S256x128_0_1920) (LW arg3 harg3 wm 1792 inb_S1x3584_S1x128_0_1792) (LW arg3 harg3 wm 1920 inb_S1x3584_S1x128_0_1920) r l).trans (congrArg₂ max (congrArg (max _) (scAb_ld (k0_pay1 (F := Ideal) l0 l1) arg2 harg2 arg3 harg3 x wm 1792 inb_S256x3584_S256x128_0_1792 inb_S1x3584_S1x128_0_1792 r l (by omega))) (scAb_ld (k0_pay1 (F := Ideal) l0 l1) arg2 harg2 arg3 harg3 x wm 1920 inb_S256x3584_S256x128_0_1920 inb_S1x3584_S1x128_0_1920 r l (by omega)))
  have A16 : AccX (x8V (k0_pay1 (F := Ideal) l0 l1) x wm) 17 (aS16 arg2 harg2 arg3 harg3 x wm l0 l1) := A15.one (by decide) fun r l => (a_16 (k0_pay1 (F := Ideal) l0 l1) (aS15 arg2 harg2 arg3 harg3 x wm l0 l1) (LX arg2 harg2 x 2048 inb_S256x3584_S256x128_0_2048) (LW arg3 harg3 wm 2048 inb_S1x3584_S1x128_0_2048) r l).trans (congrArg (max _) (scAb_ld (k0_pay1 (F := Ideal) l0 l1) arg2 harg2 arg3 harg3 x wm 2048 inb_S256x3584_S256x128_0_2048 inb_S1x3584_S1x128_0_2048 r l (by omega)))
  have A17 : AccX (x8V (k0_pay1 (F := Ideal) l0 l1) x wm) 18 (aS17 arg2 harg2 arg3 harg3 x wm l0 l1) := A16.one (by decide) fun r l => (a_17 (k0_pay1 (F := Ideal) l0 l1) (aS16 arg2 harg2 arg3 harg3 x wm l0 l1) (LX arg2 harg2 x 2176 inb_S256x3584_S256x128_0_2176) (LW arg3 harg3 wm 2176 inb_S1x3584_S1x128_0_2176) r l).trans (congrArg (max _) (scAb_ld (k0_pay1 (F := Ideal) l0 l1) arg2 harg2 arg3 harg3 x wm 2176 inb_S256x3584_S256x128_0_2176 inb_S1x3584_S1x128_0_2176 r l (by omega)))
  have A19 : AccX (x8V (k0_pay1 (F := Ideal) l0 l1) x wm) 20 (aS19 arg2 harg2 arg3 harg3 x wm l0 l1) := A17.two (by decide) fun r l => (a_19 (k0_pay1 (F := Ideal) l0 l1) (aS17 arg2 harg2 arg3 harg3 x wm l0 l1) (LX arg2 harg2 x 2304 inb_S256x3584_S256x128_0_2304) (LX arg2 harg2 x 2432 inb_S256x3584_S256x128_0_2432) (LW arg3 harg3 wm 2304 inb_S1x3584_S1x128_0_2304) (LW arg3 harg3 wm 2432 inb_S1x3584_S1x128_0_2432) r l).trans (congrArg₂ max (congrArg (max _) (scAb_ld (k0_pay1 (F := Ideal) l0 l1) arg2 harg2 arg3 harg3 x wm 2304 inb_S256x3584_S256x128_0_2304 inb_S1x3584_S1x128_0_2304 r l (by omega))) (scAb_ld (k0_pay1 (F := Ideal) l0 l1) arg2 harg2 arg3 harg3 x wm 2432 inb_S256x3584_S256x128_0_2432 inb_S1x3584_S1x128_0_2432 r l (by omega)))
  have A20 : AccX (x8V (k0_pay1 (F := Ideal) l0 l1) x wm) 21 (aS20 arg2 harg2 arg3 harg3 x wm l0 l1) := A19.one (by decide) fun r l => (a_20 (k0_pay1 (F := Ideal) l0 l1) (aS19 arg2 harg2 arg3 harg3 x wm l0 l1) (LX arg2 harg2 x 2560 inb_S256x3584_S256x128_0_2560) (LW arg3 harg3 wm 2560 inb_S1x3584_S1x128_0_2560) r l).trans (congrArg (max _) (scAb_ld (k0_pay1 (F := Ideal) l0 l1) arg2 harg2 arg3 harg3 x wm 2560 inb_S256x3584_S256x128_0_2560 inb_S1x3584_S1x128_0_2560 r l (by omega)))
  have A21 : AccX (x8V (k0_pay1 (F := Ideal) l0 l1) x wm) 22 (aS21 arg2 harg2 arg3 harg3 x wm l0 l1) := A20.one (by decide) fun r l => (a_21 (k0_pay1 (F := Ideal) l0 l1) (aS20 arg2 harg2 arg3 harg3 x wm l0 l1) (LX arg2 harg2 x 2688 inb_S256x3584_S256x128_0_2688) (LW arg3 harg3 wm 2688 inb_S1x3584_S1x128_0_2688) r l).trans (congrArg (max _) (scAb_ld (k0_pay1 (F := Ideal) l0 l1) arg2 harg2 arg3 harg3 x wm 2688 inb_S256x3584_S256x128_0_2688 inb_S1x3584_S1x128_0_2688 r l (by omega)))
  have A23 : AccX (x8V (k0_pay1 (F := Ideal) l0 l1) x wm) 24 (aS23 arg2 harg2 arg3 harg3 x wm l0 l1) := A21.two (by decide) fun r l => (a_23 (k0_pay1 (F := Ideal) l0 l1) (aS21 arg2 harg2 arg3 harg3 x wm l0 l1) (LX arg2 harg2 x 2816 inb_S256x3584_S256x128_0_2816) (LX arg2 harg2 x 2944 inb_S256x3584_S256x128_0_2944) (LW arg3 harg3 wm 2816 inb_S1x3584_S1x128_0_2816) (LW arg3 harg3 wm 2944 inb_S1x3584_S1x128_0_2944) r l).trans (congrArg₂ max (congrArg (max _) (scAb_ld (k0_pay1 (F := Ideal) l0 l1) arg2 harg2 arg3 harg3 x wm 2816 inb_S256x3584_S256x128_0_2816 inb_S1x3584_S1x128_0_2816 r l (by omega))) (scAb_ld (k0_pay1 (F := Ideal) l0 l1) arg2 harg2 arg3 harg3 x wm 2944 inb_S256x3584_S256x128_0_2944 inb_S1x3584_S1x128_0_2944 r l (by omega)))
  have A24 : AccX (x8V (k0_pay1 (F := Ideal) l0 l1) x wm) 25 (aS24 arg2 harg2 arg3 harg3 x wm l0 l1) := A23.one (by decide) fun r l => (a_24 (k0_pay1 (F := Ideal) l0 l1) (aS23 arg2 harg2 arg3 harg3 x wm l0 l1) (LX arg2 harg2 x 3072 inb_S256x3584_S256x128_0_3072) (LW arg3 harg3 wm 3072 inb_S1x3584_S1x128_0_3072) r l).trans (congrArg (max _) (scAb_ld (k0_pay1 (F := Ideal) l0 l1) arg2 harg2 arg3 harg3 x wm 3072 inb_S256x3584_S256x128_0_3072 inb_S1x3584_S1x128_0_3072 r l (by omega)))
  have A26 : AccX (x8V (k0_pay1 (F := Ideal) l0 l1) x wm) 27 (aS26 arg2 harg2 arg3 harg3 x wm l0 l1) := A24.two (by decide) fun r l => (a_26 (k0_pay1 (F := Ideal) l0 l1) (aS24 arg2 harg2 arg3 harg3 x wm l0 l1) (LX arg2 harg2 x 3200 inb_S256x3584_S256x128_0_3200) (LX arg2 harg2 x 3328 inb_S256x3584_S256x128_0_3328) (LW arg3 harg3 wm 3200 inb_S1x3584_S1x128_0_3200) (LW arg3 harg3 wm 3328 inb_S1x3584_S1x128_0_3328) r l).trans (congrArg₂ max (congrArg (max _) (scAb_ld (k0_pay1 (F := Ideal) l0 l1) arg2 harg2 arg3 harg3 x wm 3200 inb_S256x3584_S256x128_0_3200 inb_S1x3584_S1x128_0_3200 r l (by omega))) (scAb_ld (k0_pay1 (F := Ideal) l0 l1) arg2 harg2 arg3 harg3 x wm 3328 inb_S256x3584_S256x128_0_3328 inb_S1x3584_S1x128_0_3328 r l (by omega)))
  exact A26

/-- A row's step is its largest magnitude's. -/
theorem q_at (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) (r : Fin 256) : (aSq arg2 harg2 arg3 harg3 x wm l0 l1 (ix2 r 0) : EReal) = qV (k0_pay1 (F := Ideal) l0 l1) x wm r := by
  refine (a_q (k0_pay1 (F := Ideal) l0 l1) (aS26 arg2 harg2 arg3 harg3 x wm l0 l1) (LX arg2 harg2 x 3456 inb_S256x3584_S256x128_0_3456) (LW arg3 harg3 wm 3456 inb_S1x3584_S1x128_0_3456) r).trans (congrArg stepOf ?_)
  exact AccX.row (a := fun y => max (aS26 arg2 harg2 arg3 harg3 x wm l0 l1 y) (scAb ((LX arg2 harg2 x 3456 inb_S256x3584_S256x128_0_3456) y) (colS (fun r => (k0_pay1 (F := Ideal) l0 l1) (ix2 r 0)) (fun r => (LX arg2 harg2 x 3456 inb_S256x3584_S256x128_0_3456) (ix2 r (y 1))) ((LW arg3 harg3 wm 3456 inb_S1x3584_S1x128_0_3456) (ix2 0 (y 1))))))
    ((acc27 arg2 harg2 arg3 harg3 x wm l0 l1).one (by decide) fun r l => congrArg (max _) (scAb_ld (k0_pay1 (F := Ideal) l0 l1) arg2 harg2 arg3 harg3 x wm 3456 inb_S256x3584_S256x128_0_3456 inb_S1x3584_S1x128_0_3456 r l (by omega))) r

theorem qm_at (arg2 : Memref sig .tc .vmem S256x3584 .bf16) (harg2 : arg2.IsWhole) (arg3 : Memref sig .tc .vmem S1x3584 .f32) (harg3 : arg3.IsWhole) (x : Vec Ideal S256x3584 .bf16) (wm : Vec Ideal S1x3584 .f32) (l0 l1 : Elt Ideal .i32) (r : Fin 256) : (aSqm arg2 harg2 arg3 harg3 x wm l0 l1 (ix2 r 0) : EReal) = qmV (k0_pay1 (F := Ideal) l0 l1) x wm r := by
  refine (a_qm (k0_pay1 (F := Ideal) l0 l1) (aS26 arg2 harg2 arg3 harg3 x wm l0 l1) (LX arg2 harg2 x 3456 inb_S256x3584_S256x128_0_3456) (LW arg3 harg3 wm 3456 inb_S1x3584_S1x128_0_3456) r).trans ?_
  rw [← a_q (k0_pay1 (F := Ideal) l0 l1) (aS26 arg2 harg2 arg3 harg3 x wm l0 l1) (LX arg2 harg2 x 3456 inb_S256x3584_S256x128_0_3456) (LW arg3 harg3 wm 3456 inb_S1x3584_S1x128_0_3456) r]
  exact congrArg (fun z => Scalar.select ((k0_pay1 (F := Ideal) l0 l1) (ix2 r 0)) z 1) (q_at arg2 harg2 arg3 harg3 x wm l0 l1 r)

/-- A code computed from a loaded group. -/
theorem code_ld (m : IVec S256x1 1) (x : Vec Ideal S256x3584 .bf16) (wm : Vec Ideal S1x3584 .f32) {X T q : EReal} (r : Fin 256) (k : Fin 3584)
    (hx : X = x (ix2 r k)) (ht : T = sV m x wm (ix2 0 k)) (hq : q = qV m x wm r) :
    (Scalar.select (m (ix2 r 0)) (codeF (Ideal.div (Ideal.div X T) q)) 0 : EReal) = xcbV m x wm (ix2 r k) := by
  subst hx; subst ht; subst hq; rfl

end Cert.KernelIdeal.Gen
-- ==== Proof.KI.Pays.lean ====
/- The values the kernel stores at every grid point, read at one index. -/
module

public import proofs.«01_k».proof.Proof.KI.Model
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic

/-- Scaled weights: a weight times its row's channel scale. -/
theorem pay232_at (a : Vec Ideal S32x128 .f32) (b : Vec Ideal S32x128 .bf16) (r : Fin 32) (l : Fin 128) :
    k0_pay232 (F := Ideal) a b (ix2 r l) = (b (ix2 r l) : EReal) * (a (ix2 r l) : EReal) := by
  pointwise [k0_pay232, k0_pay231]

/-- Scaled weights: a weight times its row's channel scale. -/
theorem pay235_at (a : Vec Ideal S32x128 .f32) (b : Vec Ideal S32x128 .bf16) (r : Fin 32) (l : Fin 128) :
    k0_pay235 (F := Ideal) a b (ix2 r l) = (b (ix2 r l) : EReal) * (a (ix2 r l) : EReal) := by
  pointwise [k0_pay235, k0_pay234]

/-- Scaled weights: a weight times its row's channel scale. -/
theorem pay238_at (a : Vec Ideal S32x128 .f32) (b : Vec Ideal S32x128 .bf16) (r : Fin 32) (l : Fin 128) :
    k0_pay238 (F := Ideal) a b (ix2 r l) = (b (ix2 r l) : EReal) * (a (ix2 r l) : EReal) := by
  pointwise [k0_pay238, k0_pay237]

/-- Scaled weights: a weight times its row's channel scale. -/
theorem pay256_at (a : Vec Ideal S32x128 .f32) (b : Vec Ideal S32x128 .bf16) (r : Fin 32) (l : Fin 128) :
    k0_pay256 (F := Ideal) a b (ix2 r l) = (b (ix2 r l) : EReal) * (a (ix2 r l) : EReal) := by
  pointwise [k0_pay256, k0_pay255]

/-- The running maximum after four more blocks of eight rows. -/
theorem pay233_at (t : FVec Ideal S8x128 .f32) (a : Vec Ideal S32x128 .f32) (b : Vec Ideal S32x128 .bf16) (r : Fin 8) (l : Fin 128) :
    k0_pay233 (F := Ideal) t a b (ix2 r l) = max (max (max (max (t (ix2 r l) : EReal) (ab ((b (ix2 ⟨r.val, by omega⟩ l) : EReal) * (a (ix2 ⟨r.val, by omega⟩ l) : EReal))))
      (ab ((b (ix2 ⟨8 + r.val, by omega⟩ l) : EReal) * (a (ix2 ⟨8 + r.val, by omega⟩ l) : EReal)))) (ab ((b (ix2 ⟨16 + r.val, by omega⟩ l) : EReal) * (a (ix2 ⟨16 + r.val, by omega⟩ l) : EReal))))
      (ab ((b (ix2 ⟨24 + r.val, by omega⟩ l) : EReal) * (a (ix2 ⟨24 + r.val, by omega⟩ l) : EReal))) := by
  pointwise [k0_pay233, k0_pay231]

/-- The running maximum after four more blocks of eight rows. -/
theorem pay236_at (t : FVec Ideal S8x128 .f32) (a : Vec Ideal S32x128 .f32) (b : Vec Ideal S32x128 .bf16) (r : Fin 8) (l : Fin 128) :
    k0_pay236 (F := Ideal) t a b (ix2 r l) = max (max (max (max (t (ix2 r l) : EReal) (ab ((b (ix2 ⟨r.val, by omega⟩ l) : EReal) * (a (ix2 ⟨r.val, by omega⟩ l) : EReal))))
      (ab ((b (ix2 ⟨8 + r.val, by omega⟩ l) : EReal) * (a (ix2 ⟨8 + r.val, by omega⟩ l) : EReal)))) (ab ((b (ix2 ⟨16 + r.val, by omega⟩ l) : EReal) * (a (ix2 ⟨16 + r.val, by omega⟩ l) : EReal))))
      (ab ((b (ix2 ⟨24 + r.val, by omega⟩ l) : EReal) * (a (ix2 ⟨24 + r.val, by omega⟩ l) : EReal))) := by
  pointwise [k0_pay236, k0_pay234]

/-- The running maximum after four more blocks of eight rows. -/
theorem pay254_at (t : FVec Ideal S8x128 .f32) (a : Vec Ideal S32x128 .f32) (b : Vec Ideal S32x128 .bf16) (r : Fin 8) (l : Fin 128) :
    k0_pay254 (F := Ideal) t (k0_pay239 (F := Ideal) a b) (k0_pay240 (F := Ideal) a b) (ix2 r l) = max (max (max (max (t (ix2 r l) : EReal) (ab ((b (ix2 ⟨r.val, by omega⟩ l) : EReal) * (a (ix2 ⟨r.val, by omega⟩ l) : EReal))))
      (ab ((b (ix2 ⟨8 + r.val, by omega⟩ l) : EReal) * (a (ix2 ⟨8 + r.val, by omega⟩ l) : EReal)))) (ab ((b (ix2 ⟨16 + r.val, by omega⟩ l) : EReal) * (a (ix2 ⟨16 + r.val, by omega⟩ l) : EReal))))
      (ab ((b (ix2 ⟨24 + r.val, by omega⟩ l) : EReal) * (a (ix2 ⟨24 + r.val, by omega⟩ l) : EReal))) := by
  pointwise [k0_pay254, k0_pay239, k0_pay240, k0_pay237]

/-- The running maximum after four more blocks of eight rows. -/
theorem pay257_at (t : FVec Ideal S8x128 .f32) (a : Vec Ideal S32x128 .f32) (b : Vec Ideal S32x128 .bf16) (r : Fin 8) (l : Fin 128) :
    k0_pay257 (F := Ideal) t a b (ix2 r l) = max (max (max (max (t (ix2 r l) : EReal) (ab ((b (ix2 ⟨r.val, by omega⟩ l) : EReal) * (a (ix2 ⟨r.val, by omega⟩ l) : EReal))))
      (ab ((b (ix2 ⟨8 + r.val, by omega⟩ l) : EReal) * (a (ix2 ⟨8 + r.val, by omega⟩ l) : EReal)))) (ab ((b (ix2 ⟨16 + r.val, by omega⟩ l) : EReal) * (a (ix2 ⟨16 + r.val, by omega⟩ l) : EReal))))
      (ab ((b (ix2 ⟨24 + r.val, by omega⟩ l) : EReal) * (a (ix2 ⟨24 + r.val, by omega⟩ l) : EReal))) := by
  pointwise [k0_pay257, k0_pay255]

/-- The weight scales of the column group starting at 0. -/
theorem pay258_at {ws : Vec Ideal S3584x512 .f32} {hc : 0 ≤ 384} {a : FVec Ideal S8x128 .f32} (h : AccOk ws 0 hc 112 a) (l : Fin 128) :
    k0_pay258 (F := Ideal) a (ix2 0 l) = stepOf (colAb ws ⟨0 + l.val, by omega⟩) := by
  pointwise [k0_pay258]
  rw [h.fold l]; simp only [Nat.zero_add]; rfl

/-- The weight scales of the column group starting at 128. -/
theorem pay260_at {ws : Vec Ideal S3584x512 .f32} {hc : 128 ≤ 384} {a : FVec Ideal S8x128 .f32} (h : AccOk ws 128 hc 112 a) (l : Fin 128) :
    k0_pay260 (F := Ideal) a (ix2 0 l) = stepOf (colAb ws ⟨128 + l.val, by omega⟩) := by
  pointwise [k0_pay260]
  rw [h.fold l]; rfl

/-- The weight scales of the column group starting at 256. -/
theorem pay263_at {ws : Vec Ideal S3584x512 .f32} {hc : 256 ≤ 384} {a : FVec Ideal S8x128 .f32} (h : AccOk ws 256 hc 112 a) (l : Fin 128) :
    k0_pay263 (F := Ideal) a (ix2 0 l) = stepOf (colAb ws ⟨256 + l.val, by omega⟩) := by
  pointwise [k0_pay263]
  rw [h.fold l]; rfl

/-- The weight scales of the column group starting at 384. -/
theorem pay265_at {ws : Vec Ideal S3584x512 .f32} {hc : 384 ≤ 384} {a : FVec Ideal S8x128 .f32} (h : AccOk ws 384 hc 112 a) (l : Fin 128) :
    k0_pay265 (F := Ideal) a (ix2 0 l) = stepOf (colAb ws ⟨384 + l.val, by omega⟩) := by
  pointwise [k0_pay265]
  rw [h.fold l]; rfl

/-- One over the weight scales of the column group starting at 0. -/
theorem pay259_at {ws : Vec Ideal S3584x512 .f32} {hc : 0 ≤ 384} {a : FVec Ideal S8x128 .f32} (h : AccOk ws 0 hc 112 a) (r : Fin 32) (l : Fin 128) :
    k0_pay259 (F := Ideal) a (ix2 r l) = Ideal.div 1 (stepOf (colAb ws ⟨0 + l.val, by omega⟩)) := by
  pointwise [k0_pay259, k0_pay258]
  rw [h.fold l]; simp only [Nat.zero_add]; rfl

/-- One over the weight scales of the column group starting at 128. -/
theorem pay262_at {ws : Vec Ideal S3584x512 .f32} {hc : 128 ≤ 384} {a : FVec Ideal S8x128 .f32} (h : AccOk ws 128 hc 112 a) (r : Fin 32) (l : Fin 128) :
    k0_pay262 (F := Ideal) (k0_pay260 (F := Ideal) a) (k0_pay261 (F := Ideal)) (ix2 r l) = Ideal.div 1 (stepOf (colAb ws ⟨128 + l.val, by omega⟩)) := by
  pointwise [k0_pay262, k0_pay261, k0_pay260]
  rw [h.fold l]; rfl

/-- One over the weight scales of the column group starting at 256. -/
theorem pay264_at {ws : Vec Ideal S3584x512 .f32} {hc : 256 ≤ 384} {a : FVec Ideal S8x128 .f32} (h : AccOk ws 256 hc 112 a) (r : Fin 32) (l : Fin 128) :
    k0_pay264 (F := Ideal) a (ix2 r l) = Ideal.div 1 (stepOf (colAb ws ⟨256 + l.val, by omega⟩)) := by
  pointwise [k0_pay264, k0_pay263]
  rw [h.fold l]; rfl

/-- Weight codes as integers. -/
theorem pay241_at (q x : Vec Ideal S32x128 .f32) (r : Fin 32) (l : Fin 128) :
    k0_pay241 (F := Ideal) q x (ix2 r l) = codeI ((x (ix2 r l) : EReal) * (q (ix2 r l) : EReal)) := by
  pointwise [k0_pay241]
  first | done | rfl

/-- Weight codes as integers. -/
theorem pay243_at (q x : Vec Ideal S32x128 .f32) (r : Fin 32) (l : Fin 128) :
    k0_pay243 (F := Ideal) q x (ix2 r l) = codeI ((x (ix2 r l) : EReal) * (q (ix2 r l) : EReal)) := by
  pointwise [k0_pay243]
  first | done | rfl

/-- Weight codes as integers. -/
theorem pay266_at (q x : Vec Ideal S32x128 .f32) (r : Fin 32) (l : Fin 128) :
    k0_pay266 (F := Ideal) (k0_pay245 (F := Ideal) q x) (k0_pay246 (F := Ideal)) (ix2 r l) = codeI ((x (ix2 r l) : EReal) * (q (ix2 r l) : EReal)) := by
  pointwise [k0_pay266, k0_pay245, k0_pay246]
  first | done | rfl

/-- Weight codes as floats. -/
theorem pay242_at (q x : Vec Ideal S32x128 .f32) (r : Fin 32) (l : Fin 128) :
    k0_pay242 (F := Ideal) q x (ix2 r l) = FloatOps.sitofp (F := Ideal) FTy.bf16 (codeI ((x (ix2 r l) : EReal) * (q (ix2 r l) : EReal))) := by
  pointwise [k0_pay242, k0_pay241]
  first | done | rfl

/-- Weight codes as floats. -/
theorem pay244_at (q x : Vec Ideal S32x128 .f32) (r : Fin 32) (l : Fin 128) :
    k0_pay244 (F := Ideal) q x (ix2 r l) = FloatOps.sitofp (F := Ideal) FTy.bf16 (codeI ((x (ix2 r l) : EReal) * (q (ix2 r l) : EReal))) := by
  pointwise [k0_pay244, k0_pay243]
  first | done | rfl

/-- Weight codes as floats. -/
theorem pay267_at (q x : Vec Ideal S32x128 .f32) (r : Fin 32) (l : Fin 128) :
    k0_pay267 (F := Ideal) (k0_pay245 (F := Ideal) q x) (k0_pay246 (F := Ideal)) (ix2 r l) = FloatOps.sitofp (F := Ideal) FTy.bf16 (codeI ((x (ix2 r l) : EReal) * (q (ix2 r l) : EReal))) := by
  pointwise [k0_pay267, k0_pay266, k0_pay245, k0_pay246]
  first | done | rfl

/-- Weight codes of the last column group as integers. -/
theorem pay268_at {ws : Vec Ideal S3584x512 .f32} {hc : 384 ≤ 384} {a : FVec Ideal S8x128 .f32} (h : AccOk ws 384 hc 112 a) (x : Vec Ideal S32x128 .f32) (r : Fin 32) (l : Fin 128) :
    k0_pay268 (F := Ideal) a x (ix2 r l) = codeI ((x (ix2 r l) : EReal) * Ideal.div 1 (stepOf (colAb ws ⟨384 + l.val, by omega⟩))) := by
  pointwise [k0_pay268, k0_pay265]
  rw [h.fold l]; first | rfl | (simp only [Nat.zero_add]; rfl)

/-- Weight codes of the last column group as floats. -/
theorem pay269_at {ws : Vec Ideal S3584x512 .f32} {hc : 384 ≤ 384} {a : FVec Ideal S8x128 .f32} (h : AccOk ws 384 hc 112 a) (x : Vec Ideal S32x128 .f32) (r : Fin 32) (l : Fin 128) :
    k0_pay269 (F := Ideal) a x (ix2 r l) = FloatOps.sitofp (F := Ideal) FTy.bf16 (codeI ((x (ix2 r l) : EReal) * Ideal.div 1 (stepOf (colAb ws ⟨384 + l.val, by omega⟩)))) := by
  pointwise [k0_pay269, k0_pay268, k0_pay265]
  rw [h.fold l]; first | rfl | (simp only [Nat.zero_add]; rfl)

/-- The product of the codes, summed over the channels. -/
def dotC (xcb : Vec Ideal S256x3584 .bf16) (wcb : Vec Ideal S3584x512 .bf16) (r : Fin 256) (n : Fin 512) : EReal :=
  ∑ k : Fin 3584, (xcb (ix2 r k) : EReal) * (wcb (ix2 k n) : EReal)

/-- The result of the column group starting at 0: the product of the codes times the row's scale and the column's. -/
theorem pay272_at (x : Vec Ideal S256x3584 .bf16) (w : Vec Ideal S3584x512 .bf16) (p : Vec Ideal S256x128 .f32) (q : Vec Ideal S1x128 .f32) (r : Fin 256) (l : Fin 128) :
    k0_pay272 (F := Ideal) (k0_pay271 (F := Ideal) x w) p q (ix2 r l) = dotC x w r ⟨0 + l.val, by omega⟩ * (p (ix2 r l) : EReal) * (q (ix2 0 l) : EReal) := by
  pointwise [k0_pay272, k0_pay270, k0_pay271]
  first | done | rfl | simp only [dotC, Nat.zero_add]

/-- The result of the column group starting at 128: the product of the codes times the row's scale and the column's. -/
theorem pay273_at (x : Vec Ideal S256x3584 .bf16) (w : Vec Ideal S3584x512 .bf16) (p : Vec Ideal S256x128 .f32) (q : Vec Ideal S1x128 .f32) (r : Fin 256) (l : Fin 128) :
    k0_pay273 (F := Ideal) (k0_pay270 (F := Ideal) x w) p q (ix2 r l) = dotC x w r ⟨128 + l.val, by omega⟩ * (p (ix2 r l) : EReal) * (q (ix2 0 l) : EReal) := by
  pointwise [k0_pay273, k0_pay270, k0_pay271]
  first | done | rfl | simp only [dotC, Nat.zero_add]

/-- The result of the column group starting at 256: the product of the codes times the row's scale and the column's. -/
theorem pay274_at (x : Vec Ideal S256x3584 .bf16) (w : Vec Ideal S3584x512 .bf16) (p : Vec Ideal S256x128 .f32) (q : Vec Ideal S1x128 .f32) (r : Fin 256) (l : Fin 128) :
    k0_pay274 (F := Ideal) (k0_pay270 (F := Ideal) x w) p q (ix2 r l) = dotC x w r ⟨256 + l.val, by omega⟩ * (p (ix2 r l) : EReal) * (q (ix2 0 l) : EReal) := by
  pointwise [k0_pay274, k0_pay270, k0_pay271]
  first | done | rfl | simp only [dotC, Nat.zero_add]

/-- The result of the column group starting at 384: the product of the codes times the row's scale and the column's. -/
theorem pay275_at (x : Vec Ideal S256x3584 .bf16) (w : Vec Ideal S3584x512 .bf16) (p : Vec Ideal S256x128 .f32) (q : Vec Ideal S1x128 .f32) (r : Fin 256) (l : Fin 128) :
    k0_pay275 (F := Ideal) (k0_pay270 (F := Ideal) x w) p q (ix2 r l) = dotC x w r ⟨384 + l.val, by omega⟩ * (p (ix2 r l) : EReal) * (q (ix2 0 l) : EReal) := by
  pointwise [k0_pay275, k0_pay270, k0_pay271]
  first | done | rfl | simp only [dotC, Nat.zero_add]

end Cert.KernelIdeal.Gen

end
-- ==== Proof.KI.LoopA.lean ====
/- The first counted loop, which scales the weights and keeps running maxima of their magnitudes: what holds before each trip. -/
module

public import proofs.«01_k».proof.Proof.KI.Pays
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A block of 32 rows of the weights, read at one index. -/
theorem ld_w (arg4 : Memref sig .tc .vmem S3584x512 .bf16) (harg4 : arg4.IsWhole) (x2 : Vec Ideal S3584x512 .bf16) (k c : ℕ) (hk : k < 112) (hc : c ≤ 384)
    {off : Fin S3584x512.rank → ℕ} (inb : ∀ a, off a + S32x128.size a ≤ S3584x512.size a) (h : off = ![32 * k, c]) (r : Fin 32) (l : Fin 128) :
    View.readAt (Elt Ideal) arg4.view (Rect.unit off S32x128.size inb).toLoadRect (harg4.unread x2) (ix2 r l) = x2 (ix2 ⟨32 * k + r.val, by omega⟩ ⟨c + l.val, by omega⟩) := by
  refine (readAt_unit_apply arg4.view _ inb h _ (ix2 ⟨32 * k + r.val, by omega⟩ ⟨c + l.val, by omega⟩) (Fin.forall_fin_two.mpr ⟨rfl, rfl⟩)).trans ?_
  rw [harg4.read_unread]

/-- A block of 32 rows of the channel scales, read at one index. -/
theorem ld_s (arg11 : Memref sig .tc .vmem S3584x128 .f32) (harg11 : arg11.IsWhole) (sc : Vec Ideal S3584x128 .f32) (k : ℕ) (hk : k < 112)
    {off : Fin S3584x128.rank → ℕ} (inb : ∀ a, off a + S32x128.size a ≤ S3584x128.size a) (h : off = ![32 * k, 0]) (r : Fin 32) (l : Fin 128) :
    View.readAt (Elt Ideal) arg11.view (Rect.unit off S32x128.size inb).toLoadRect (harg11.unread sc) (ix2 r l) = sc (ix2 ⟨32 * k + r.val, by omega⟩ l) := by
  refine (readAt_unit_apply arg11.view _ inb h _ (ix2 ⟨32 * k + r.val, by omega⟩ l) (Fin.forall_fin_two.mpr ⟨rfl, (Nat.zero_add _).symm⟩)).trans ?_
  rw [harg11.read_unread]

/-- A block of the weights times its block of channel scales is a block of the scaled weights. -/
theorem ld_ws (arg4 : Memref sig .tc .vmem S3584x512 .bf16) (harg4 : arg4.IsWhole) (arg11 : Memref sig .tc .vmem S3584x128 .f32) (harg11 : arg11.IsWhole)
    (x2 : Vec Ideal S3584x512 .bf16) (sc : Vec Ideal S3584x128 .f32) (k c : ℕ) (hk : k < 112) (hc : c ≤ 384) (h128 : 128 ∣ c)
    {off : Fin S3584x512.rank → ℕ} (inb : ∀ a, off a + S32x128.size a ≤ S3584x512.size a) (h : off = ![32 * k, c])
    {off' : Fin S3584x128.rank → ℕ} (inb' : ∀ a, off' a + S32x128.size a ≤ S3584x128.size a) (h' : off' = ![32 * k, 0]) (r : Fin 32) (l : Fin 128) :
    (View.readAt (Elt Ideal) arg4.view (Rect.unit off S32x128.size inb).toLoadRect (harg4.unread x2) (ix2 r l) : EReal)
      * (View.readAt (Elt Ideal) arg11.view (Rect.unit off' S32x128.size inb').toLoadRect (harg11.unread sc) (ix2 r l) : EReal)
      = wsT x2 sc (ix2 ⟨32 * k + r.val, by omega⟩ ⟨c + l.val, by omega⟩) := by
  rw [ld_w arg4 harg4 x2 k c hk hc inb h r l, ld_s arg11 harg11 sc k hk inb' h' r l]
  have e : l = (⟨(c + l.val) % 128, Nat.mod_lt _ (by decide)⟩ : Fin 128) := Fin.ext (by show l.val = (c + l.val) % 128; omega)
  show _ * _ = (x2 _ : EReal) * (sc (ix2 ⟨32 * k + r.val, _⟩ ⟨(c + l.val) % 128, _⟩) : EReal)
  rw [← e]

/-- The four running maxima's start, zero. -/
theorem acc_init (ws : Vec Ideal S3584x512 .f32) :
    AccOk ws 0 (by decide) 0 (k0_pay250 (F := Ideal)) ∧ AccOk ws 128 (by decide) 0 (k0_pay251 (F := Ideal))
      ∧ AccOk ws 256 (by decide) 0 (k0_pay252 (F := Ideal)) ∧ AccOk ws 384 (by decide) 0 (k0_pay253 (F := Ideal)) := by
  refine ⟨AccOk.zero fun r l => ?_, AccOk.zero fun r l => ?_, AccOk.zero fun r l => ?_, AccOk.zero fun r l => ?_⟩
  · pointwise [k0_pay250]
  · pointwise [k0_pay251]
  · pointwise [k0_pay252]
  · pointwise [k0_pay253]

/-- Before trip `k`: the rows before `32k` of the scaled weights are in place and the four running maxima cover them. -/
abbrev invA (c : Dev nD) (arg4 : Memref sig .tc .vmem S3584x512 .bf16) (harg4 : arg4.IsWhole) (arg11 : Memref sig .tc .vmem S3584x128 .f32) (harg11 : arg11.IsWhole)
    (arg14 : Memref sig .tc .vmem S3584x512 .f32) (x2 : Vec Ideal S3584x512 .bf16) (sc : Vec Ideal S3584x128 .f32) (k : ℕ)
    (acc : FVec Ideal S8x128 .f32 × FVec Ideal S8x128 .f32 × FVec Ideal S8x128 .f32 × FVec Ideal S8x128 .f32) : sProp 𝕄 :=
  iprop((arg4.view.loc (c : Thread nD τ) ↦[arg4.view.set]{fullShare} harg4.unread x2) ∗ (arg11.view.loc (c : Thread nD τ) ↦[arg11.view.set]{fullShare} harg11.unread sc)
    ∗ (∃ f, (arg14.view.loc (c : Thread nD τ) ↦[arg14.view.set]{fullShare} f) ∗ ⌜∀ y : S3584x512.Idx, (y 0).val < 32 * k → arg14.view.read (Elt Ideal) f y = wsT x2 sc y⌝)
    ∗ ⌜AccOk (wsT x2 sc) 0 (by decide) k acc.1 ∧ AccOk (wsT x2 sc) 128 (by decide) k acc.2.1
      ∧ AccOk (wsT x2 sc) 256 (by decide) k acc.2.2.1 ∧ AccOk (wsT x2 sc) 384 (by decide) k acc.2.2.2⌝)

set_option maxHeartbeats 2000000 in
/-- Every trip of the first loop advances `invA`. -/
@[instance_reducible] def loopA (c : Dev nD) (E : Set ℕ) (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (x2 : Vec Ideal S3584x512 .bf16) (sc : Vec Ideal S3584x128 .f32)
    (init : FVec Ideal S8x128 .f32 × FVec Ideal S8x128 .f32 × FVec Ideal S8x128 .f32 × FVec Ideal S8x128 .f32) :
    Idealize.ShloMosaic.LoopInv (M := MT nD τ sig Unit (Elt Ideal) ℕ (UR sig nD τ) ℕ) Idealize.ShloMosaic.frame (wpE (defs₀ (F := Ideal)) Variants.none (c : Thread nD τ) none) E
      k0_t1_loop.lb k0_t1_loop.ub k0_t1_loop.st k0_t1_ok init (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) where
  inv := invA c arg4 harg4 arg11 harg11 arg14 x2 sc
  step k acc := by
    have hk : k.val < 112 := Nat.lt_of_lt_of_le k.isLt k0_t1_abs.2.1
    unfold k0_t1_body
    iintro ⟨H4, H11, ⟨%f14, H14, %hf⟩, %hacc⟩
    sl_exec
    sl_step
    isplitl [H4]; · iexact H4
    isplitl [H11]; · iexact H11
    isplitl [H14]
    · iexists _; isplitl [H14]; · iexact H14
      ipureintro
      intro y hy
      exact four_groups arg14.view f14 k.val hk _ _ _ _ _ _ _ _ (k0_off2_eq k) (k0_off3_eq k) (k0_off4_eq k) (k0_off5_eq k) (wsT x2 sc) hf
        (fun r l => (pay232_at _ _ r l).trans (ld_ws arg4 harg4 arg11 harg11 x2 sc k.val 0 hk (by decide) (by decide) _ (k0_off2_eq k) _ (k0_off1_eq k) r l))
        (fun r l => (pay235_at _ _ r l).trans (ld_ws arg4 harg4 arg11 harg11 x2 sc k.val 128 hk (by decide) (by decide) _ (k0_off3_eq k) _ (k0_off1_eq k) r l))
        (fun r l => (pay238_at _ _ r l).trans (ld_ws arg4 harg4 arg11 harg11 x2 sc k.val 256 hk (by decide) (by decide) _ (k0_off4_eq k) _ (k0_off1_eq k) r l))
        (fun r l => (pay256_at _ _ r l).trans (ld_ws arg4 harg4 arg11 harg11 x2 sc k.val 384 hk (by decide) (by decide) _ (k0_off5_eq k) _ (k0_off1_eq k) r l)) y hy
    · ipureintro
      have M := fun (c : ℕ) (hc : c ≤ 384) (h128 : 128 ∣ c) (off : Fin S3584x512.rank → ℕ) (inb) (h : off = ![32 * k.val, c]) (r : Fin 32) (l : Fin 128) =>
        ld_ws arg4 harg4 arg11 harg11 x2 sc k.val c hk hc h128 (off := off) inb h (k0_off1_inb k) (k0_off1_eq k) r l
      obtain ⟨a0, a1, a2, a3⟩ := hacc
      refine ⟨a0.step hk fun r l => (pay233_at _ _ _ r l).trans ?_, a1.step hk fun r l => (pay236_at _ _ _ r l).trans ?_,
        a2.step hk fun r l => (pay254_at _ _ _ r l).trans ?_, a3.step hk fun r l => (pay257_at _ _ _ r l).trans ?_⟩
      · rw [M 0 (by decide) (by decide) _ _ (k0_off2_eq k), M 0 (by decide) (by decide) _ _ (k0_off2_eq k), M 0 (by decide) (by decide) _ _ (k0_off2_eq k), M 0 (by decide) (by decide) _ _ (k0_off2_eq k)]
      · rw [M 128 (by decide) (by decide) _ _ (k0_off3_eq k), M 128 (by decide) (by decide) _ _ (k0_off3_eq k), M 128 (by decide) (by decide) _ _ (k0_off3_eq k), M 128 (by decide) (by decide) _ _ (k0_off3_eq k)]
      · rw [M 256 (by decide) (by decide) _ _ (k0_off4_eq k), M 256 (by decide) (by decide) _ _ (k0_off4_eq k), M 256 (by decide) (by decide) _ _ (k0_off4_eq k), M 256 (by decide) (by decide) _ _ (k0_off4_eq k)]
      · unfold loopA.sl.r
        rw [M 384 (by decide) (by decide) _ _ (k0_off5_eq k), M 384 (by decide) (by decide) _ _ (k0_off5_eq k), M 384 (by decide) (by decide) _ _ (k0_off5_eq k), M 384 (by decide) (by decide) _ _ (k0_off5_eq k)]

end Cert.KernelIdeal.Gen

end
-- ==== Proof.KI.LoopB.lean ====
/- The second counted loop, which rounds the scaled weights to codes: what holds before each trip. -/
module

public import proofs.«01_k».proof.Proof.KI.Pays
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The weights' codes as integers: the scaled weights times one over their column's scale, rounded and clipped. -/
def wcI (ws : Vec Ideal S3584x512 .f32) (inv : Fin 512 → EReal) : Vec Ideal S3584x512 .i8 := fun y => codeI ((ws y : EReal) * inv (y 1))
/-- The weights' codes as floats. -/
def wcF (ws : Vec Ideal S3584x512 .f32) (inv : Fin 512 → EReal) : Vec Ideal S3584x512 .bf16 := fun y => FloatOps.sitofp (F := Ideal) FTy.bf16 (codeI ((ws y : EReal) * inv (y 1)))

/-- A block of 32 rows of the scaled weights, read at one index. -/
theorem ld_x (arg14 : Memref sig .tc .vmem S3584x512 .f32) (harg14 : arg14.IsWhole) (x2 : Vec Ideal S3584x512 .f32) (k c : ℕ) (hk : k < 112) (hc : c ≤ 384)
    {off : Fin S3584x512.rank → ℕ} (inb : ∀ a, off a + S32x128.size a ≤ S3584x512.size a) (h : off = ![32 * k, c]) (r : Fin 32) (l : Fin 128) :
    View.readAt (Elt Ideal) arg14.view (Rect.unit off S32x128.size inb).toLoadRect (harg14.unread x2) (ix2 r l) = x2 (ix2 ⟨32 * k + r.val, by omega⟩ ⟨c + l.val, by omega⟩) := by
  refine (readAt_unit_apply arg14.view _ inb h _ (ix2 ⟨32 * k + r.val, by omega⟩ ⟨c + l.val, by omega⟩) (Fin.forall_fin_two.mpr ⟨rfl, rfl⟩)).trans ?_
  rw [harg14.read_unread]

/-- Before trip `k`: the codes of the rows before `32k` are in place, as integers and as floats. -/
abbrev invB (c : Dev nD) (arg7 : Memref sig .tc .vmem S3584x512 .i8) (arg14 : Memref sig .tc .vmem S3584x512 .f32) (harg14 : arg14.IsWhole)
    (arg15 : Memref sig .tc .vmem S3584x512 .bf16) (ws : Vec Ideal S3584x512 .f32) (inv : Fin 512 → EReal) (k : ℕ) (_ : PUnit) : sProp 𝕄 :=
  iprop((arg14.view.loc (c : Thread nD τ) ↦[arg14.view.set]{fullShare} harg14.unread ws)
    ∗ (∃ f, (arg7.view.loc (c : Thread nD τ) ↦[arg7.view.set]{fullShare} f) ∗ ⌜∀ y : S3584x512.Idx, (y 0).val < 32 * k → arg7.view.read (Elt Ideal) f y = wcI ws inv y⌝)
    ∗ (∃ f, (arg15.view.loc (c : Thread nD τ) ↦[arg15.view.set]{fullShare} f) ∗ ⌜∀ y : S3584x512.Idx, (y 0).val < 32 * k → arg15.view.read (Elt Ideal) f y = wcF ws inv y⌝))

set_option maxHeartbeats 2000000 in
/-- Every trip of the second loop advances `invB`. -/
@[instance_reducible] def loopB (c : Dev nD) (E : Set ℕ) (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (v8_2 v8_3 : FVec Ideal S8x128 .f32) (v21 : FVec Ideal S32x128 .f32) (v29 v31 : FVec Ideal S1x128 .f32)
    (ws : Vec Ideal S3584x512 .f32) (inv : Fin 512 → EReal)
    (q0 : ∀ (r : Fin 32) (l : Fin 128), (v21 (ix2 r l) : EReal) = inv ⟨0 + l.val, by omega⟩)
    (q1 : ∀ (r : Fin 32) (l : Fin 128), (k0_pay262 (F := Ideal) v29 v31 (ix2 r l) : EReal) = inv ⟨128 + l.val, by omega⟩)
    (q2 : ∀ (r : Fin 32) (l : Fin 128), (k0_pay264 (F := Ideal) v8_2 (ix2 r l) : EReal) = inv ⟨256 + l.val, by omega⟩)
    (q3 : ∀ (x : Vec Ideal S32x128 .f32) (r : Fin 32) (l : Fin 128), k0_pay268 (F := Ideal) v8_3 x (ix2 r l) = codeI ((x (ix2 r l) : EReal) * inv ⟨384 + l.val, by omega⟩))
    (q4 : ∀ (x : Vec Ideal S32x128 .f32) (r : Fin 32) (l : Fin 128), k0_pay269 (F := Ideal) v8_3 x (ix2 r l) = FloatOps.sitofp (F := Ideal) FTy.bf16 (codeI ((x (ix2 r l) : EReal) * inv ⟨384 + l.val, by omega⟩))) :
    Idealize.ShloMosaic.LoopInv (M := MT nD τ sig Unit (Elt Ideal) ℕ (UR sig nD τ) ℕ) Idealize.ShloMosaic.frame (wpE (defs₀ (F := Ideal)) Variants.none (c : Thread nD τ) none) E
      k0_t2_loop.lb k0_t2_loop.ub k0_t2_loop.st k0_t2_ok () (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v8_2 v8_3 v21 v29 v31) where
  inv := invB c arg7 arg14 harg14 arg15 ws inv
  step k acc := by
    have hk : k.val < 112 := Nat.lt_of_lt_of_le k.isLt k0_t2_abs.2.1
    unfold k0_t2_body
    iintro ⟨H14, ⟨%f7, H7, %hf7⟩, %f15, H15, %hf15⟩
    sl_exec
    sl_step
    isplitl [H14]; · iexact H14
    have M := fun (c : ℕ) (hc : c ≤ 384) (off : Fin S3584x512.rank → ℕ) (inb) (h : off = ![32 * k.val, c]) (r : Fin 32) (l : Fin 128) =>
      ld_x arg14 harg14 ws k.val c hk hc (off := off) inb h r l
    isplitl [H7]
    · iexists _; isplitl [H7]; · iexact H7
      ipureintro
      intro y hy
      refine four_groups arg7.view f7 k.val hk _ _ _ _ _ _ _ _ (k0_off6_eq k) (k0_off7_eq k) (k0_off8_eq k) (k0_off9_eq k) (wcI ws inv) hf7
        (fun r l => (pay241_at _ _ r l).trans ?_) (fun r l => (pay243_at _ _ r l).trans ?_) (fun r l => (pay266_at _ _ r l).trans ?_) (fun r l => (q3 _ r l).trans ?_) y hy
      · rw [q0, M 0 (by decide) _ _ (k0_off6_eq k)]; rfl
      · rw [q1, M 128 (by decide) _ _ (k0_off7_eq k)]; rfl
      · rw [q2, M 256 (by decide) _ _ (k0_off8_eq k)]; rfl
      · rw [M 384 (by decide) _ _ (k0_off9_eq k)]; rfl
    · iexists _; isplitl [H15]; · iexact H15
      ipureintro
      intro y hy
      refine four_groups arg15.view f15 k.val hk _ _ _ _ _ _ _ _ (k0_off6_eq k) (k0_off7_eq k) (k0_off8_eq k) (k0_off9_eq k) (wcF ws inv) hf15
        (fun r l => (pay242_at _ _ r l).trans ?_) (fun r l => (pay244_at _ _ r l).trans ?_) (fun r l => (pay267_at _ _ r l).trans ?_) (fun r l => (q4 _ r l).trans ?_) y hy
      · rw [q0, M 0 (by decide) _ _ (k0_off6_eq k)]; rfl
      · rw [q1, M 128 (by decide) _ _ (k0_off7_eq k)]; rfl
      · rw [q2, M 256 (by decide) _ _ (k0_off8_eq k)]; rfl
      · rw [M 384 (by decide) _ _ (k0_off9_eq k)]; rfl

end Cert.KernelIdeal.Gen

end
-- ==== Proof.KI.Split.lean ====
/- The kernel's body in two stages: what runs at the grid's first point alone (`head`), and what runs at every point (`tail`). -/
module

public import proofs.«01_k».proof.Proof.KI.Runs

@[expose] public section

set_option maxRecDepth 65536

noncomputable section

namespace Cert.KernelIdeal.Gen

open Idealize.ShloMosaic Idealize.ShloMosaic.TcCoe Idealize.ShloMosaic.Tactic
open Idealize.SL.Sem

variable {F : FTy → Type} [FloatOps F]

/-- What the body does at the first point of the grid: the channel scales, the activations' codes and their scales. -/
noncomputable def head (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) :
    Prog (TpuEff nD τ sig (Elt F) Λ₀ .tc) PUnit := do
  let ⟨v1634, cst_691, v1635⟩ : Σ' (v1634 : FVec F S256x128 .f32) (cst_691 : F .f32), IVec S256x1 1 ← k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15
  let v1640 : Vec F S256x128 .i8 ← Prog.lift (.load arg9 (Rect.unit (s := S256x3584) ![0, 3456] S256x128.size inb_S256x3584_S256x128_0_3456).toLoadRect (View.loadsAt_vmem h_S256x128))
  Prog.lift (.store arg9 (Rect.unit (s := S256x3584) ![0, 3456] S256x128.size inb_S256x3584_S256x128_0_3456) (k0_pay248 v1634 cst_691 v1635) Finset.univ (View.stores_vmem h_S256x128 (harg9.storeExact_slice rfl _ packedi8_S256x3584_S256x128_0_3456) (fun _ => rfl)) (.inl rfl))
  let v1642 : Vec F S256x128 .bf16 ← Prog.lift (.load arg12 (Rect.unit (s := S256x3584) ![0, 3456] S256x128.size inb_S256x3584_S256x128_0_3456).toLoadRect (View.loadsAt_vmem h_S256x128))
  Prog.lift (.store arg12 (Rect.unit (s := S256x3584) ![0, 3456] S256x128.size inb_S256x3584_S256x128_0_3456) (k0_pay249 v1634 cst_691 v1635) Finset.univ (View.stores_vmem h_S256x128 (harg12.storeExact_slice rfl _ packedbf16_S256x3584_S256x128_0_3456) (fun _ => rfl)) (.inl rfl))
  pure ⟨⟩

/-- The first half of what the body does at every point: the scaled weights of this point's columns and the first two groups of weight scales. -/
noncomputable def tail42 (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) :
    Prog (TpuEff nD τ sig (Elt F) Λ₀ .tc) (Σ' (v8_2 : FVec F S8x128 .f32) (v8_3 : FVec F S8x128 .f32) (v21 : FVec F S32x128 .f32) (v29 : FVec F S1x128 .f32), FVec F S1x128 .f32) := do
  let (v8_0, v8_1, v8_2, v8_3) ← Scf.Loop.for k0_t1_loop k0_t1_ok (k0_pay250 (F := F), k0_pay251 (F := F), k0_pay252 (F := F), k0_pay253 (F := F)) (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15)
  let v17 : Vec F S1x128 .f32 ← Prog.lift (.load arg8 (Rect.unit (s := S1x512) ![0, 0] S1x128.size inb_S1x512_S1x128_0_0).toLoadRect (View.loadsAt_vmem h_S1x128))
  Prog.lift (.store arg8 (Rect.unit (s := S1x512) ![0, 0] S1x128.size inb_S1x512_S1x128_0_0) (k0_pay258 v8_0) Finset.univ (View.stores_vmem_bits_univ h_S1x128 rfl) (.inl rfl))
  let v30 : Vec F S1x128 .f32 ← Prog.lift (.load arg8 (Rect.unit (s := S1x512) ![0, 128] S1x128.size inb_S1x512_S1x128_0_128).toLoadRect (View.loadsAt_vmem h_S1x128))
  Prog.lift (.store arg8 (Rect.unit (s := S1x512) ![0, 128] S1x128.size inb_S1x512_S1x128_0_128) (k0_pay260 v8_1) Finset.univ (View.stores_vmem_bits_univ h_S1x128 rfl) (.inl rfl))
  pure ⟨v8_2, v8_3, k0_pay259 v8_0, k0_pay260 v8_1, k0_pay261 (F := F)⟩

/-- What the body does at every point: weight scales, weight codes and the product, for this point's columns. -/
noncomputable def tail (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) :
    Prog (TpuEff nD τ sig (Elt F) Λ₀ .tc) PUnit := do
  let ⟨v8_2, v8_3, v21, v29, v31⟩ : Σ' (v8_2 : FVec F S8x128 .f32) (v8_3 : FVec F S8x128 .f32) (v21 : FVec F S32x128 .f32) (v29 : FVec F S1x128 .f32), FVec F S1x128 .f32 ← tail42 i arg1 harg1 arg2 harg2 arg3 harg3 arg4 harg4 arg5 harg5 arg6 harg6 arg7 harg7 arg8 harg8 arg9 harg9 arg10 harg10 arg11 harg11 arg12 harg12 arg13 harg13 arg14 harg14 arg15 harg15
  let ⟨v64, v65⟩ : Σ' (v64 : FVec F S256x512 .f32), FVec F S256x128 .f32 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 v8_2 v8_3 v21 v29 v31
  let v99 : FVec F S256x128 .bf16 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 v64 v65
  let v100 : Vec F S256x128 .bf16 ← Prog.lift (.load arg5 (Rect.unit (s := S256x512) ![0, 384] S256x128.size inb_S256x512_S256x128_0_384).toLoadRect (View.loadsAt_vmem h_S256x128))
  Prog.lift (.store arg5 (Rect.unit (s := S256x512) ![0, 384] S256x128.size inb_S256x512_S256x128_0_384) v99 Finset.univ (View.stores_vmem h_S256x128 (harg5.storeExact_slice rfl _ packedbf16_S256x512_S256x128_0_384) (fun _ => rfl)) (.inl rfl))
  pure ⟨⟩

/-- At the first point the body is `head`, then `tail`. -/
theorem body_first (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc : cond0_0 i) :
    cc0_smoothquant_w8a8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = head i arg1 harg1 arg2 harg2 arg3 harg3 arg4 harg4 arg5 harg5 arg6 harg6 arg7 harg7 arg8 harg8 arg9 harg9 arg10 harg10 arg11 harg11 arg12 harg12 arg13 harg13 arg14 harg14 arg15 harg15 >>= fun _ => tail i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  rw [cc0_smoothquant_w8a8_eq_skeleton]; unfold cc0_smoothquant_w8a8_skel
  rw [k0_part42_eq_skeleton]; unfold k0_part42_skel
  rw [dif_pos hc]
  unfold head tail tail42
  rw [Prog.bind_assoc, Prog.bind_assoc]
  refine congrArg (fun k => _ >>= k) (funext fun x => ?_)
  obtain ⟨a, b, d⟩ := x
  simp only [Prog.bind_assoc, pure_bind]

/-- At every other point the body is `tail`. -/
theorem body_rest (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc : ¬cond0_0 i) :
    cc0_smoothquant_w8a8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = tail i arg1 harg1 arg2 harg2 arg3 harg3 arg4 harg4 arg5 harg5 arg6 harg6 arg7 harg7 arg8 harg8 arg9 harg9 arg10 harg10 arg11 harg11 arg12 harg12 arg13 harg13 arg14 harg14 arg15 harg15 := by
  rw [cc0_smoothquant_w8a8_eq_skeleton]; unfold cc0_smoothquant_w8a8_skel
  rw [k0_part42_eq_skeleton]; unfold k0_part42_skel
  rw [dif_neg hc]; rfl

end Cert.KernelIdeal.Gen

end
-- ==== Proof.KI.Tail.lean ====
/- One run of what the body does at every grid point: weight scales, weight codes and the product, in closed form. -/
module

public import proofs.«01_k».proof.Proof.KI.LoopA
public import proofs.«01_k».proof.Proof.KI.LoopB
public import proofs.«01_k».proof.Proof.KI.Split
public import Idealize.ShloMosaic.Lib.VecWindow
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A buffer written in groups of 128 columns: one more group of `G`'s values after the columns before `o` held `G`. -/
theorem col_step {rs : RefSig} {κ : Kind} {sp : Space} {e : EltTy} {R C : ℕ} (v : View rs κ sp ⟨2, ![R, C]⟩ e) (f : v.ty.Contents (Elt Ideal))
    (L : List (View.Piece (Elt Ideal) ⟨2, ![R, C]⟩ e)) (o o' : ℕ) (ho' : o' = o + 128)
    (inb : ∀ a : Fin 2, (![0, o] : Fin 2 → ℕ) a + (![R, 128] : Fin 2 → ℕ) a ≤ (![R, C] : Fin 2 → ℕ) a)
    (w : (⟨2, ![R, 128]⟩ : Shape).Idx → Elt Ideal e) (G : (⟨2, ![R, C]⟩ : Shape).Idx → Elt Ideal e)
    (hL : ∀ (r : Fin R) (n : Fin C), n.val < o → v.read (Elt Ideal) (v.writes (Elt Ideal) f L) (ix2 r n) = G (ix2 r n))
    (hw : ∀ (r : Fin R) (l : Fin 128) (h : o + l.val < C), w (ix2 r l) = G (ix2 r ⟨o + l.val, h⟩)) :
    ∀ (r : Fin R) (n : Fin C), n.val < o' →
      v.read (Elt Ideal) (v.writes (Elt Ideal) f ((⟨Rect.unit (s := ⟨2, ![R, C]⟩) ![0, o] ![R, 128] inb, w⟩ : View.Piece (Elt Ideal) ⟨2, ![R, C]⟩ e) :: L)) (ix2 r n) = G (ix2 r n) := by
  subst ho'
  intro r n hn
  by_cases hlt : n.val < o
  · rw [View.read_writes_cons_unit_of_not_mem (s := ⟨2, ![R, C]⟩) v f inb w L (ix2 r n) rfl 1 (Or.inl hlt)]
    exact hL r n hlt
  · rw [View.read_writes_cons_unit_of_mem (s := ⟨2, ![R, C]⟩) v f inb w L (ix2 r n) (ix2 r (⟨n.val - o, by omega⟩ : Fin 128)) rfl
      (Fin.forall_fin_two.mpr ⟨(Nat.zero_add _).symm, by show n.val = o + (n.val - o); omega⟩)]
    refine (hw r ⟨n.val - o, by omega⟩ (by have := n.isLt; dsimp only; omega)).trans (congrArg G (congrArg (ix2 r) (Fin.ext ?_)))
    show o + (n.val - o) = n.val
    omega

/-- A rank-2 index is its two coordinates. -/
theorem ix2_eta {R C : ℕ} (y : (⟨2, ![R, C]⟩ : Shape).Idx) : ix2 (y 0) (y 1) = y := by funext z; fin_cases z <;> rfl

/-- One over the weights' scales, by column. -/
def invS (ws : Vec Ideal S3584x512 .f32) (n : Fin 512) : EReal := Ideal.div 1 (stepOf (colAb ws n))
/-- The weights' scales. -/
def wscV (ws : Vec Ideal S3584x512 .f32) : Vec Ideal S1x512 .f32 := fun y => stepOf (colAb ws (y 1))
/-- The product of the codes times the scales. -/
def yV (xcb : Vec Ideal S256x3584 .bf16) (xsb : Vec Ideal S256x128 .f32) (wcb : Vec Ideal S3584x512 .bf16) (wsc : Vec Ideal S1x512 .f32) : Vec Ideal S256x512 .bf16 :=
  fun y => dotC xcb wcb (y 0) (y 1) * (xsb (ix2 (y 0) ⟨(y 1).val % 128, Nat.mod_lt _ (by decide)⟩) : EReal) * (wsc (ix2 0 (y 1)) : EReal)

set_option maxHeartbeats 1000000 in
/-- The first half: the scaled weights, and the first two groups of weight scales. -/
theorem tail42_run (c : Dev nD) (E : Set ℕ) (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (x2 : Vec Ideal S3584x512 .bf16) (sc : Vec Ideal S3584x128 .f32) (f8 : BufTy.Contents (Elt Ideal) arg8.view.ty) (f14 : BufTy.Contents (Elt Ideal) arg14.view.ty) :
    (iprop((arg4.view.loc (c : Thread nD τ) ↦[arg4.view.set]{fullShare} harg4.unread x2) ∗ (arg8.view.loc (c : Thread nD τ) ↦[arg8.view.set]{fullShare} f8) ∗ (arg11.view.loc (c : Thread nD τ) ↦[arg11.view.set]{fullShare} harg11.unread sc) ∗ (arg14.view.loc (c : Thread nD τ) ↦[arg14.view.set]{fullShare} f14)) : sProp 𝕄)
    ⊢ wp frame (wpE (defs₀ (F := Ideal)) Variants.none (c : Thread nD τ) none) E (tail42 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) (fun r => iprop(∃ (v0 v1 v2 v3 : FVec Ideal S8x128 .f32),
      ⌜r = ⟨v2, v3, k0_pay259 (F := Ideal) v0, k0_pay260 (F := Ideal) v1, k0_pay261 (F := Ideal)⟩⌝
      ∗ ⌜AccOk (wsT x2 sc) 0 (by decide) 112 v0 ∧ AccOk (wsT x2 sc) 128 (by decide) 112 v1 ∧ AccOk (wsT x2 sc) 256 (by decide) 112 v2 ∧ AccOk (wsT x2 sc) 384 (by decide) 112 v3⌝
      ∗ (arg4.view.loc (c : Thread nD τ) ↦[arg4.view.set]{fullShare} harg4.unread x2)
      ∗ (arg8.view.loc (c : Thread nD τ) ↦[arg8.view.set]{fullShare} arg8.view.writes (Elt Ideal) f8 [⟨Rect.unit (s := S1x512) ![0, 128] S1x128.size inb_S1x512_S1x128_0_128, k0_pay260 (F := Ideal) v1⟩, ⟨Rect.unit (s := S1x512) ![0, 0] S1x128.size inb_S1x512_S1x128_0_0, k0_pay258 (F := Ideal) v0⟩])
      ∗ (arg11.view.loc (c : Thread nD τ) ↦[arg11.view.set]{fullShare} harg11.unread sc) ∗ (arg14.view.loc (c : Thread nD τ) ↦[arg14.view.set]{fullShare} harg14.unread (wsT x2 sc)))) := by
  unfold tail42
  rw [wp_bind]
  iintro ⟨H4, H8, H11, H14⟩
  iapply (Scf.wp_for frame (wpE (defs₀ (F := Ideal)) Variants.none (c : Thread nD τ) none) E _ _ _ _ _ _ (invA c arg4 harg4 arg11 harg11 arg14 x2 sc)
    (loopA c E i arg1 harg1 arg2 harg2 arg3 harg3 arg4 harg4 arg5 harg5 arg6 harg6 arg7 harg7 arg8 harg8 arg9 harg9 arg10 harg10 arg11 harg11 arg12 harg12 arg13 harg13 arg14 harg14 arg15 harg15 x2 sc (k0_pay250 (F := Ideal), k0_pay251 (F := Ideal), k0_pay252 (F := Ideal), k0_pay253 (F := Ideal))).step)
  isplitl [H4 H11 H14]
  · isplitl [H4]; · iexact H4
    isplitl [H11]; · iexact H11
    isplitl [H14]
    · iexists f14; isplitl [H14]; · iexact H14
      ipureintro; intro y hy; omega
    ipureintro; exact acc_init _
  iintro %acc ⟨H4, H11, ⟨%g14, H14, %hg⟩, %ha⟩
  obtain ⟨v0, v1, v2, v3⟩ := acc
  have ht : Scf.trips k0_t1_loop.lb k0_t1_loop.ub k0_t1_loop.st = 112 := by decide +kernel
  rw [ht] at hg ha
  obtain rfl : g14 = harg14.unread (wsT x2 sc) := harg14.eq_unread (funext fun y => hg y (by have := (y 0).isLt; exact this))
  sl_exec
  sl_step
  iexists v0, v1, v2, v3
  isplitr; · ipureintro; rfl
  isplitr; · ipureintro; exact ha
  isplitl [H4]; · iexact H4
  isplitl [H8]; · iexact H8
  isplitl [H11]; · iexact H11
  iexact H14

set_option maxHeartbeats 1000000 in
/-- The second half, up to the products: the other two groups of weight scales, and the weights' codes. -/
theorem part43_run (c : Dev nD) (E : Set ℕ) (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (ws : Vec Ideal S3584x512 .f32) (xcb : Vec Ideal S256x3584 .bf16) (v0 v1 v2 v3 : FVec Ideal S8x128 .f32)
    (ha : AccOk ws 0 (by decide) 112 v0 ∧ AccOk ws 128 (by decide) 112 v1 ∧ AccOk ws 256 (by decide) 112 v2 ∧ AccOk ws 384 (by decide) 112 v3)
    (f7 : BufTy.Contents (Elt Ideal) arg7.view.ty) (f8 : BufTy.Contents (Elt Ideal) arg8.view.ty) (f15 : BufTy.Contents (Elt Ideal) arg15.view.ty) :
    (iprop((arg7.view.loc (c : Thread nD τ) ↦[arg7.view.set]{fullShare} f7)
      ∗ (arg8.view.loc (c : Thread nD τ) ↦[arg8.view.set]{fullShare} arg8.view.writes (Elt Ideal) f8 [⟨Rect.unit (s := S1x512) ![0, 128] S1x128.size inb_S1x512_S1x128_0_128, k0_pay260 (F := Ideal) v1⟩, ⟨Rect.unit (s := S1x512) ![0, 0] S1x128.size inb_S1x512_S1x128_0_0, k0_pay258 (F := Ideal) v0⟩])
      ∗ (arg12.view.loc (c : Thread nD τ) ↦[arg12.view.set]{fullShare} harg12.unread xcb) ∗ (arg14.view.loc (c : Thread nD τ) ↦[arg14.view.set]{fullShare} harg14.unread ws) ∗ (arg15.view.loc (c : Thread nD τ) ↦[arg15.view.set]{fullShare} f15)) : sProp 𝕄)
    ⊢ wp frame (wpE (defs₀ (F := Ideal)) Variants.none (c : Thread nD τ) none) E (k0_part43 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v2 v3 (k0_pay259 (F := Ideal) v0) (k0_pay260 (F := Ideal) v1) (k0_pay261 (F := Ideal))) (fun r => iprop(
      ⌜r = ⟨k0_pay270 (F := Ideal) xcb (wcF ws (invS ws)), k0_pay271 (F := Ideal) xcb (wcF ws (invS ws))⟩⌝
      ∗ (arg7.view.loc (c : Thread nD τ) ↦[arg7.view.set]{fullShare} harg7.unread (wcI ws (invS ws))) ∗ (arg8.view.loc (c : Thread nD τ) ↦[arg8.view.set]{fullShare} harg8.unread (wscV ws))
      ∗ (arg12.view.loc (c : Thread nD τ) ↦[arg12.view.set]{fullShare} harg12.unread xcb) ∗ (arg14.view.loc (c : Thread nD τ) ↦[arg14.view.set]{fullShare} harg14.unread ws) ∗ (arg15.view.loc (c : Thread nD τ) ↦[arg15.view.set]{fullShare} harg15.unread (wcF ws (invS ws))))) := by
  obtain ⟨a0, a1, a2, a3⟩ := ha
  rw [k0_part43_eq_skeleton]; unfold k0_part43_skel
  iintro ⟨H7, H8, H12, H14, H15⟩
  let LB := loopB c E i arg1 harg1 arg2 harg2 arg3 harg3 arg4 harg4 arg5 harg5 arg6 harg6 arg7 harg7 arg8 harg8 arg9 harg9 arg10 harg10 arg11 harg11 arg12 harg12 arg13 harg13 arg14 harg14 arg15 harg15 v2 v3 (k0_pay259 (F := Ideal) v0) (k0_pay260 (F := Ideal) v1) (k0_pay261 (F := Ideal)) ws (invS ws)
    (fun r l => pay259_at a0 r l) (fun r l => pay262_at a1 r l) (fun r l => pay264_at a2 r l) (fun x r l => pay268_at a3 x r l) (fun x r l => pay269_at a3 x r l)
  sl_exec
  have ht : Scf.trips k0_t2_loop.lb k0_t2_loop.ub k0_t2_loop.st = 112 := by decide +kernel
  rw [ht] at hL2 hL4
  obtain rfl : fL0 = harg7.unread (wcI ws (invS ws)) := harg7.eq_unread (funext fun y => hL2 y (by have := (y 0).isLt; exact this))
  obtain rfl : fL1 = harg15.unread (wcF ws (invS ws)) := harg15.eq_unread (funext fun y => hL4 y (by have := (y 0).isLt; exact this))
  have e8 : arg8.view.writes (Elt Ideal) arg8.view.junk (part43_run.sl.H8_4 v0 v1 v2 v3) = harg8.unread (wscV ws) := by
    refine harg8.eq_unread (funext fun y => ?_)
    obtain ⟨r, n, rfl⟩ : ∃ (r : Fin 1) (n : Fin 512), y = ix2 r n := ⟨y 0, y 1, (ix2_eta y).symm⟩
    have w0 : ∀ (r : Fin 1), r = 0 := fun r => Subsingleton.elim _ _
    refine col_step arg8.view _ _ 384 512 rfl _ _ (wscV ws) ?_ (fun r l h => by rw [w0 r]; exact pay265_at a3 l) r n n.isLt
    refine col_step arg8.view _ _ 256 384 rfl _ _ (wscV ws) ?_ (fun r l h => by rw [w0 r]; exact pay263_at a2 l)
    refine col_step arg8.view _ _ 128 256 rfl _ _ (wscV ws) ?_ (fun r l h => by rw [w0 r]; exact pay260_at a1 l)
    refine col_step arg8.view _ _ 0 128 rfl _ _ (wscV ws) ?_ (fun r l h => by rw [w0 r]; exact pay258_at a0 l)
    intro r n h; omega
  rw [e8]
  sl_step
  isplitr
  · ipureintro
    rw [View.readAt_full, View.readAt_full, harg12.read_unread, harg15.read_unread]
  isplitl [H7]; · iexact H7
  isplitl [H8]; · iexact H8
  isplitl [H12]; · iexact H12
  isplitl [H14]; · iexact H14
  iexact H15

/-- A group of 128 columns of the weights' scales, read at one index. -/
theorem ld_q (arg8 : Memref sig .tc .vmem S1x512 .f32) (harg8 : arg8.IsWhole) (x : Vec Ideal S1x512 .f32) (c : ℕ) (hc : c ≤ 384)
    (inb : ∀ a, (![0, c] : Fin S1x512.rank → ℕ) a + S1x128.size a ≤ S1x512.size a) (l : Fin 128) :
    View.readAt (Elt Ideal) arg8.view (Rect.unit (s := S1x512) ![0, c] S1x128.size inb).toLoadRect (harg8.unread x) (ix2 0 l) = x (ix2 0 ⟨c + l.val, by omega⟩) := by
  refine (readAt_unit_apply arg8.view _ inb rfl _ (ix2 0 ⟨c + l.val, by omega⟩) (Fin.forall_fin_two.mpr ⟨rfl, rfl⟩)).trans ?_
  rw [harg8.read_unread]

set_option maxHeartbeats 1000000 in
/-- The stores of the product. -/
theorem last_run (c : Dev nD) (E : Set ℕ) (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (xcb : Vec Ideal S256x3584 .bf16) (xsb : Vec Ideal S256x128 .f32) (wcb : Vec Ideal S3584x512 .bf16) (wsc : Vec Ideal S1x512 .f32)
    (f5 : BufTy.Contents (Elt Ideal) arg5.view.ty) :
    (iprop((arg5.view.loc (c : Thread nD τ) ↦[arg5.view.set]{fullShare} f5) ∗ (arg8.view.loc (c : Thread nD τ) ↦[arg8.view.set]{fullShare} harg8.unread wsc) ∗ (arg13.view.loc (c : Thread nD τ) ↦[arg13.view.set]{fullShare} harg13.unread xsb)) : sProp 𝕄)
    ⊢ wp frame (wpE (defs₀ (F := Ideal)) Variants.none (c : Thread nD τ) none) E (do
        let v99 : FVec Ideal S256x128 .bf16 ← k0_part44 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_pay270 (F := Ideal) xcb wcb) (k0_pay271 (F := Ideal) xcb wcb)
        let v100 : Vec Ideal S256x128 .bf16 ← Prog.lift (.load arg5 (Rect.unit (s := S256x512) ![0, 384] S256x128.size inb_S256x512_S256x128_0_384).toLoadRect (View.loadsAt_vmem h_S256x128))
        Prog.lift (.store arg5 (Rect.unit (s := S256x512) ![0, 384] S256x128.size inb_S256x512_S256x128_0_384) v99 Finset.univ (View.stores_vmem h_S256x128 (harg5.storeExact_slice rfl _ packedbf16_S256x512_S256x128_0_384) (fun _ => rfl)) (.inl rfl))
        pure ⟨⟩) (fun _ : PUnit => iprop(
      (arg5.view.loc (c : Thread nD τ) ↦[arg5.view.set]{fullShare} harg5.unread (yV xcb xsb wcb wsc)) ∗ (arg8.view.loc (c : Thread nD τ) ↦[arg8.view.set]{fullShare} harg8.unread wsc) ∗ (arg13.view.loc (c : Thread nD τ) ↦[arg13.view.set]{fullShare} harg13.unread xsb))) := by
  rw [k0_part44_eq_skeleton]
  iintro ⟨H5, H8, H13⟩
  sl_exec
  sl_step
  have Q : ∀ (g : ℕ) (hg : g ≤ 384) (h128 : 128 ∣ g) (r : Fin 256) (l : Fin 128) (inb : ∀ a, (![0, g] : Fin S1x512.rank → ℕ) a + S1x128.size a ≤ S1x512.size a),
      dotC xcb wcb r ⟨g + l.val, by omega⟩ * ((View.readAt (Elt Ideal) arg13.view (Rect.unit (s := S256x128) ![0, 0] S256x128.size inb_S256x128_S256x128_0_0).toLoadRect (harg13.unread xsb)) (ix2 r l) : EReal)
        * (View.readAt (Elt Ideal) arg8.view (Rect.unit (s := S1x512) ![0, g] S1x128.size inb).toLoadRect (harg8.unread wsc) (ix2 0 l) : EReal)
        = yV xcb xsb wcb wsc (ix2 r ⟨g + l.val, by omega⟩) := by
    intro g hg h128 r l inb
    rw [ld_q arg8 harg8 wsc g hg inb l, View.readAt_full, harg13.read_unread]
    have e : l = (⟨(g + l.val) % 128, Nat.mod_lt _ (by decide)⟩ : Fin 128) := Fin.ext (by show l.val = (g + l.val) % 128; omega)
    show _ = dotC xcb wcb r ⟨g + l.val, _⟩ * (xsb (ix2 r ⟨(g + l.val) % 128, _⟩) : EReal) * (wsc (ix2 0 ⟨g + l.val, _⟩) : EReal)
    rw [← e]
  have e5 : arg5.view.writes (Elt Ideal) f5 [⟨Rect.unit (s := S256x512) ![0, 384] S256x128.size inb_S256x512_S256x128_0_384, k0_pay275 (F := Ideal) (k0_pay270 (F := Ideal) xcb wcb) (View.readAt (Elt Ideal) arg13.view (Rect.unit (s := S256x128) ![0, 0] S256x128.size inb_S256x128_S256x128_0_0).toLoadRect (harg13.unread xsb)) (View.readAt (Elt Ideal) arg8.view (Rect.unit (s := S1x512) ![0, 384] S1x128.size inb_S1x512_S1x128_0_384).toLoadRect (harg8.unread wsc))⟩, ⟨Rect.unit (s := S256x512) ![0, 256] S256x128.size inb_S256x512_S256x128_0_256, k0_pay274 (F := Ideal) (k0_pay270 (F := Ideal) xcb wcb) (View.readAt (Elt Ideal) arg13.view (Rect.unit (s := S256x128) ![0, 0] S256x128.size inb_S256x128_S256x128_0_0).toLoadRect (harg13.unread xsb)) (View.readAt (Elt Ideal) arg8.view (Rect.unit (s := S1x512) ![0, 256] S1x128.size inb_S1x512_S1x128_0_256).toLoadRect (harg8.unread wsc))⟩, ⟨Rect.unit (s := S256x512) ![0, 128] S256x128.size inb_S256x512_S256x128_0_128, k0_pay273 (F := Ideal) (k0_pay270 (F := Ideal) xcb wcb) (View.readAt (Elt Ideal) arg13.view (Rect.unit (s := S256x128) ![0, 0] S256x128.size inb_S256x128_S256x128_0_0).toLoadRect (harg13.unread xsb)) (View.readAt (Elt Ideal) arg8.view (Rect.unit (s := S1x512) ![0, 128] S1x128.size inb_S1x512_S1x128_0_128).toLoadRect (harg8.unread wsc))⟩, ⟨Rect.unit (s := S256x512) ![0, 0] S256x128.size inb_S256x512_S256x128_0_0, k0_pay272 (F := Ideal) (k0_pay271 (F := Ideal) xcb wcb) (View.readAt (Elt Ideal) arg13.view (Rect.unit (s := S256x128) ![0, 0] S256x128.size inb_S256x128_S256x128_0_0).toLoadRect (harg13.unread xsb)) (View.readAt (Elt Ideal) arg8.view (Rect.unit (s := S1x512) ![0, 0] S1x128.size inb_S1x512_S1x128_0_0).toLoadRect (harg8.unread wsc))⟩] = harg5.unread (yV xcb xsb wcb wsc) := by
    refine harg5.eq_unread (funext fun y => ?_)
    obtain ⟨r, n, rfl⟩ : ∃ (r : Fin 256) (n : Fin 512), y = ix2 r n := ⟨y 0, y 1, (ix2_eta y).symm⟩
    refine col_step arg5.view _ _ 384 512 rfl _ _ (yV xcb xsb wcb wsc) ?_ (fun r l h => (pay275_at _ _ _ _ r l).trans (Q 384 (by decide) (by decide) r l _)) r n n.isLt
    refine col_step arg5.view _ _ 256 384 rfl _ _ (yV xcb xsb wcb wsc) ?_ (fun r l h => (pay274_at _ _ _ _ r l).trans (Q 256 (by decide) (by decide) r l _))
    refine col_step arg5.view _ _ 128 256 rfl _ _ (yV xcb xsb wcb wsc) ?_ (fun r l h => (pay273_at _ _ _ _ r l).trans (Q 128 (by decide) (by decide) r l _))
    refine col_step arg5.view _ _ 0 128 rfl _ _ (yV xcb xsb wcb wsc) ?_ (fun r l h => (pay272_at _ _ _ _ r l).trans (Q 0 (by decide) (by decide) r l _))
    intro r n h; omega
  rw [← e5]
  isplitl [H5]; · iexact H5
  isplitl [H8]; · iexact H8
  iexact H13

set_option maxHeartbeats 1000000 in
/-- One run of `tail`: from the weights of this point's columns, the channel scales and the activations' codes and scales, it leaves the weights'
    codes and scales and the product. -/
theorem tail_run (c : Dev nD) (E : Set ℕ) (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (x2 : Vec Ideal S3584x512 .bf16) (sc : Vec Ideal S3584x128 .f32) (xcb : Vec Ideal S256x3584 .bf16) (xsb : Vec Ideal S256x128 .f32)
    (f5 : BufTy.Contents (Elt Ideal) arg5.view.ty) (f7 : BufTy.Contents (Elt Ideal) arg7.view.ty) (f8 : BufTy.Contents (Elt Ideal) arg8.view.ty)
    (f14 : BufTy.Contents (Elt Ideal) arg14.view.ty) (f15 : BufTy.Contents (Elt Ideal) arg15.view.ty) :
    (iprop((arg4.view.loc (c : Thread nD τ) ↦[arg4.view.set]{fullShare} harg4.unread x2) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} harg11.unread sc) ∗ (arg12.view.loc (c : Thread nD τ) ↦[arg12.view.set]{fullShare} harg12.unread xcb) ∗ (arg13.view.loc (c : Thread nD τ) ↦[arg13.view.set]{fullShare} harg13.unread xsb) ∗ (arg14.view.loc (c : Thread nD τ) ↦[arg14.view.set]{fullShare} f14) ∗ (arg15.view.loc (c : Thread nD τ) ↦[arg15.view.set]{fullShare} f15)) : sProp 𝕄)
    ⊢ wp frame (wpE (defs₀ (F := Ideal)) Variants.none (c : Thread nD τ) none) E (tail (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) (fun _ : PUnit => iprop(
      (arg4.view.loc (c : Thread nD τ) ↦[arg4.view.set]{fullShare} harg4.unread x2) ∗ (arg5.view.loc (c : Thread nD τ) ↦[arg5.view.set]{fullShare} harg5.unread (yV xcb xsb (wcF (wsT x2 sc) (invS (wsT x2 sc))) (wscV (wsT x2 sc))))
      ∗ (arg7.view.loc (c : Thread nD τ) ↦[arg7.view.set]{fullShare} harg7.unread (wcI (wsT x2 sc) (invS (wsT x2 sc)))) ∗ (arg8.view.loc (c : Thread nD τ) ↦[arg8.view.set]{fullShare} harg8.unread (wscV (wsT x2 sc)))
      ∗ (arg11.view.loc (c : Thread nD τ) ↦[arg11.view.set]{fullShare} harg11.unread sc) ∗ (arg12.view.loc (c : Thread nD τ) ↦[arg12.view.set]{fullShare} harg12.unread xcb) ∗ (arg13.view.loc (c : Thread nD τ) ↦[arg13.view.set]{fullShare} harg13.unread xsb) ∗ (∃ f, (arg14.view.loc (c : Thread nD τ) ↦[arg14.view.set]{fullShare} f)) ∗ (∃ f, (arg15.view.loc (c : Thread nD τ) ↦[arg15.view.set]{fullShare} f)))) := by
  unfold tail
  rw [wp_bind]
  iintro ⟨H4, H5, H7, H8, H11, H12, H13, H14, H15⟩
  iapply (wp_wand_r Idealize.ShloMosaic.frame (wpE (defs₀ (F := Ideal)) Variants.none (c : Thread nD τ) none) E)
  isplitl [H4 H8 H11 H14]
  · iapply (tail42_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 x2 sc f8 f14)
    isplitl [H4]; · iexact H4
    isplitl [H8]; · iexact H8
    isplitl [H11]; · iexact H11
    iexact H14
  iintro %r ⟨%v0, %v1, %v2, %v3, %hr, %ha, H4, H8, H11, H14⟩
  subst hr
  dsimp only
  rw [wp_bind]
  iapply (wp_wand_r Idealize.ShloMosaic.frame (wpE (defs₀ (F := Ideal)) Variants.none (c : Thread nD τ) none) E)
  isplitl [H7 H8 H12 H14 H15]
  · iapply (part43_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 (wsT x2 sc) xcb v0 v1 v2 v3 ha f7 f8 f15)
    isplitl [H7]; · iexact H7
    isplitl [H8]; · iexact H8
    isplitl [H12]; · iexact H12
    isplitl [H14]; · iexact H14
    iexact H15
  iintro %r ⟨%hr, H7, H8, H12, H14, H15⟩
  subst hr
  dsimp only
  iapply (wp_wand_r Idealize.ShloMosaic.frame (wpE (defs₀ (F := Ideal)) Variants.none (c : Thread nD τ) none) E)
  isplitl [H5 H8 H13]
  · iapply (last_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 xcb xsb (wcF (wsT x2 sc) (invS (wsT x2 sc))) (wscV (wsT x2 sc)) f5)
    isplitl [H5]; · iexact H5
    isplitl [H8]; · iexact H8
    iexact H13
  iintro %_ ⟨H5, H8, H13⟩
  isplitl [H4]; · iexact H4
  isplitl [H5]; · iexact H5
  isplitl [H7]; · iexact H7
  isplitl [H8]; · iexact H8
  isplitl [H11]; · iexact H11
  isplitl [H12]; · iexact H12
  isplitl [H13]; · iexact H13
  isplitl [H14]; · iexists _; iexact H14
  iexists _; iexact H15

end Cert.KernelIdeal.Gen

end
-- ==== Proof.KI.Head.lean ====
/- One run of what the body does at the grid's first point, in closed form. -/
module

public import proofs.«01_k».proof.Proof.KI.HeadAcc
public import proofs.«01_k».proof.Proof.KI.Tail
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A buffer written in groups of rows: one more group of `G`'s values after the rows before `o` held `G`. -/
theorem row_step {rs : RefSig} {κ : Kind} {sp : Space} {e : EltTy} {R C B : ℕ} (v : View rs κ sp ⟨2, ![R, C]⟩ e) (f : v.ty.Contents (Elt Ideal))
    (L : List (View.Piece (Elt Ideal) ⟨2, ![R, C]⟩ e)) (o o' : ℕ) (ho' : o' = o + B)
    (inb : ∀ a : Fin 2, (![o, 0] : Fin 2 → ℕ) a + (![B, C] : Fin 2 → ℕ) a ≤ (![R, C] : Fin 2 → ℕ) a)
    (w : (⟨2, ![B, C]⟩ : Shape).Idx → Elt Ideal e) (G : (⟨2, ![R, C]⟩ : Shape).Idx → Elt Ideal e)
    (hL : ∀ (r : Fin R) (n : Fin C), r.val < o → v.read (Elt Ideal) (v.writes (Elt Ideal) f L) (ix2 r n) = G (ix2 r n))
    (hw : ∀ (k : Fin B) (n : Fin C) (h : o + k.val < R), w (ix2 k n) = G (ix2 ⟨o + k.val, h⟩ n)) :
    ∀ (r : Fin R) (n : Fin C), r.val < o' →
      v.read (Elt Ideal) (v.writes (Elt Ideal) f ((⟨Rect.unit (s := ⟨2, ![R, C]⟩) ![o, 0] ![B, C] inb, w⟩ : View.Piece (Elt Ideal) ⟨2, ![R, C]⟩ e) :: L)) (ix2 r n) = G (ix2 r n) := by
  subst ho'
  intro r n hn
  by_cases hlt : r.val < o
  · rw [View.read_writes_cons_unit_of_not_mem (s := ⟨2, ![R, C]⟩) v f inb w L (ix2 r n) rfl 0 (Or.inl hlt)]
    exact hL r n hlt
  · rw [View.read_writes_cons_unit_of_mem (s := ⟨2, ![R, C]⟩) v f inb w L (ix2 r n) (ix2 (⟨r.val - o, by omega⟩ : Fin B) n) rfl
      (Fin.forall_fin_two.mpr ⟨by show r.val = o + (r.val - o); omega, (Nat.zero_add _).symm⟩)]
    refine (hw ⟨r.val - o, by omega⟩ n (by have := r.isLt; dsimp only; omega)).trans (congrArg G (congrArg (fun z => ix2 z n) (Fin.ext ?_)))
    show o + (r.val - o) = r.val
    omega

/-- A group of 128 of a row, as loaded. -/
theorem ldT (v : View sig .tc .vmem S1x3584 .f32) (f : v.ty.Contents (Elt Ideal)) (G : S1x3584.Idx → EReal)
    (hf : ∀ (r : Fin 1) (n : Fin 3584), n.val < 3584 → v.read (Elt Ideal) f (ix2 r n) = G (ix2 r n)) (o : ℕ)
    (inb : ∀ a, (![0, o] : Fin S1x3584.rank → ℕ) a + S1x128.size a ≤ S1x3584.size a) (l : Fin 128) (h : o + l.val < 3584) :
    View.readAt (Elt Ideal) v (Rect.unit (s := S1x3584) ![0, o] S1x128.size inb).toLoadRect f (ix2 0 l) = G (ix2 0 ⟨o + l.val, h⟩) :=
  (readAt_unit_apply v _ inb rfl _ (ix2 0 ⟨o + l.val, h⟩) (Fin.forall_fin_two.mpr ⟨rfl, rfl⟩)).trans (hf 0 _ h)

/-- The two lengths' words. -/
abbrev w0 (arg1 : Memref sig .tc .smem S2 .i32) (g1 : BufTy.Contents (Elt Ideal) arg1.view.ty) : Elt Ideal .i32 :=
  View.readAt (Elt Ideal) arg1.view (Rect.unit (s := S2) ![0] S1.size inb_S2_S1_0).toLoadRect g1 (Shape.Idx.first (by decide))
abbrev w1 (arg1 : Memref sig .tc .smem S2 .i32) (g1 : BufTy.Contents (Elt Ideal) arg1.view.ty) : Elt Ideal .i32 :=
  View.readAt (Elt Ideal) arg1.view (Rect.unit (s := S2) ![1] S1.size inb_S2_S1_1).toLoadRect g1 (Shape.Idx.first (by decide))
/-- Which rows are valid. -/
abbrev mW (arg1 : Memref sig .tc .smem S2 .i32) (g1 : BufTy.Contents (Elt Ideal) arg1.view.ty) : IVec S256x1 1 := k0_pay1 (F := Ideal) (w0 arg1 g1) (w1 arg1 g1)

set_option maxHeartbeats 4000000 in
/-- The head's run: it leaves the channel scales, the activations' codes and the rows' steps. -/
theorem head_run (c : Dev nD) (E : Set ℕ) (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (x : Vec Ideal S256x3584 .bf16) (wm : Vec Ideal S1x3584 .f32)
    (g1 : BufTy.Contents (Elt Ideal) arg1.view.ty) (f6 : BufTy.Contents (Elt Ideal) arg6.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) :
    (iprop((arg1.view.loc (c : Thread nD τ) ↦[arg1.view.set]{fullShare.right} g1) ∗ (arg2.view.loc (c : Thread nD τ) ↦[arg2.view.set]{fullShare} harg2.unread x) ∗ (arg3.view.loc (c : Thread nD τ) ↦[arg3.view.set]{fullShare} harg3.unread wm) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄) ⊢ wp frame (wpE (defs₀ (F := Ideal)) Variants.none (c : Thread nD τ) none) E (head (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) (fun _ => iprop((arg1.view.loc (c : Thread nD τ) ↦[arg1.view.set]{fullShare.right} g1) ∗ (arg2.view.loc (c : Thread nD τ) ↦[arg2.view.set]{fullShare} harg2.unread x) ∗ (arg3.view.loc (c : Thread nD τ) ↦[arg3.view.set]{fullShare} harg3.unread wm) ∗ (arg6.view.loc (c : Thread nD τ) ↦[arg6.view.set]{fullShare} harg6.unread (sV (mW arg1 g1) x wm)) ∗ (arg9.view.loc (c : Thread nD τ) ↦[arg9.view.set]{fullShare} harg9.unread (xcV (mW arg1 g1) x wm)) ∗ (arg10.view.loc (c : Thread nD τ) ↦[arg10.view.set]{fullShare} harg10.unread (xsV (mW arg1 g1) x wm)) ∗ (arg11.view.loc (c : Thread nD τ) ↦[arg11.view.set]{fullShare} harg11.unread (scT (mW arg1 g1) x wm)) ∗ (arg12.view.loc (c : Thread nD τ) ↦[arg12.view.set]{fullShare} harg12.unread (xcbV (mW arg1 g1) x wm)) ∗ (arg13.view.loc (c : Thread nD τ) ↦[arg13.view.set]{fullShare} harg13.unread (xsbV (mW arg1 g1) x wm)))) := by
  unfold head
  rw [k0_part39_eq_skeleton]
  unfold k0_part39_skel
  simp only [Prog.bind_assoc, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  iintro ⟨H1, H2, H3, H6, H9, H10, H11, H12, H13⟩
  sl_exec
  have z0 : ∀ (r : Fin 1), r = 0 := fun r => Subsingleton.elim _ _
  have hq : ∀ r : Fin 256, (head_run.sl.r_64 arg1 arg2 harg2 arg3 harg3 x wm g1 (ix2 r 0) : EReal) = qV (mW arg1 g1) x wm r :=
    fun r => q_at arg2 harg2 arg3 harg3 x wm (w0 arg1 g1) (w1 arg1 g1) r
  have hqm : ∀ r : Fin 256, (head_run.sl.r_65 arg1 arg2 harg2 arg3 harg3 x wm g1 (ix2 r 0) : EReal) = qmV (mW arg1 g1) x wm r :=
    fun r => qm_at arg2 harg2 arg3 harg3 x wm (w0 arg1 g1) (w1 arg1 g1) r
  have hS : ∀ (f : BufTy.Contents (Elt Ideal) arg6.view.ty) (r : Fin 1) (n : Fin 3584), n.val < 3584 →
      arg6.view.read (Elt Ideal) (arg6.view.writes (Elt Ideal) f (head_run.sl.H6_28 arg1 arg2 harg2 arg3 harg3 x wm g1)) (ix2 r n) = sV (mW arg1 g1) x wm (ix2 r n) := by
    intro f
    refine col_step arg6.view _ _ 3456 3584 rfl _ _ (sV (mW arg1 g1) x wm) ?_ (fun r l h => by rw [z0 r]; exact (s6_27 _ _ _ l).trans (colS_ld (mW arg1 g1) arg2 harg2 arg3 harg3 x wm 3456 _ _ l h))
    refine col_step arg6.view _ _ 3328 3456 rfl _ _ (sV (mW arg1 g1) x wm) ?_ (fun r l h => by rw [z0 r]; exact (s6_26 _ _ _ l).trans (colS_ld (mW arg1 g1) arg2 harg2 arg3 harg3 x wm 3328 _ _ l h))
    refine col_step arg6.view _ _ 3200 3328 rfl _ _ (sV (mW arg1 g1) x wm) ?_ (fun r l h => by rw [z0 r]; exact (s6_25 _ _ _ l).trans (colS_ld (mW arg1 g1) arg2 harg2 arg3 harg3 x wm 3200 _ _ l h))
    refine col_step arg6.view _ _ 3072 3200 rfl _ _ (sV (mW arg1 g1) x wm) ?_ (fun r l h => by rw [z0 r]; exact (s6_24 _ _ _ l).trans (colS_ld (mW arg1 g1) arg2 harg2 arg3 harg3 x wm 3072 _ _ l h))
    refine col_step arg6.view _ _ 2944 3072 rfl _ _ (sV (mW arg1 g1) x wm) ?_ (fun r l h => by rw [z0 r]; exact (s6_23 _ _ _ l).trans (colS_ld (mW arg1 g1) arg2 harg2 arg3 harg3 x wm 2944 _ _ l h))
    refine col_step arg6.view _ _ 2816 2944 rfl _ _ (sV (mW arg1 g1) x wm) ?_ (fun r l h => by rw [z0 r]; exact (s6_22 _ _ _ l).trans (colS_ld (mW arg1 g1) arg2 harg2 arg3 harg3 x wm 2816 _ _ l h))
    refine col_step arg6.view _ _ 2688 2816 rfl _ _ (sV (mW arg1 g1) x wm) ?_ (fun r l h => by rw [z0 r]; exact (s6_21 _ _ _ l).trans (colS_ld (mW arg1 g1) arg2 harg2 arg3 harg3 x wm 2688 _ _ l h))
    refine col_step arg6.view _ _ 2560 2688 rfl _ _ (sV (mW arg1 g1) x wm) ?_ (fun r l h => by rw [z0 r]; exact (s6_20 _ _ _ l).trans (colS_ld (mW arg1 g1) arg2 harg2 arg3 harg3 x wm 2560 _ _ l h))
    refine col_step arg6.view _ _ 2432 2560 rfl _ _ (sV (mW arg1 g1) x wm) ?_ (fun r l h => by rw [z0 r]; exact (s6_19 _ _ _ l).trans (colS_ld (mW arg1 g1) arg2 harg2 arg3 harg3 x wm 2432 _ _ l h))
    refine col_step arg6.view _ _ 2304 2432 rfl _ _ (sV (mW arg1 g1) x wm) ?_ (fun r l h => by rw [z0 r]; exact (s6_18 _ _ _ l).trans (colS_ld (mW arg1 g1) arg2 harg2 arg3 harg3 x wm 2304 _ _ l h))
    refine col_step arg6.view _ _ 2176 2304 rfl _ _ (sV (mW arg1 g1) x wm) ?_ (fun r l h => by rw [z0 r]; exact (s6_17 _ _ _ l).trans (colS_ld (mW arg1 g1) arg2 harg2 arg3 harg3 x wm 2176 _ _ l h))
    refine col_step arg6.view _ _ 2048 2176 rfl _ _ (sV (mW arg1 g1) x wm) ?_ (fun r l h => by rw [z0 r]; exact (s6_16 _ _ _ l).trans (colS_ld (mW arg1 g1) arg2 harg2 arg3 harg3 x wm 2048 _ _ l h))
    refine col_step arg6.view _ _ 1920 2048 rfl _ _ (sV (mW arg1 g1) x wm) ?_ (fun r l h => by rw [z0 r]; exact (s6_15 _ _ _ l).trans (colS_ld (mW arg1 g1) arg2 harg2 arg3 harg3 x wm 1920 _ _ l h))
    refine col_step arg6.view _ _ 1792 1920 rfl _ _ (sV (mW arg1 g1) x wm) ?_ (fun r l h => by rw [z0 r]; exact (s6_14 _ _ _ l).trans (colS_ld (mW arg1 g1) arg2 harg2 arg3 harg3 x wm 1792 _ _ l h))
    refine col_step arg6.view _ _ 1664 1792 rfl _ _ (sV (mW arg1 g1) x wm) ?_ (fun r l h => by rw [z0 r]; exact (s6_13 _ _ _ l).trans (colS_ld (mW arg1 g1) arg2 harg2 arg3 harg3 x wm 1664 _ _ l h))
    refine col_step arg6.view _ _ 1536 1664 rfl _ _ (sV (mW arg1 g1) x wm) ?_ (fun r l h => by rw [z0 r]; exact (s6_12 _ _ _ l).trans (colS_ld (mW arg1 g1) arg2 harg2 arg3 harg3 x wm 1536 _ _ l h))
    refine col_step arg6.view _ _ 1408 1536 rfl _ _ (sV (mW arg1 g1) x wm) ?_ (fun r l h => by rw [z0 r]; exact (s6_11 _ _ _ l).trans (colS_ld (mW arg1 g1) arg2 harg2 arg3 harg3 x wm 1408 _ _ l h))
    refine col_step arg6.view _ _ 1280 1408 rfl _ _ (sV (mW arg1 g1) x wm) ?_ (fun r l h => by rw [z0 r]; exact (s6_10 _ _ _ l).trans (colS_ld (mW arg1 g1) arg2 harg2 arg3 harg3 x wm 1280 _ _ l h))
    refine col_step arg6.view _ _ 1152 1280 rfl _ _ (sV (mW arg1 g1) x wm) ?_ (fun r l h => by rw [z0 r]; exact (s6_9 _ _ _ l).trans (colS_ld (mW arg1 g1) arg2 harg2 arg3 harg3 x wm 1152 _ _ l h))
    refine col_step arg6.view _ _ 1024 1152 rfl _ _ (sV (mW arg1 g1) x wm) ?_ (fun r l h => by rw [z0 r]; exact (s6_8 _ _ _ l).trans (colS_ld (mW arg1 g1) arg2 harg2 arg3 harg3 x wm 1024 _ _ l h))
    refine col_step arg6.view _ _ 896 1024 rfl _ _ (sV (mW arg1 g1) x wm) ?_ (fun r l h => by rw [z0 r]; exact (s6_7 _ _ _ l).trans (colS_ld (mW arg1 g1) arg2 harg2 arg3 harg3 x wm 896 _ _ l h))
    refine col_step arg6.view _ _ 768 896 rfl _ _ (sV (mW arg1 g1) x wm) ?_ (fun r l h => by rw [z0 r]; exact (s6_6 _ _ _ l).trans (colS_ld (mW arg1 g1) arg2 harg2 arg3 harg3 x wm 768 _ _ l h))
    refine col_step arg6.view _ _ 640 768 rfl _ _ (sV (mW arg1 g1) x wm) ?_ (fun r l h => by rw [z0 r]; exact (s6_5 _ _ _ l).trans (colS_ld (mW arg1 g1) arg2 harg2 arg3 harg3 x wm 640 _ _ l h))
    refine col_step arg6.view _ _ 512 640 rfl _ _ (sV (mW arg1 g1) x wm) ?_ (fun r l h => by rw [z0 r]; exact (s6_4 _ _ _ l).trans (colS_ld (mW arg1 g1) arg2 harg2 arg3 harg3 x wm 512 _ _ l h))
    refine col_step arg6.view _ _ 384 512 rfl _ _ (sV (mW arg1 g1) x wm) ?_ (fun r l h => by rw [z0 r]; exact (s6_3 _ _ _ l).trans (colS_ld (mW arg1 g1) arg2 harg2 arg3 harg3 x wm 384 _ _ l h))
    refine col_step arg6.view _ _ 256 384 rfl _ _ (sV (mW arg1 g1) x wm) ?_ (fun r l h => by rw [z0 r]; exact (s6_2 _ _ _ l).trans (colS_ld (mW arg1 g1) arg2 harg2 arg3 harg3 x wm 256 _ _ l h))
    refine col_step arg6.view _ _ 128 256 rfl _ _ (sV (mW arg1 g1) x wm) ?_ (fun r l h => by rw [z0 r]; exact (s6_1 _ _ _ l).trans (colS_ld (mW arg1 g1) arg2 harg2 arg3 harg3 x wm 128 _ _ l h))
    refine col_step arg6.view _ _ 0 128 rfl _ _ (sV (mW arg1 g1) x wm) ?_ (fun r l h => by rw [z0 r]; exact (s6_0 _ _ _ _ l).trans (colS_ld (mW arg1 g1) arg2 harg2 arg3 harg3 x wm 0 _ _ l h))
    intro r n h; omega
  have hT := fun (o : ℕ) (inb) (l : Fin 128) (h : o + l.val < 3584) => ldT arg6.view _ _ (hS arg6.view.junk) o inb l h
  have e6 : ∀ L, (∀ (r : Fin 1) (n : Fin 3584), n.val < 3584 → arg6.view.read (Elt Ideal) (arg6.view.writes (Elt Ideal) f6 L) (ix2 r n) = sV (mW arg1 g1) x wm (ix2 r n)) →
      arg6.view.writes (Elt Ideal) f6 L = harg6.unread (sV (mW arg1 g1) x wm) := fun L h => harg6.eq_unread (funext fun y => by
    rw [← ix2_eta (R := 1) (C := 3584) y]; exact h _ _ (y 1).isLt)
  have e9 : ∀ L, (∀ (r : Fin 256) (n : Fin 3584), n.val < 3584 → arg9.view.read (Elt Ideal) (arg9.view.writes (Elt Ideal) f9 L) (ix2 r n) = xcV (mW arg1 g1) x wm (ix2 r n)) →
      arg9.view.writes (Elt Ideal) f9 L = harg9.unread (xcV (mW arg1 g1) x wm) := fun L h => harg9.eq_unread (funext fun y => by
    rw [← ix2_eta (R := 256) (C := 3584) y]; exact h _ _ (y 1).isLt)
  have e12 : ∀ L, (∀ (r : Fin 256) (n : Fin 3584), n.val < 3584 → arg12.view.read (Elt Ideal) (arg12.view.writes (Elt Ideal) f12 L) (ix2 r n) = xcbV (mW arg1 g1) x wm (ix2 r n)) →
      arg12.view.writes (Elt Ideal) f12 L = harg12.unread (xcbV (mW arg1 g1) x wm) := fun L h => harg12.eq_unread (funext fun y => by
    rw [← ix2_eta (R := 256) (C := 3584) y]; exact h _ _ (y 1).isLt)
  have e11 : ∀ L, (∀ (r : Fin 3584) (n : Fin 128), r.val < 3584 → arg11.view.read (Elt Ideal) (arg11.view.writes (Elt Ideal) f11 L) (ix2 r n) = scT (mW arg1 g1) x wm (ix2 r n)) →
      arg11.view.writes (Elt Ideal) f11 L = harg11.unread (scT (mW arg1 g1) x wm) := fun L h => harg11.eq_unread (funext fun y => by
    rw [← ix2_eta (R := 3584) (C := 128) y]; exact h _ _ (y 0).isLt)
  have e13 : ∀ L, (∀ (r : Fin 256) (n : Fin 128), n.val < 128 → arg13.view.read (Elt Ideal) (arg13.view.writes (Elt Ideal) f13 L) (ix2 r n) = xsbV (mW arg1 g1) x wm (ix2 r n)) →
      arg13.view.writes (Elt Ideal) f13 L = harg13.unread (xsbV (mW arg1 g1) x wm) := fun L h => harg13.eq_unread (funext fun y => by
    rw [← ix2_eta (R := 256) (C := 128) y]; exact h _ _ (y 1).isLt)
  have e10 : ∀ L, (∀ (r : Fin 2) (n : Fin 128), arg10.view.read (Elt Ideal) (arg10.view.writes (Elt Ideal) f10 L) (ix2 r n) = xsV (mW arg1 g1) x wm (ix2 r n)) →
      arg10.view.writes (Elt Ideal) f10 L = harg10.unread (xsV (mW arg1 g1) x wm) := fun L h => harg10.eq_unread (funext fun y => by
    rw [← ix2_eta (R := 2) (C := 128) y]; exact h _ _)
  rw [e6]; swap
  · exact hS f6
  rw [e9]; swap
  · refine col_step arg9.view _ _ 3456 3584 rfl _ _ (xcV (mW arg1 g1) x wm) ?_ (fun r l h => (c9_27 _ _ _ _ r l).trans (congrArg (FloatOps.fptosi (F := Ideal) (φ := FTy.f32) 8) (code_ld (mW arg1 g1) x wm r _ (LX_at arg2 harg2 x 3456 _ r l h) (hT 3456 _ l h) (hq r))))
    refine col_step arg9.view _ _ 3328 3456 rfl _ _ (xcV (mW arg1 g1) x wm) ?_ (fun r l h => (c9_26 _ _ _ _ r l).trans (congrArg (FloatOps.fptosi (F := Ideal) (φ := FTy.f32) 8) (code_ld (mW arg1 g1) x wm r _ (LX_at arg2 harg2 x 3328 _ r l h) (hT 3328 _ l h) (hq r))))
    refine col_step arg9.view _ _ 3200 3328 rfl _ _ (xcV (mW arg1 g1) x wm) ?_ (fun r l h => (c9_25 _ _ _ _ r l).trans (congrArg (FloatOps.fptosi (F := Ideal) (φ := FTy.f32) 8) (code_ld (mW arg1 g1) x wm r _ (LX_at arg2 harg2 x 3200 _ r l h) (hT 3200 _ l h) (hq r))))
    refine col_step arg9.view _ _ 3072 3200 rfl _ _ (xcV (mW arg1 g1) x wm) ?_ (fun r l h => (c9_24 _ _ _ _ r l).trans (congrArg (FloatOps.fptosi (F := Ideal) (φ := FTy.f32) 8) (code_ld (mW arg1 g1) x wm r _ (LX_at arg2 harg2 x 3072 _ r l h) (hT 3072 _ l h) (hq r))))
    refine col_step arg9.view _ _ 2944 3072 rfl _ _ (xcV (mW arg1 g1) x wm) ?_ (fun r l h => (c9_23 _ _ _ _ r l).trans (congrArg (FloatOps.fptosi (F := Ideal) (φ := FTy.f32) 8) (code_ld (mW arg1 g1) x wm r _ (LX_at arg2 harg2 x 2944 _ r l h) (hT 2944 _ l h) (hq r))))
    refine col_step arg9.view _ _ 2816 2944 rfl _ _ (xcV (mW arg1 g1) x wm) ?_ (fun r l h => (c9_22 _ _ _ _ r l).trans (congrArg (FloatOps.fptosi (F := Ideal) (φ := FTy.f32) 8) (code_ld (mW arg1 g1) x wm r _ (LX_at arg2 harg2 x 2816 _ r l h) (hT 2816 _ l h) (hq r))))
    refine col_step arg9.view _ _ 2688 2816 rfl _ _ (xcV (mW arg1 g1) x wm) ?_ (fun r l h => (c9_21 _ _ _ _ r l).trans (congrArg (FloatOps.fptosi (F := Ideal) (φ := FTy.f32) 8) (code_ld (mW arg1 g1) x wm r _ (LX_at arg2 harg2 x 2688 _ r l h) (hT 2688 _ l h) (hq r))))
    refine col_step arg9.view _ _ 2560 2688 rfl _ _ (xcV (mW arg1 g1) x wm) ?_ (fun r l h => (c9_20 _ _ _ _ r l).trans (congrArg (FloatOps.fptosi (F := Ideal) (φ := FTy.f32) 8) (code_ld (mW arg1 g1) x wm r _ (LX_at arg2 harg2 x 2560 _ r l h) (hT 2560 _ l h) (hq r))))
    refine col_step arg9.view _ _ 2432 2560 rfl _ _ (xcV (mW arg1 g1) x wm) ?_ (fun r l h => (c9_19 _ _ _ _ r l).trans (congrArg (FloatOps.fptosi (F := Ideal) (φ := FTy.f32) 8) (code_ld (mW arg1 g1) x wm r _ (LX_at arg2 harg2 x 2432 _ r l h) (hT 2432 _ l h) (hq r))))
    refine col_step arg9.view _ _ 2304 2432 rfl _ _ (xcV (mW arg1 g1) x wm) ?_ (fun r l h => (c9_18 _ _ _ _ r l).trans (congrArg (FloatOps.fptosi (F := Ideal) (φ := FTy.f32) 8) (code_ld (mW arg1 g1) x wm r _ (LX_at arg2 harg2 x 2304 _ r l h) (hT 2304 _ l h) (hq r))))
    refine col_step arg9.view _ _ 2176 2304 rfl _ _ (xcV (mW arg1 g1) x wm) ?_ (fun r l h => (c9_17 _ _ _ _ r l).trans (congrArg (FloatOps.fptosi (F := Ideal) (φ := FTy.f32) 8) (code_ld (mW arg1 g1) x wm r _ (LX_at arg2 harg2 x 2176 _ r l h) (hT 2176 _ l h) (hq r))))
    refine col_step arg9.view _ _ 2048 2176 rfl _ _ (xcV (mW arg1 g1) x wm) ?_ (fun r l h => (c9_16 _ _ _ _ r l).trans (congrArg (FloatOps.fptosi (F := Ideal) (φ := FTy.f32) 8) (code_ld (mW arg1 g1) x wm r _ (LX_at arg2 harg2 x 2048 _ r l h) (hT 2048 _ l h) (hq r))))
    refine col_step arg9.view _ _ 1920 2048 rfl _ _ (xcV (mW arg1 g1) x wm) ?_ (fun r l h => (c9_15 _ _ _ _ r l).trans (congrArg (FloatOps.fptosi (F := Ideal) (φ := FTy.f32) 8) (code_ld (mW arg1 g1) x wm r _ (LX_at arg2 harg2 x 1920 _ r l h) (hT 1920 _ l h) (hq r))))
    refine col_step arg9.view _ _ 1792 1920 rfl _ _ (xcV (mW arg1 g1) x wm) ?_ (fun r l h => (c9_14 _ _ _ _ r l).trans (congrArg (FloatOps.fptosi (F := Ideal) (φ := FTy.f32) 8) (code_ld (mW arg1 g1) x wm r _ (LX_at arg2 harg2 x 1792 _ r l h) (hT 1792 _ l h) (hq r))))
    refine col_step arg9.view _ _ 1664 1792 rfl _ _ (xcV (mW arg1 g1) x wm) ?_ (fun r l h => (c9_13 _ _ _ _ r l).trans (congrArg (FloatOps.fptosi (F := Ideal) (φ := FTy.f32) 8) (code_ld (mW arg1 g1) x wm r _ (LX_at arg2 harg2 x 1664 _ r l h) (hT 1664 _ l h) (hq r))))
    refine col_step arg9.view _ _ 1536 1664 rfl _ _ (xcV (mW arg1 g1) x wm) ?_ (fun r l h => (c9_12 _ _ _ _ r l).trans (congrArg (FloatOps.fptosi (F := Ideal) (φ := FTy.f32) 8) (code_ld (mW arg1 g1) x wm r _ (LX_at arg2 harg2 x 1536 _ r l h) (hT 1536 _ l h) (hq r))))
    refine col_step arg9.view _ _ 1408 1536 rfl _ _ (xcV (mW arg1 g1) x wm) ?_ (fun r l h => (c9_11 _ _ _ _ r l).trans (congrArg (FloatOps.fptosi (F := Ideal) (φ := FTy.f32) 8) (code_ld (mW arg1 g1) x wm r _ (LX_at arg2 harg2 x 1408 _ r l h) (hT 1408 _ l h) (hq r))))
    refine col_step arg9.view _ _ 1280 1408 rfl _ _ (xcV (mW arg1 g1) x wm) ?_ (fun r l h => (c9_10 _ _ _ _ r l).trans (congrArg (FloatOps.fptosi (F := Ideal) (φ := FTy.f32) 8) (code_ld (mW arg1 g1) x wm r _ (LX_at arg2 harg2 x 1280 _ r l h) (hT 1280 _ l h) (hq r))))
    refine col_step arg9.view _ _ 1152 1280 rfl _ _ (xcV (mW arg1 g1) x wm) ?_ (fun r l h => (c9_9 _ _ _ _ r l).trans (congrArg (FloatOps.fptosi (F := Ideal) (φ := FTy.f32) 8) (code_ld (mW arg1 g1) x wm r _ (LX_at arg2 harg2 x 1152 _ r l h) (hT 1152 _ l h) (hq r))))
    refine col_step arg9.view _ _ 1024 1152 rfl _ _ (xcV (mW arg1 g1) x wm) ?_ (fun r l h => (c9_8 _ _ _ _ r l).trans (congrArg (FloatOps.fptosi (F := Ideal) (φ := FTy.f32) 8) (code_ld (mW arg1 g1) x wm r _ (LX_at arg2 harg2 x 1024 _ r l h) (hT 1024 _ l h) (hq r))))
    refine col_step arg9.view _ _ 896 1024 rfl _ _ (xcV (mW arg1 g1) x wm) ?_ (fun r l h => (c9_7 _ _ _ _ r l).trans (congrArg (FloatOps.fptosi (F := Ideal) (φ := FTy.f32) 8) (code_ld (mW arg1 g1) x wm r _ (LX_at arg2 harg2 x 896 _ r l h) (hT 896 _ l h) (hq r))))
    refine col_step arg9.view _ _ 768 896 rfl _ _ (xcV (mW arg1 g1) x wm) ?_ (fun r l h => (c9_6 _ _ _ _ r l).trans (congrArg (FloatOps.fptosi (F := Ideal) (φ := FTy.f32) 8) (code_ld (mW arg1 g1) x wm r _ (LX_at arg2 harg2 x 768 _ r l h) (hT 768 _ l h) (hq r))))
    refine col_step arg9.view _ _ 640 768 rfl _ _ (xcV (mW arg1 g1) x wm) ?_ (fun r l h => (c9_5 _ _ _ _ r l).trans (congrArg (FloatOps.fptosi (F := Ideal) (φ := FTy.f32) 8) (code_ld (mW arg1 g1) x wm r _ (LX_at arg2 harg2 x 640 _ r l h) (hT 640 _ l h) (hq r))))
    refine col_step arg9.view _ _ 512 640 rfl _ _ (xcV (mW arg1 g1) x wm) ?_ (fun r l h => (c9_4 _ _ _ _ r l).trans (congrArg (FloatOps.fptosi (F := Ideal) (φ := FTy.f32) 8) (code_ld (mW arg1 g1) x wm r _ (LX_at arg2 harg2 x 512 _ r l h) (hT 512 _ l h) (hq r))))
    refine col_step arg9.view _ _ 384 512 rfl _ _ (xcV (mW arg1 g1) x wm) ?_ (fun r l h => (c9_3 _ _ _ _ r l).trans (congrArg (FloatOps.fptosi (F := Ideal) (φ := FTy.f32) 8) (code_ld (mW arg1 g1) x wm r _ (LX_at arg2 harg2 x 384 _ r l h) (hT 384 _ l h) (hq r))))
    refine col_step arg9.view _ _ 256 384 rfl _ _ (xcV (mW arg1 g1) x wm) ?_ (fun r l h => (c9_2 _ _ _ _ r l).trans (congrArg (FloatOps.fptosi (F := Ideal) (φ := FTy.f32) 8) (code_ld (mW arg1 g1) x wm r _ (LX_at arg2 harg2 x 256 _ r l h) (hT 256 _ l h) (hq r))))
    refine col_step arg9.view _ _ 128 256 rfl _ _ (xcV (mW arg1 g1) x wm) ?_ (fun r l h => (c9_1 _ _ _ _ r l).trans (congrArg (FloatOps.fptosi (F := Ideal) (φ := FTy.f32) 8) (code_ld (mW arg1 g1) x wm r _ (LX_at arg2 harg2 x 128 _ r l h) (hT 128 _ l h) (hq r))))
    refine col_step arg9.view _ _ 0 128 rfl _ _ (xcV (mW arg1 g1) x wm) ?_ (fun r l h => (c9_0 _ _ _ _ r l).trans (congrArg (FloatOps.fptosi (F := Ideal) (φ := FTy.f32) 8) (code_ld (mW arg1 g1) x wm r _ (LX_at arg2 harg2 x 0 _ r l h) (hT 0 _ l h) (hq r))))
    intro r n h; omega
  rw [e10]; swap
  · intro r n
    refine row_step (B := 1) arg10.view _ _ 1 2 rfl _ _ (xsV (mW arg1 g1) x wm) ?_ (fun k n h => ?_) r n r.isLt
    · refine row_step (B := 1) arg10.view _ _ 0 1 rfl _ _ (xsV (mW arg1 g1) x wm) ?_ (fun k n h => ?_)
      · intro r n h; omega
      · obtain rfl := z0 k
        refine (pay131_at _ n).trans ((hqm _).trans (congrArg (qmV (mW arg1 g1) x wm) (Fin.ext ?_)))
        show n.val = 128 * 0 + n.val
        omega
    · obtain rfl := z0 k
      exact (pay132_at _ n).trans (hqm _)
  rw [e11]; swap
  · refine row_step arg11.view _ _ 3456 3584 rfl _ _ (scT (mW arg1 g1) x wm) ?_ (fun k n h => (s11_27 _ _ _ k n).trans (colS_ld (mW arg1 g1) arg2 harg2 arg3 harg3 x wm 3456 _ _ k h))
    refine row_step arg11.view _ _ 3328 3456 rfl _ _ (scT (mW arg1 g1) x wm) ?_ (fun k n h => (s11_26 _ _ _ k n).trans (colS_ld (mW arg1 g1) arg2 harg2 arg3 harg3 x wm 3328 _ _ k h))
    refine row_step arg11.view _ _ 3200 3328 rfl _ _ (scT (mW arg1 g1) x wm) ?_ (fun k n h => (s11_25 _ _ _ k n).trans (colS_ld (mW arg1 g1) arg2 harg2 arg3 harg3 x wm 3200 _ _ k h))
    refine row_step arg11.view _ _ 3072 3200 rfl _ _ (scT (mW arg1 g1) x wm) ?_ (fun k n h => (s11_24 _ _ _ k n).trans (colS_ld (mW arg1 g1) arg2 harg2 arg3 harg3 x wm 3072 _ _ k h))
    refine row_step arg11.view _ _ 2944 3072 rfl _ _ (scT (mW arg1 g1) x wm) ?_ (fun k n h => (s11_23 _ _ _ k n).trans (colS_ld (mW arg1 g1) arg2 harg2 arg3 harg3 x wm 2944 _ _ k h))
    refine row_step arg11.view _ _ 2816 2944 rfl _ _ (scT (mW arg1 g1) x wm) ?_ (fun k n h => (s11_22 _ _ _ k n).trans (colS_ld (mW arg1 g1) arg2 harg2 arg3 harg3 x wm 2816 _ _ k h))
    refine row_step arg11.view _ _ 2688 2816 rfl _ _ (scT (mW arg1 g1) x wm) ?_ (fun k n h => (s11_21 _ _ _ k n).trans (colS_ld (mW arg1 g1) arg2 harg2 arg3 harg3 x wm 2688 _ _ k h))
    refine row_step arg11.view _ _ 2560 2688 rfl _ _ (scT (mW arg1 g1) x wm) ?_ (fun k n h => (s11_20 _ _ _ k n).trans (colS_ld (mW arg1 g1) arg2 harg2 arg3 harg3 x wm 2560 _ _ k h))
    refine row_step arg11.view _ _ 2432 2560 rfl _ _ (scT (mW arg1 g1) x wm) ?_ (fun k n h => (s11_19 _ _ _ k n).trans (colS_ld (mW arg1 g1) arg2 harg2 arg3 harg3 x wm 2432 _ _ k h))
    refine row_step arg11.view _ _ 2304 2432 rfl _ _ (scT (mW arg1 g1) x wm) ?_ (fun k n h => (s11_18 _ _ _ k n).trans (colS_ld (mW arg1 g1) arg2 harg2 arg3 harg3 x wm 2304 _ _ k h))
    refine row_step arg11.view _ _ 2176 2304 rfl _ _ (scT (mW arg1 g1) x wm) ?_ (fun k n h => (s11_17 _ _ _ k n).trans (colS_ld (mW arg1 g1) arg2 harg2 arg3 harg3 x wm 2176 _ _ k h))
    refine row_step arg11.view _ _ 2048 2176 rfl _ _ (scT (mW arg1 g1) x wm) ?_ (fun k n h => (s11_16 _ _ _ k n).trans (colS_ld (mW arg1 g1) arg2 harg2 arg3 harg3 x wm 2048 _ _ k h))
    refine row_step arg11.view _ _ 1920 2048 rfl _ _ (scT (mW arg1 g1) x wm) ?_ (fun k n h => (s11_15 _ _ _ k n).trans (colS_ld (mW arg1 g1) arg2 harg2 arg3 harg3 x wm 1920 _ _ k h))
    refine row_step arg11.view _ _ 1792 1920 rfl _ _ (scT (mW arg1 g1) x wm) ?_ (fun k n h => (s11_14 _ _ _ k n).trans (colS_ld (mW arg1 g1) arg2 harg2 arg3 harg3 x wm 1792 _ _ k h))
    refine row_step arg11.view _ _ 1664 1792 rfl _ _ (scT (mW arg1 g1) x wm) ?_ (fun k n h => (s11_13 _ _ _ k n).trans (colS_ld (mW arg1 g1) arg2 harg2 arg3 harg3 x wm 1664 _ _ k h))
    refine row_step arg11.view _ _ 1536 1664 rfl _ _ (scT (mW arg1 g1) x wm) ?_ (fun k n h => (s11_12 _ _ _ k n).trans (colS_ld (mW arg1 g1) arg2 harg2 arg3 harg3 x wm 1536 _ _ k h))
    refine row_step arg11.view _ _ 1408 1536 rfl _ _ (scT (mW arg1 g1) x wm) ?_ (fun k n h => (s11_11 _ _ _ k n).trans (colS_ld (mW arg1 g1) arg2 harg2 arg3 harg3 x wm 1408 _ _ k h))
    refine row_step arg11.view _ _ 1280 1408 rfl _ _ (scT (mW arg1 g1) x wm) ?_ (fun k n h => (s11_10 _ _ _ k n).trans (colS_ld (mW arg1 g1) arg2 harg2 arg3 harg3 x wm 1280 _ _ k h))
    refine row_step arg11.view _ _ 1152 1280 rfl _ _ (scT (mW arg1 g1) x wm) ?_ (fun k n h => (s11_9 _ _ _ k n).trans (colS_ld (mW arg1 g1) arg2 harg2 arg3 harg3 x wm 1152 _ _ k h))
    refine row_step arg11.view _ _ 1024 1152 rfl _ _ (scT (mW arg1 g1) x wm) ?_ (fun k n h => (s11_8 _ _ _ k n).trans (colS_ld (mW arg1 g1) arg2 harg2 arg3 harg3 x wm 1024 _ _ k h))
    refine row_step arg11.view _ _ 896 1024 rfl _ _ (scT (mW arg1 g1) x wm) ?_ (fun k n h => (s11_7 _ _ _ k n).trans (colS_ld (mW arg1 g1) arg2 harg2 arg3 harg3 x wm 896 _ _ k h))
    refine row_step arg11.view _ _ 768 896 rfl _ _ (scT (mW arg1 g1) x wm) ?_ (fun k n h => (s11_6 _ _ _ k n).trans (colS_ld (mW arg1 g1) arg2 harg2 arg3 harg3 x wm 768 _ _ k h))
    refine row_step arg11.view _ _ 640 768 rfl _ _ (scT (mW arg1 g1) x wm) ?_ (fun k n h => (s11_5 _ _ _ k n).trans (colS_ld (mW arg1 g1) arg2 harg2 arg3 harg3 x wm 640 _ _ k h))
    refine row_step arg11.view _ _ 512 640 rfl _ _ (scT (mW arg1 g1) x wm) ?_ (fun k n h => (s11_4 _ _ _ k n).trans (colS_ld (mW arg1 g1) arg2 harg2 arg3 harg3 x wm 512 _ _ k h))
    refine row_step arg11.view _ _ 384 512 rfl _ _ (scT (mW arg1 g1) x wm) ?_ (fun k n h => (s11_3 _ _ _ k n).trans (colS_ld (mW arg1 g1) arg2 harg2 arg3 harg3 x wm 384 _ _ k h))
    refine row_step arg11.view _ _ 256 384 rfl _ _ (scT (mW arg1 g1) x wm) ?_ (fun k n h => (s11_2 _ _ _ k n).trans (colS_ld (mW arg1 g1) arg2 harg2 arg3 harg3 x wm 256 _ _ k h))
    refine row_step arg11.view _ _ 128 256 rfl _ _ (scT (mW arg1 g1) x wm) ?_ (fun k n h => (s11_1 _ _ _ k n).trans (colS_ld (mW arg1 g1) arg2 harg2 arg3 harg3 x wm 128 _ _ k h))
    refine row_step arg11.view _ _ 0 128 rfl _ _ (scT (mW arg1 g1) x wm) ?_ (fun k n h => (s11_0 _ _ _ _ k n).trans (colS_ld (mW arg1 g1) arg2 harg2 arg3 harg3 x wm 0 _ _ k h))
    intro r n h; omega
  rw [e12]; swap
  · refine col_step arg12.view _ _ 3456 3584 rfl _ _ (xcbV (mW arg1 g1) x wm) ?_ (fun r l h => (c12_27 _ _ _ _ r l).trans (code_ld (mW arg1 g1) x wm r _ (LX_at arg2 harg2 x 3456 _ r l h) (hT 3456 _ l h) (hq r)))
    refine col_step arg12.view _ _ 3328 3456 rfl _ _ (xcbV (mW arg1 g1) x wm) ?_ (fun r l h => (c12_26 _ _ _ _ r l).trans (code_ld (mW arg1 g1) x wm r _ (LX_at arg2 harg2 x 3328 _ r l h) (hT 3328 _ l h) (hq r)))
    refine col_step arg12.view _ _ 3200 3328 rfl _ _ (xcbV (mW arg1 g1) x wm) ?_ (fun r l h => (c12_25 _ _ _ _ r l).trans (code_ld (mW arg1 g1) x wm r _ (LX_at arg2 harg2 x 3200 _ r l h) (hT 3200 _ l h) (hq r)))
    refine col_step arg12.view _ _ 3072 3200 rfl _ _ (xcbV (mW arg1 g1) x wm) ?_ (fun r l h => (c12_24 _ _ _ _ r l).trans (code_ld (mW arg1 g1) x wm r _ (LX_at arg2 harg2 x 3072 _ r l h) (hT 3072 _ l h) (hq r)))
    refine col_step arg12.view _ _ 2944 3072 rfl _ _ (xcbV (mW arg1 g1) x wm) ?_ (fun r l h => (c12_23 _ _ _ _ r l).trans (code_ld (mW arg1 g1) x wm r _ (LX_at arg2 harg2 x 2944 _ r l h) (hT 2944 _ l h) (hq r)))
    refine col_step arg12.view _ _ 2816 2944 rfl _ _ (xcbV (mW arg1 g1) x wm) ?_ (fun r l h => (c12_22 _ _ _ _ r l).trans (code_ld (mW arg1 g1) x wm r _ (LX_at arg2 harg2 x 2816 _ r l h) (hT 2816 _ l h) (hq r)))
    refine col_step arg12.view _ _ 2688 2816 rfl _ _ (xcbV (mW arg1 g1) x wm) ?_ (fun r l h => (c12_21 _ _ _ _ r l).trans (code_ld (mW arg1 g1) x wm r _ (LX_at arg2 harg2 x 2688 _ r l h) (hT 2688 _ l h) (hq r)))
    refine col_step arg12.view _ _ 2560 2688 rfl _ _ (xcbV (mW arg1 g1) x wm) ?_ (fun r l h => (c12_20 _ _ _ _ r l).trans (code_ld (mW arg1 g1) x wm r _ (LX_at arg2 harg2 x 2560 _ r l h) (hT 2560 _ l h) (hq r)))
    refine col_step arg12.view _ _ 2432 2560 rfl _ _ (xcbV (mW arg1 g1) x wm) ?_ (fun r l h => (c12_19 _ _ _ _ r l).trans (code_ld (mW arg1 g1) x wm r _ (LX_at arg2 harg2 x 2432 _ r l h) (hT 2432 _ l h) (hq r)))
    refine col_step arg12.view _ _ 2304 2432 rfl _ _ (xcbV (mW arg1 g1) x wm) ?_ (fun r l h => (c12_18 _ _ _ _ r l).trans (code_ld (mW arg1 g1) x wm r _ (LX_at arg2 harg2 x 2304 _ r l h) (hT 2304 _ l h) (hq r)))
    refine col_step arg12.view _ _ 2176 2304 rfl _ _ (xcbV (mW arg1 g1) x wm) ?_ (fun r l h => (c12_17 _ _ _ _ r l).trans (code_ld (mW arg1 g1) x wm r _ (LX_at arg2 harg2 x 2176 _ r l h) (hT 2176 _ l h) (hq r)))
    refine col_step arg12.view _ _ 2048 2176 rfl _ _ (xcbV (mW arg1 g1) x wm) ?_ (fun r l h => (c12_16 _ _ _ _ r l).trans (code_ld (mW arg1 g1) x wm r _ (LX_at arg2 harg2 x 2048 _ r l h) (hT 2048 _ l h) (hq r)))
    refine col_step arg12.view _ _ 1920 2048 rfl _ _ (xcbV (mW arg1 g1) x wm) ?_ (fun r l h => (c12_15 _ _ _ _ r l).trans (code_ld (mW arg1 g1) x wm r _ (LX_at arg2 harg2 x 1920 _ r l h) (hT 1920 _ l h) (hq r)))
    refine col_step arg12.view _ _ 1792 1920 rfl _ _ (xcbV (mW arg1 g1) x wm) ?_ (fun r l h => (c12_14 _ _ _ _ r l).trans (code_ld (mW arg1 g1) x wm r _ (LX_at arg2 harg2 x 1792 _ r l h) (hT 1792 _ l h) (hq r)))
    refine col_step arg12.view _ _ 1664 1792 rfl _ _ (xcbV (mW arg1 g1) x wm) ?_ (fun r l h => (c12_13 _ _ _ _ r l).trans (code_ld (mW arg1 g1) x wm r _ (LX_at arg2 harg2 x 1664 _ r l h) (hT 1664 _ l h) (hq r)))
    refine col_step arg12.view _ _ 1536 1664 rfl _ _ (xcbV (mW arg1 g1) x wm) ?_ (fun r l h => (c12_12 _ _ _ _ r l).trans (code_ld (mW arg1 g1) x wm r _ (LX_at arg2 harg2 x 1536 _ r l h) (hT 1536 _ l h) (hq r)))
    refine col_step arg12.view _ _ 1408 1536 rfl _ _ (xcbV (mW arg1 g1) x wm) ?_ (fun r l h => (c12_11 _ _ _ _ r l).trans (code_ld (mW arg1 g1) x wm r _ (LX_at arg2 harg2 x 1408 _ r l h) (hT 1408 _ l h) (hq r)))
    refine col_step arg12.view _ _ 1280 1408 rfl _ _ (xcbV (mW arg1 g1) x wm) ?_ (fun r l h => (c12_10 _ _ _ _ r l).trans (code_ld (mW arg1 g1) x wm r _ (LX_at arg2 harg2 x 1280 _ r l h) (hT 1280 _ l h) (hq r)))
    refine col_step arg12.view _ _ 1152 1280 rfl _ _ (xcbV (mW arg1 g1) x wm) ?_ (fun r l h => (c12_9 _ _ _ _ r l).trans (code_ld (mW arg1 g1) x wm r _ (LX_at arg2 harg2 x 1152 _ r l h) (hT 1152 _ l h) (hq r)))
    refine col_step arg12.view _ _ 1024 1152 rfl _ _ (xcbV (mW arg1 g1) x wm) ?_ (fun r l h => (c12_8 _ _ _ _ r l).trans (code_ld (mW arg1 g1) x wm r _ (LX_at arg2 harg2 x 1024 _ r l h) (hT 1024 _ l h) (hq r)))
    refine col_step arg12.view _ _ 896 1024 rfl _ _ (xcbV (mW arg1 g1) x wm) ?_ (fun r l h => (c12_7 _ _ _ _ r l).trans (code_ld (mW arg1 g1) x wm r _ (LX_at arg2 harg2 x 896 _ r l h) (hT 896 _ l h) (hq r)))
    refine col_step arg12.view _ _ 768 896 rfl _ _ (xcbV (mW arg1 g1) x wm) ?_ (fun r l h => (c12_6 _ _ _ _ r l).trans (code_ld (mW arg1 g1) x wm r _ (LX_at arg2 harg2 x 768 _ r l h) (hT 768 _ l h) (hq r)))
    refine col_step arg12.view _ _ 640 768 rfl _ _ (xcbV (mW arg1 g1) x wm) ?_ (fun r l h => (c12_5 _ _ _ _ r l).trans (code_ld (mW arg1 g1) x wm r _ (LX_at arg2 harg2 x 640 _ r l h) (hT 640 _ l h) (hq r)))
    refine col_step arg12.view _ _ 512 640 rfl _ _ (xcbV (mW arg1 g1) x wm) ?_ (fun r l h => (c12_4 _ _ _ _ r l).trans (code_ld (mW arg1 g1) x wm r _ (LX_at arg2 harg2 x 512 _ r l h) (hT 512 _ l h) (hq r)))
    refine col_step arg12.view _ _ 384 512 rfl _ _ (xcbV (mW arg1 g1) x wm) ?_ (fun r l h => (c12_3 _ _ _ _ r l).trans (code_ld (mW arg1 g1) x wm r _ (LX_at arg2 harg2 x 384 _ r l h) (hT 384 _ l h) (hq r)))
    refine col_step arg12.view _ _ 256 384 rfl _ _ (xcbV (mW arg1 g1) x wm) ?_ (fun r l h => (c12_2 _ _ _ _ r l).trans (code_ld (mW arg1 g1) x wm r _ (LX_at arg2 harg2 x 256 _ r l h) (hT 256 _ l h) (hq r)))
    refine col_step arg12.view _ _ 128 256 rfl _ _ (xcbV (mW arg1 g1) x wm) ?_ (fun r l h => (c12_1 _ _ _ _ r l).trans (code_ld (mW arg1 g1) x wm r _ (LX_at arg2 harg2 x 128 _ r l h) (hT 128 _ l h) (hq r)))
    refine col_step arg12.view _ _ 0 128 rfl _ _ (xcbV (mW arg1 g1) x wm) ?_ (fun r l h => (c12_0 _ _ _ _ r l).trans (code_ld (mW arg1 g1) x wm r _ (LX_at arg2 harg2 x 0 _ r l h) (hT 0 _ l h) (hq r)))
    intro r n h; omega
  rw [e13]; swap
  · refine col_step arg13.view _ _ 0 128 rfl _ _ (xsbV (mW arg1 g1) x wm) ?_ (fun r l h => (pay130_at _ r l).trans (hqm r))
    intro r n h; omega
  sl_step
  isplitl [H1]; · iexact H1
  isplitl [H2]; · iexact H2
  isplitl [H3]; · iexact H3
  isplitl [H6]; · iexact H6
  isplitl [H9]; · iexact H9
  isplitl [H10]; · iexact H10
  isplitl [H11]; · iexact H11
  isplitl [H12]; · iexact H12
  iexact H13

end Cert.KernelIdeal.Gen
-- ==== Proof.KI.Body.lean ====
/- The kernel's body at a later point of the grid, in closed form. -/
module

public import proofs.«01_k».proof.Proof.KI.Head
public import Idealize.ShloMosaic.Lib.Pointwise
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A whole buffer at the contents that read as `X` is the buffer owned at `X`. -/
theorem own_out (c : Dev nD) {sp : Space} {S : Shape} {e : EltTy} (M : Memref sig .tc sp S e) (hM : M.IsWhole) (X : S.Idx → Elt Ideal e) :
    ((M.view.loc (c : Thread nD τ) ↦[M.view.set]{fullShare} hM.unread X) : sProp 𝕄) ⊢ iprop(∃ f, ⌜M.view.read (Elt Ideal) f = X⌝ ∗ (M.view.loc (c : Thread nD τ) ↦[M.view.set]{fullShare} f)) := by
  iintro H
  iexists _
  isplitr
  swap; · iexact H
  ipureintro; exact hM.read_unread X

/-- A whole buffer at anything, whatever it reads as. -/
theorem own_any (c : Dev nD) {sp : Space} {S : Shape} {e : EltTy} (M : Memref sig .tc sp S e) :
    (iprop(∃ f, (M.view.loc (c : Thread nD τ) ↦[M.view.set]{fullShare} f)) : sProp 𝕄) ⊢ iprop(∃ d, ∃ f, ⌜M.view.read (Elt Ideal) f = d⌝ ∗ (M.view.loc (c : Thread nD τ) ↦[M.view.set]{fullShare} f)) := by
  iintro ⟨%f, H⟩
  iexists _
  iexists _
  isplitr
  swap; · iexact H
  ipureintro; rfl

/-- The body at the first point: the head, then the tail over what the head left. -/
theorem first_run (c : Dev nD) (E : Set ℕ) (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc : cond0_0 i)
    (x : Vec Ideal S256x3584 .bf16) (wm : Vec Ideal S1x3584 .f32) (x2 : Vec Ideal S3584x512 .bf16) (g1 : BufTy.Contents (Elt Ideal) arg1.view.ty) :
    (iprop((arg1.view.loc (c : Thread nD τ) ↦[arg1.view.set]{fullShare.right} g1) ∗ owns (c : Thread nD τ) arg2 fullShare (x) ∗ owns (c : Thread nD τ) arg3 fullShare (wm) ∗ owns (c : Thread nD τ) arg4 fullShare (x2) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) : sProp 𝕄) ⊢ wp frame (wpE (defs₀ (F := Ideal)) Variants.none (c : Thread nD τ) none) E  (cc0_smoothquant_w8a8 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15)
      (fun _ => iprop((arg1.view.loc (c : Thread nD τ) ↦[arg1.view.set]{fullShare.right} g1) ∗ owns (c : Thread nD τ) arg2 fullShare (x) ∗ owns (c : Thread nD τ) arg3 fullShare (wm) ∗ owns (c : Thread nD τ) arg4 fullShare (x2) ∗ owns (c : Thread nD τ) arg5 fullShare (yV (xcbV (mW arg1 g1) x wm) (xsbV (mW arg1 g1) x wm) (wcF (wsT x2 (scT (mW arg1 g1) x wm)) (invS (wsT x2 (scT (mW arg1 g1) x wm)))) (wscV (wsT x2 (scT (mW arg1 g1) x wm)))) ∗ owns (c : Thread nD τ) arg6 fullShare (sV (mW arg1 g1) x wm) ∗ owns (c : Thread nD τ) arg7 fullShare (wcI (wsT x2 (scT (mW arg1 g1) x wm)) (invS (wsT x2 (scT (mW arg1 g1) x wm)))) ∗ owns (c : Thread nD τ) arg8 fullShare (wscV (wsT x2 (scT (mW arg1 g1) x wm))) ∗ owns (c : Thread nD τ) arg9 fullShare (xcV (mW arg1 g1) x wm) ∗ owns (c : Thread nD τ) arg10 fullShare (xsV (mW arg1 g1) x wm) ∗ owns (c : Thread nD τ) arg11 fullShare (scT (mW arg1 g1) x wm) ∗ owns (c : Thread nD τ) arg12 fullShare (xcbV (mW arg1 g1) x wm) ∗ owns (c : Thread nD τ) arg13 fullShare (xsbV (mW arg1 g1) x wm) ∗ (∃ d, owns (c : Thread nD τ) arg14 fullShare d) ∗ (∃ d, owns (c : Thread nD τ) arg15 fullShare d))) := by
  rw [body_first (hc := hc), wp_bind]
  unfold owns
  iintro ⟨H1, ⟨%f2, %e2, H2⟩, ⟨%f3, %e3, H3⟩, ⟨%f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩⟩
  obtain rfl := harg2.eq_unread e2
  obtain rfl := harg3.eq_unread e3
  obtain rfl := harg4.eq_unread e4
  iapply (wp_wand_r Idealize.ShloMosaic.frame (wpE (defs₀ (F := Ideal)) Variants.none (c : Thread nD τ) none) E)
  isplitl [H1 H2 H3 H6 H9 H10 H11 H12 H13]
  · iapply (head_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 x wm g1 f6 f9 f10 f11 f12 f13)
    isplitl [H1]; · iexact H1
    isplitl [H2]; · iexact H2
    isplitl [H3]; · iexact H3
    isplitl [H6]; · iexact H6
    isplitl [H9]; · iexact H9
    isplitl [H10]; · iexact H10
    isplitl [H11]; · iexact H11
    isplitl [H12]; · iexact H12
    iexact H13
  iintro %r ⟨H1, H2, H3, H6, H9, H10, H11, H12, H13⟩
  iapply (wp_wand_r Idealize.ShloMosaic.frame (wpE (defs₀ (F := Ideal)) Variants.none (c : Thread nD τ) none) E)
  isplitl [H4 H5 H7 H8 H11 H12 H13 H14 H15]
  · iapply (tail_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 x2 (scT (mW arg1 g1) x wm) (xcbV (mW arg1 g1) x wm) (xsbV (mW arg1 g1) x wm) f5 f7 f8 f14 f15)
    isplitl [H4]; · iexact H4
    isplitl [H5]; · iexact H5
    isplitl [H7]; · iexact H7
    isplitl [H8]; · iexact H8
    isplitl [H11]; · iexact H11
    isplitl [H12]; · iexact H12
    isplitl [H13]; · iexact H13
    isplitl [H14]; · iexact H14
    iexact H15
  iintro %r ⟨H4, H5, H7, H8, H11, H12, H13, H14, H15⟩
  isplitl [H1]; · iexact H1
  isplitl [H2]
  · iapply (own_out c arg2 harg2 _)
    iexact H2
  isplitl [H3]
  · iapply (own_out c arg3 harg3 _)
    iexact H3
  isplitl [H4]
  · iapply (own_out c arg4 harg4 _)
    iexact H4
  isplitl [H5]
  · iapply (own_out c arg5 harg5 _)
    iexact H5
  isplitl [H6]
  · iapply (own_out c arg6 harg6 _)
    iexact H6
  isplitl [H7]
  · iapply (own_out c arg7 harg7 _)
    iexact H7
  isplitl [H8]
  · iapply (own_out c arg8 harg8 _)
    iexact H8
  isplitl [H9]
  · iapply (own_out c arg9 harg9 _)
    iexact H9
  isplitl [H10]
  · iapply (own_out c arg10 harg10 _)
    iexact H10
  isplitl [H11]
  · iapply (own_out c arg11 harg11 _)
    iexact H11
  isplitl [H12]
  · iapply (own_out c arg12 harg12 _)
    iexact H12
  isplitl [H13]
  · iapply (own_out c arg13 harg13 _)
    iexact H13
  isplitl [H14]
  · iapply (own_any c arg14)
    iexact H14
  iapply (own_any c arg15)
  iexact H15

/-- The body at every other point: the tail over what the first point left. -/
theorem rest_run (c : Dev nD) (E : Set ℕ) (i : grid0.Coords) (arg1 : Memref sig .tc .smem S2 .i32) (harg1 : arg1.IsWhole) (arg2 : Memref sig .tc .vmem S256x3584 .bf16) (harg2 : arg2.IsWhole) (arg3 : Memref sig .tc .vmem S1x3584 .f32) (harg3 : arg3.IsWhole) (arg4 : Memref sig .tc .vmem S3584x512 .bf16) (harg4 : arg4.IsWhole) (arg5 : Memref sig .tc .vmem S256x512 .bf16) (harg5 : arg5.IsWhole) (arg6 : Memref sig .tc .vmem S1x3584 .f32) (harg6 : arg6.IsWhole) (arg7 : Memref sig .tc .vmem S3584x512 .i8) (harg7 : arg7.IsWhole) (arg8 : Memref sig .tc .vmem S1x512 .f32) (harg8 : arg8.IsWhole) (arg9 : Memref sig .tc .vmem S256x3584 .i8) (harg9 : arg9.IsWhole) (arg10 : Memref sig .tc .vmem S2x128 .f32) (harg10 : arg10.IsWhole) (arg11 : Memref sig .tc .vmem S3584x128 .f32) (harg11 : arg11.IsWhole) (arg12 : Memref sig .tc .vmem S256x3584 .bf16) (harg12 : arg12.IsWhole) (arg13 : Memref sig .tc .vmem S256x128 .f32) (harg13 : arg13.IsWhole) (arg14 : Memref sig .tc .vmem S3584x512 .f32) (harg14 : arg14.IsWhole) (arg15 : Memref sig .tc .vmem S3584x512 .bf16) (harg15 : arg15.IsWhole) (hc : ¬cond0_0 i)
    (x2 : Vec Ideal S3584x512 .bf16) (sc : Vec Ideal S3584x128 .f32) (xcb : Vec Ideal S256x3584 .bf16) (xsb : Vec Ideal S256x128 .f32) :
    (iprop(owns (c : Thread nD τ) arg4 fullShare (x2) ∗ (∃ d, owns (c : Thread nD τ) arg5 fullShare d) ∗ (∃ d, owns (c : Thread nD τ) arg7 fullShare d) ∗ (∃ d, owns (c : Thread nD τ) arg8 fullShare d) ∗ owns (c : Thread nD τ) arg11 fullShare (sc) ∗ owns (c : Thread nD τ) arg12 fullShare (xcb) ∗ owns (c : Thread nD τ) arg13 fullShare (xsb) ∗ (∃ d, owns (c : Thread nD τ) arg14 fullShare d) ∗ (∃ d, owns (c : Thread nD τ) arg15 fullShare d)) : sProp 𝕄) ⊢ wp frame (wpE (defs₀ (F := Ideal)) Variants.none (c : Thread nD τ) none) E  (cc0_smoothquant_w8a8 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15)
      (fun _ => iprop(owns (c : Thread nD τ) arg4 fullShare (x2) ∗ owns (c : Thread nD τ) arg5 fullShare (yV xcb xsb (wcF (wsT x2 sc) (invS (wsT x2 sc))) (wscV (wsT x2 sc))) ∗ owns (c : Thread nD τ) arg7 fullShare (wcI (wsT x2 sc) (invS (wsT x2 sc))) ∗ owns (c : Thread nD τ) arg8 fullShare (wscV (wsT x2 sc)) ∗ owns (c : Thread nD τ) arg11 fullShare (sc) ∗ owns (c : Thread nD τ) arg12 fullShare (xcb) ∗ owns (c : Thread nD τ) arg13 fullShare (xsb) ∗ (∃ d, owns (c : Thread nD τ) arg14 fullShare d) ∗ (∃ d, owns (c : Thread nD τ) arg15 fullShare d))) := by
  rw [body_rest (hc := hc)]
  unfold owns
  iintro ⟨⟨%f4, %e4, H4⟩, ⟨%d5, %f5, %e5, H5⟩, ⟨%d7, %f7, %e7, H7⟩, ⟨%d8, %f8, %e8, H8⟩, ⟨%f11, %e11, H11⟩, ⟨%f12, %e12, H12⟩, ⟨%f13, %e13, H13⟩, ⟨%d14, %f14, %e14, H14⟩, ⟨%d15, %f15, %e15, H15⟩⟩
  obtain rfl := harg4.eq_unread e4
  obtain rfl := harg11.eq_unread e11
  obtain rfl := harg12.eq_unread e12
  obtain rfl := harg13.eq_unread e13
  iapply (wp_wand_r Idealize.ShloMosaic.frame (wpE (defs₀ (F := Ideal)) Variants.none (c : Thread nD τ) none) E)
  isplitl [H4 H5 H7 H8 H11 H12 H13 H14 H15]
  · iapply (tail_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 x2 sc xcb xsb f5 f7 f8 f14 f15)
    isplitl [H4]; · iexact H4
    isplitl [H5]; · iexact H5
    isplitl [H7]; · iexact H7
    isplitl [H8]; · iexact H8
    isplitl [H11]; · iexact H11
    isplitl [H12]; · iexact H12
    isplitl [H13]; · iexact H13
    isplitl [H14]; · iexact H14
    iexact H15
  iintro %r ⟨H4, H5, H7, H8, H11, H12, H13, H14, H15⟩
  isplitl [H4]
  · iapply (own_out c arg4 harg4 _)
    iexact H4
  isplitl [H5]
  · iapply (own_out c arg5 harg5 _)
    iexact H5
  isplitl [H7]
  · iapply (own_out c arg7 harg7 _)
    iexact H7
  isplitl [H8]
  · iapply (own_out c arg8 harg8 _)
    iexact H8
  isplitl [H11]
  · iapply (own_out c arg11 harg11 _)
    iexact H11
  isplitl [H12]
  · iapply (own_out c arg12 harg12 _)
    iexact H12
  isplitl [H13]
  · iapply (own_out c arg13 harg13 _)
    iexact H13
  isplitl [H14]
  · iapply (own_any c arg14)
    iexact H14
  iapply (own_any c arg15)
  iexact H15

end Cert.KernelIdeal.Gen

end
-- ==== Proof.KI.Value.lean ====
/- What every point of the grid leaves in the staging buffers, and the run of the whole launch at those contents. -/
module

public import proofs.«01_k».proof.Proof.KI.Body
public import proofs.«01_k».proof.Proof.KI.RunB
public import Idealize.ShloMosaic.Lib.Claim
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The contents -/

/-- The grid's first point. -/
abbrev tFst (hO : Ok m) : Fin (cfgM m hO).N := ⟨0, lt_of_lt_of_eq (by decide : 0 < 37) (show (cfgM m hO).N = 37 from N_0).symm⟩
/-- Which rows are valid, by the lengths in the table. -/
abbrev MK : IVec S256x1 1 := mW tbM0_0 (tbl m 0)
/-- The activations, one row per token. -/
abbrev XV (hO : Ok m) (c : Dev nD) : Vec Ideal S256x3584 .bf16 := iblk m hO c 0 (tFst m hO)
/-- The weights' channel maxima. -/
abbrev WM (hO : Ok m) (c : Dev nD) : Vec Ideal S1x3584 .f32 := iblk m hO c 1 (tFst m hO)
/-- The channel scales, down the columns. -/
abbrev SC (hO : Ok m) (c : Dev nD) : Vec Ideal S3584x128 .f32 := scT (MK m) (XV m hO c) (WM m hO c)
/-- The activations' codes as floats. -/
abbrev XCB (hO : Ok m) (c : Dev nD) : Vec Ideal S256x3584 .bf16 := xcbV (MK m) (XV m hO c) (WM m hO c)
/-- The rows' steps, along the lanes. -/
abbrev XSB (hO : Ok m) (c : Dev nD) : Vec Ideal S256x128 .f32 := xsbV (MK m) (XV m hO c) (WM m hO c)
/-- The smoothed weights of point `t`'s columns. -/
abbrev WS (hO : Ok m) (c : Dev nD) (t : Fin (cfgM m hO).N) : Vec Ideal S3584x512 .f32 := wsT (iblk m hO c 2 t) (SC m hO c)
/-- The product at point `t`. -/
def yT (hO : Ok m) (c : Dev nD) (t : Fin (cfgM m hO).N) : Vec Ideal S256x512 .bf16 :=
  yV (XCB m hO c) (XSB m hO c) (wcF (WS m hO c t) (invS (WS m hO c t))) (wscV (WS m hO c t))
/-- The channel scales. -/
def sT (hO : Ok m) (c : Dev nD) : Vec Ideal S1x3584 .f32 := sV (MK m) (XV m hO c) (WM m hO c)
/-- The weights' codes at point `t`. -/
def wcT (hO : Ok m) (c : Dev nD) (t : Fin (cfgM m hO).N) : Vec Ideal S3584x512 .i8 := wcI (WS m hO c t) (invS (WS m hO c t))
/-- The weights' steps at point `t`. -/
def wscT (hO : Ok m) (c : Dev nD) (t : Fin (cfgM m hO).N) : Vec Ideal S1x512 .f32 := wscV (WS m hO c t)
/-- The activations' codes. -/
def xcT (hO : Ok m) (c : Dev nD) : Vec Ideal S256x3584 .i8 := xcV (MK m) (XV m hO c) (WM m hO c)
/-- The rows' steps. -/
def xsT (hO : Ok m) (c : Dev nD) : Vec Ideal S2x128 .f32 := xsV (MK m) (XV m hO c) (WM m hO c)

/-! ## The invariant and the proof data -/

/-- Before the first point the scratch holds anything; afterwards the channel scales, the codes and the rows' steps. -/
def vPhi (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (SC m hO c) ∗ owns (c : Thread nD τ) scM0_1 fullShare (XCB m hO c) ∗ owns (c : Thread nD τ) scM0_2 fullShare (XSB m hO c) ∗ (∃ d, owns (c : Thread nD τ) scM0_3 fullShare d) ∗ (∃ d, owns (c : Thread nD τ) scM0_4 fullShare d)) ∗ (∃ r, prngReg c r)) ∗ Pipeline.ΦT pre0 (tbl m) c)

theorem vPhi_zero (hO : Ok m) (c : Dev nD) (n : ℕ) (h : n ≤ (cfgM m hO).N) (hz : n = 0) : vPhi m hO c n h = iprop(Pipeline.ΦA spec0 c ∗ Pipeline.ΦT pre0 (tbl m) c) := by
  subst hz; rfl

theorem vPhi_succ (hO : Ok m) (c : Dev nD) (n : ℕ) (hn : n < (cfgM m hO).N) :
    vPhi m hO c (n + 1) hn = iprop(iprop(iprop(owns (c : Thread nD τ) scM0_0 fullShare (SC m hO c) ∗ owns (c : Thread nD τ) scM0_1 fullShare (XCB m hO c) ∗ owns (c : Thread nD τ) scM0_2 fullShare (XSB m hO c) ∗ (∃ d, owns (c : Thread nD τ) scM0_3 fullShare d) ∗ (∃ d, owns (c : Thread nD τ) scM0_4 fullShare d)) ∗ (∃ r, prngReg c r)) ∗ Pipeline.ΦT pre0 (tbl m) c) := rfl

theorem vPhi_pos (hO : Ok m) (c : Dev nD) (n : ℕ) (h : n ≤ (cfgM m hO).N) (hz : n ≠ 0) :
    vPhi m hO c n h = iprop(iprop(iprop(owns (c : Thread nD τ) scM0_0 fullShare (SC m hO c) ∗ owns (c : Thread nD τ) scM0_1 fullShare (XCB m hO c) ∗ owns (c : Thread nD τ) scM0_2 fullShare (XSB m hO c) ∗ (∃ d, owns (c : Thread nD τ) scM0_3 fullShare d) ∗ (∃ d, owns (c : Thread nD τ) scM0_4 fullShare d)) ∗ (∃ r, prngReg c r)) ∗ Pipeline.ΦT pre0 (tbl m) c) := by
  cases n with
  | zero => exact absurd rfl hz
  | succ n => rfl

/-- The launch's proof data: the arrays as the region finds them, and after each point the contents above. -/
def vdats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => yT m hO c t
    | ⟨4, _⟩ => sT m hO c
    | ⟨5, _⟩ => wcT m hO c t
    | ⟨6, _⟩ => wscT m hO c t
    | ⟨7, _⟩ => xcT m hO c
    | ⟨8, _⟩ => xsT m hO c
  Φ t := vPhi m hO c t.val (Nat.le_of_lt_succ t.isLt)
  q _ := fullShare
  owed _ := 0

theorem vA_eq (hO : Ok m) (c : Dev nD) (w : Fin (cfgM m hO).W) : (vdats m hO 0 c).A w = V m c (Pipeline.arrRef spec0 w) := by
  dsimp only [vdats]

theorem vPhi_castSucc (hO : Ok m) (c : Dev nD) (t : Fin (cfgM m hO).N) :
    (vdats m hO 0 c).Φ t.castSucc = vPhi m hO c t.val (Nat.le_of_lt t.isLt) := by
  dsimp only [vdats]; exact Pipeline.Dat.Φ_castSucc (vPhi m hO c) t

theorem vafter0_0 (hO : Ok m) (c : Dev nD) (t : Fin (cfgM m hO).N) : (vdats m hO 0 c).after 0 t = iblk m hO c 0 t := by dsimp only [vdats]; try rfl
theorem vafter0_1 (hO : Ok m) (c : Dev nD) (t : Fin (cfgM m hO).N) : (vdats m hO 0 c).after 1 t = iblk m hO c 1 t := by dsimp only [vdats]; try rfl
theorem vafter0_2 (hO : Ok m) (c : Dev nD) (t : Fin (cfgM m hO).N) : (vdats m hO 0 c).after 2 t = iblk m hO c 2 t := by dsimp only [vdats]; try rfl
theorem vafter0_3 (hO : Ok m) (c : Dev nD) (t : Fin (cfgM m hO).N) : (vdats m hO 0 c).after 3 t = yT m hO c t := by dsimp only [vdats]; try rfl
theorem vafter0_4 (hO : Ok m) (c : Dev nD) (t : Fin (cfgM m hO).N) : (vdats m hO 0 c).after 4 t = sT m hO c := by dsimp only [vdats]; try rfl
theorem vafter0_5 (hO : Ok m) (c : Dev nD) (t : Fin (cfgM m hO).N) : (vdats m hO 0 c).after 5 t = wcT m hO c t := by dsimp only [vdats]; try rfl
theorem vafter0_6 (hO : Ok m) (c : Dev nD) (t : Fin (cfgM m hO).N) : (vdats m hO 0 c).after 6 t = wscT m hO c t := by dsimp only [vdats]; try rfl
theorem vafter0_7 (hO : Ok m) (c : Dev nD) (t : Fin (cfgM m hO).N) : (vdats m hO 0 c).after 7 t = xcT m hO c := by dsimp only [vdats]; try rfl
theorem vafter0_8 (hO : Ok m) (c : Dev nD) (t : Fin (cfgM m hO).N) : (vdats m hO 0 c).after 8 t = xsT m hO c := by dsimp only [vdats]; try rfl

theorem vbefore0_0 (hO : Ok m) (c : Dev nD) (t : Fin (cfgM m hO).N) (d) : (vdats m hO 0 c).before 0 t d = iblk m hO c 0 t :=
  before0_0_of m hO (vdats m hO 0 c) (vA_eq m hO c 0) (vafter0_0 m hO c) t d
theorem vbefore0_1 (hO : Ok m) (c : Dev nD) (t : Fin (cfgM m hO).N) (d) : (vdats m hO 0 c).before 1 t d = iblk m hO c 1 t :=
  before0_1_of m hO (vdats m hO 0 c) (vA_eq m hO c 1) (vafter0_1 m hO c) t d
theorem vbefore0_2 (hO : Ok m) (c : Dev nD) (t : Fin (cfgM m hO).N) (d) : (vdats m hO 0 c).before 2 t d = iblk m hO c 2 t :=
  before0_2_of m hO (vdats m hO 0 c) (vA_eq m hO c 2) (vafter0_2 m hO c) t d

/-- No window is idle at the first point. -/
theorem idle0_first (w : Fin 9) (t : Fin grid0.N) (ht : t.val = 0) : idle0 w (grid0.coords t) = false := by
  have hc : k0_cond1 (grid0.coords t) = 1#1 := (hcond0_0 t).mpr (by rw [ht])
  fin_cases w <;> first | rfl | (simp only [idle0, hc]; rfl)

/-- The three outputs stored at the first point only are idle at every other. -/
theorem idle0_rest (w : Fin 9) (t : Fin grid0.N) (hw : w = 4 ∨ w = 7 ∨ w = 8) (ht : t.val ≠ 0) : idle0 w (grid0.coords t) = true := by
  have hlt : t.val < 37 := Nat.lt_of_lt_of_eq t.isLt N_0
  have hc : ¬ k0_cond1 (grid0.coords t) = 1#1 := fun h => ht (by have := (hcond0_0 t).mp h; omega)
  rcases hw with rfl | rfl | rfl <;> simp [idle0, hc]

theorem leaves0_0 (hO : Ok m) (c : Dev nD) (t : Fin (cfgM m hO).N) :
    (owns (c : Thread nD τ) (ms0_0 m hO t) fullShare (iblk m hO c 0 t : Vec Ideal S256x3584 .bf16) : sProp 𝕄) ⊢ (vdats m hO 0 c).leavesExact 0 t := by
  rw [show (vdats m hO 0 c).leavesExact 0 t = owns (c : Thread nD τ) (ms0_0 m hO t) fullShare ((vdats m hO 0 c).after 0 t) from by
      unfold Dat.leavesExact; rw [show (cfgM m hO).idle 0 ((cfgM m hO).grid.coords t) = false from (fun _ => rfl : ∀ t : Fin grid0.N, idle0 0 (grid0.coords t) = false) t]; try rfl]
  exact Idealize.SL.BI.Entails.refl _

theorem leaves0_1 (hO : Ok m) (c : Dev nD) (t : Fin (cfgM m hO).N) :
    (owns (c : Thread nD τ) (ms0_1 m hO t) fullShare (iblk m hO c 1 t : Vec Ideal S1x3584 .f32) : sProp 𝕄) ⊢ (vdats m hO 0 c).leavesExact 1 t := by
  rw [show (vdats m hO 0 c).leavesExact 1 t = owns (c : Thread nD τ) (ms0_1 m hO t) fullShare ((vdats m hO 0 c).after 1 t) from by
      unfold Dat.leavesExact; rw [show (cfgM m hO).idle 1 ((cfgM m hO).grid.coords t) = false from (fun _ => rfl : ∀ t : Fin grid0.N, idle0 1 (grid0.coords t) = false) t]; try rfl]
  exact Idealize.SL.BI.Entails.refl _

theorem leaves0_2 (hO : Ok m) (c : Dev nD) (t : Fin (cfgM m hO).N) :
    (owns (c : Thread nD τ) (ms0_2 m hO t) fullShare (iblk m hO c 2 t : Vec Ideal S3584x512 .bf16) : sProp 𝕄) ⊢ (vdats m hO 0 c).leavesExact 2 t := by
  rw [show (vdats m hO 0 c).leavesExact 2 t = owns (c : Thread nD τ) (ms0_2 m hO t) fullShare ((vdats m hO 0 c).after 2 t) from by
      unfold Dat.leavesExact; rw [show (cfgM m hO).idle 2 ((cfgM m hO).grid.coords t) = false from (fun _ => rfl : ∀ t : Fin grid0.N, idle0 2 (grid0.coords t) = false) t]; try rfl]
  exact Idealize.SL.BI.Entails.refl _

theorem leaves0_3 (hO : Ok m) (c : Dev nD) (t : Fin (cfgM m hO).N) :
    (owns (c : Thread nD τ) (ms0_3 m hO t) fullShare (yT m hO c t : Vec Ideal S256x512 .bf16) : sProp 𝕄) ⊢ (vdats m hO 0 c).leavesExact 3 t := by
  rw [show (vdats m hO 0 c).leavesExact 3 t = owns (c : Thread nD τ) (ms0_3 m hO t) fullShare ((vdats m hO 0 c).after 3 t) from by
      unfold Dat.leavesExact; rw [show (cfgM m hO).idle 3 ((cfgM m hO).grid.coords t) = false from (fun _ => rfl : ∀ t : Fin grid0.N, idle0 3 (grid0.coords t) = false) t]; try rfl]
  exact Idealize.SL.BI.Entails.refl _

theorem leaves0_5 (hO : Ok m) (c : Dev nD) (t : Fin (cfgM m hO).N) :
    (owns (c : Thread nD τ) (ms0_5 m hO t) fullShare (wcT m hO c t : Vec Ideal S3584x512 .i8) : sProp 𝕄) ⊢ (vdats m hO 0 c).leavesExact 5 t := by
  rw [show (vdats m hO 0 c).leavesExact 5 t = owns (c : Thread nD τ) (ms0_5 m hO t) fullShare ((vdats m hO 0 c).after 5 t) from by
      unfold Dat.leavesExact; rw [show (cfgM m hO).idle 5 ((cfgM m hO).grid.coords t) = false from (fun _ => rfl : ∀ t : Fin grid0.N, idle0 5 (grid0.coords t) = false) t]; try rfl]
  exact Idealize.SL.BI.Entails.refl _

theorem leaves0_6 (hO : Ok m) (c : Dev nD) (t : Fin (cfgM m hO).N) :
    (owns (c : Thread nD τ) (ms0_6 m hO t) fullShare (wscT m hO c t : Vec Ideal S1x512 .f32) : sProp 𝕄) ⊢ (vdats m hO 0 c).leavesExact 6 t := by
  rw [show (vdats m hO 0 c).leavesExact 6 t = owns (c : Thread nD τ) (ms0_6 m hO t) fullShare ((vdats m hO 0 c).after 6 t) from by
      unfold Dat.leavesExact; rw [show (cfgM m hO).idle 6 ((cfgM m hO).grid.coords t) = false from (fun _ => rfl : ∀ t : Fin grid0.N, idle0 6 (grid0.coords t) = false) t]; try rfl]
  exact Idealize.SL.BI.Entails.refl _

/-- Window 4's buffer is stored at the first point only and written back after the last, so it is never fresh in between. -/
theorem fresh0_4 (hO : Ok m) : ∀ n : ℕ, n < (cfgM m hO).N → n ≠ 0 → (cfgM m hO).fresh 4 n = false
  | 0, _, h => absurd rfl h
  | n + 1, h, _ => by
    have hN : n + 1 < 37 := lt_of_lt_of_eq h (show (cfgM m hO).N = 37 from N_0)
    have hf : ((cfgM m hO).win 4).flush ⟨n, Nat.lt_of_succ_lt h⟩ = false := by
      rw [Bool.eq_false_iff]; intro hx
      have hy := (flush0_4 (adm m hO) ⟨n, Nat.lt_of_succ_lt h⟩).mp hx
      have hz : n % 37 = 36 := hy
      omega
    rw [Pipeline.Cfg.fresh_succ (cfgM m hO) 4 n (Nat.lt_of_succ_lt h), hf, Bool.false_or]
    by_cases hn : n = 0
    · subst hn
      rw [show (cfgM m hO).idle 4 ((cfgM m hO).grid.coords ⟨0, Nat.lt_of_succ_lt h⟩) = false from idle0_first 4 ⟨0, Nat.lt_of_succ_lt h⟩ rfl, Bool.false_and]
    · rw [fresh0_4 hO n (Nat.lt_of_succ_lt h) hn, Bool.and_false]

/-- What the body finds in window 4's buffer after the first point: what the first point left. -/
theorem before0_4 (hO : Ok m) (c : Dev nD) (t : Fin (cfgM m hO).N) (ht : t.val ≠ 0) (d) : (vdats m hO 0 c).before 4 t d = sT m hO c := by
  rw [Pipeline.Dat.before_out_traj (vdats m hO 0 c) 4 rfl (fun _ _ => rfl) (fun _ _ _ _ => rfl) t.val t rfl d, fresh0_4 m hO t.val t.isLt ht, if_neg Bool.false_ne_true]
  rfl

/-- Window 4's buffer at what the first point left is what the obligation asks for at every point. -/
theorem leaves0_4 (hO : Ok m) (c : Dev nD) (t : Fin (cfgM m hO).N) :
    (owns (c : Thread nD τ) (ms0_4 m hO t) fullShare (sT m hO c : Vec Ideal S1x3584 .f32) : sProp 𝕄) ⊢ (vdats m hO 0 c).leavesExact 4 t := by
  by_cases ht : t.val = 0
  · rw [show (vdats m hO 0 c).leavesExact 4 t = owns (c : Thread nD τ) (ms0_4 m hO t) fullShare ((vdats m hO 0 c).after 4 t) from by
      unfold Dat.leavesExact; rw [show (cfgM m hO).idle 4 ((cfgM m hO).grid.coords t) = false from idle0_first 4 t ht]; try rfl]
    exact Idealize.SL.BI.Entails.refl _
  · cases hf : ((cfgM m hO).win 4).flush t
    · rw [Pipeline.Dat.leavesExact_idle (vdats m hO 0 c) 4 t (show (cfgM m hO).idle 4 ((cfgM m hO).grid.coords t) = true from idle0_rest 4 t (by decide) ht) hf]
      iintro H
      iexists (fun _ => default)
      rw [before0_4 m hO c t ht]
      iexact H
    · rw [show (vdats m hO 0 c).leavesExact 4 t = owns (c : Thread nD τ) (ms0_4 m hO t) fullShare ((vdats m hO 0 c).after 4 t) from by
        unfold Dat.leavesExact; rw [show (cfgM m hO).idle 4 ((cfgM m hO).grid.coords t) = true from idle0_rest 4 t (by decide) ht, hf]; try rfl]
      exact Idealize.SL.BI.Entails.refl _

/-- Window 7's buffer is stored at the first point only and written back after the last, so it is never fresh in between. -/
theorem fresh0_7 (hO : Ok m) : ∀ n : ℕ, n < (cfgM m hO).N → n ≠ 0 → (cfgM m hO).fresh 7 n = false
  | 0, _, h => absurd rfl h
  | n + 1, h, _ => by
    have hN : n + 1 < 37 := lt_of_lt_of_eq h (show (cfgM m hO).N = 37 from N_0)
    have hf : ((cfgM m hO).win 7).flush ⟨n, Nat.lt_of_succ_lt h⟩ = false := by
      rw [Bool.eq_false_iff]; intro hx
      have hy := (flush0_7 (adm m hO) ⟨n, Nat.lt_of_succ_lt h⟩).mp hx
      have hz : n % 37 = 36 := hy
      omega
    rw [Pipeline.Cfg.fresh_succ (cfgM m hO) 7 n (Nat.lt_of_succ_lt h), hf, Bool.false_or]
    by_cases hn : n = 0
    · subst hn
      rw [show (cfgM m hO).idle 7 ((cfgM m hO).grid.coords ⟨0, Nat.lt_of_succ_lt h⟩) = false from idle0_first 7 ⟨0, Nat.lt_of_succ_lt h⟩ rfl, Bool.false_and]
    · rw [fresh0_7 hO n (Nat.lt_of_succ_lt h) hn, Bool.and_false]

/-- What the body finds in window 7's buffer after the first point: what the first point left. -/
theorem before0_7 (hO : Ok m) (c : Dev nD) (t : Fin (cfgM m hO).N) (ht : t.val ≠ 0) (d) : (vdats m hO 0 c).before 7 t d = xcT m hO c := by
  rw [Pipeline.Dat.before_out_traj (vdats m hO 0 c) 7 rfl (fun _ _ => rfl) (fun _ _ _ _ => rfl) t.val t rfl d, fresh0_7 m hO t.val t.isLt ht, if_neg Bool.false_ne_true]
  rfl

/-- Window 7's buffer at what the first point left is what the obligation asks for at every point. -/
theorem leaves0_7 (hO : Ok m) (c : Dev nD) (t : Fin (cfgM m hO).N) :
    (owns (c : Thread nD τ) (ms0_7 m hO t) fullShare (xcT m hO c : Vec Ideal S256x3584 .i8) : sProp 𝕄) ⊢ (vdats m hO 0 c).leavesExact 7 t := by
  by_cases ht : t.val = 0
  · rw [show (vdats m hO 0 c).leavesExact 7 t = owns (c : Thread nD τ) (ms0_7 m hO t) fullShare ((vdats m hO 0 c).after 7 t) from by
      unfold Dat.leavesExact; rw [show (cfgM m hO).idle 7 ((cfgM m hO).grid.coords t) = false from idle0_first 7 t ht]; try rfl]
    exact Idealize.SL.BI.Entails.refl _
  · cases hf : ((cfgM m hO).win 7).flush t
    · rw [Pipeline.Dat.leavesExact_idle (vdats m hO 0 c) 7 t (show (cfgM m hO).idle 7 ((cfgM m hO).grid.coords t) = true from idle0_rest 7 t (by decide) ht) hf]
      iintro H
      iexists (fun _ => default)
      rw [before0_7 m hO c t ht]
      iexact H
    · rw [show (vdats m hO 0 c).leavesExact 7 t = owns (c : Thread nD τ) (ms0_7 m hO t) fullShare ((vdats m hO 0 c).after 7 t) from by
        unfold Dat.leavesExact; rw [show (cfgM m hO).idle 7 ((cfgM m hO).grid.coords t) = true from idle0_rest 7 t (by decide) ht, hf]; try rfl]
      exact Idealize.SL.BI.Entails.refl _

/-- Window 8's buffer is stored at the first point only and written back after the last, so it is never fresh in between. -/
theorem fresh0_8 (hO : Ok m) : ∀ n : ℕ, n < (cfgM m hO).N → n ≠ 0 → (cfgM m hO).fresh 8 n = false
  | 0, _, h => absurd rfl h
  | n + 1, h, _ => by
    have hN : n + 1 < 37 := lt_of_lt_of_eq h (show (cfgM m hO).N = 37 from N_0)
    have hf : ((cfgM m hO).win 8).flush ⟨n, Nat.lt_of_succ_lt h⟩ = false := by
      rw [Bool.eq_false_iff]; intro hx
      have hy := (flush0_8 (adm m hO) ⟨n, Nat.lt_of_succ_lt h⟩).mp hx
      have hz : n % 37 = 36 := hy
      omega
    rw [Pipeline.Cfg.fresh_succ (cfgM m hO) 8 n (Nat.lt_of_succ_lt h), hf, Bool.false_or]
    by_cases hn : n = 0
    · subst hn
      rw [show (cfgM m hO).idle 8 ((cfgM m hO).grid.coords ⟨0, Nat.lt_of_succ_lt h⟩) = false from idle0_first 8 ⟨0, Nat.lt_of_succ_lt h⟩ rfl, Bool.false_and]
    · rw [fresh0_8 hO n (Nat.lt_of_succ_lt h) hn, Bool.and_false]

/-- What the body finds in window 8's buffer after the first point: what the first point left. -/
theorem before0_8 (hO : Ok m) (c : Dev nD) (t : Fin (cfgM m hO).N) (ht : t.val ≠ 0) (d) : (vdats m hO 0 c).before 8 t d = xsT m hO c := by
  rw [Pipeline.Dat.before_out_traj (vdats m hO 0 c) 8 rfl (fun _ _ => rfl) (fun _ _ _ _ => rfl) t.val t rfl d, fresh0_8 m hO t.val t.isLt ht, if_neg Bool.false_ne_true]
  rfl

/-- Window 8's buffer at what the first point left is what the obligation asks for at every point. -/
theorem leaves0_8 (hO : Ok m) (c : Dev nD) (t : Fin (cfgM m hO).N) :
    (owns (c : Thread nD τ) (ms0_8 m hO t) fullShare (xsT m hO c : Vec Ideal S2x128 .f32) : sProp 𝕄) ⊢ (vdats m hO 0 c).leavesExact 8 t := by
  by_cases ht : t.val = 0
  · rw [show (vdats m hO 0 c).leavesExact 8 t = owns (c : Thread nD τ) (ms0_8 m hO t) fullShare ((vdats m hO 0 c).after 8 t) from by
      unfold Dat.leavesExact; rw [show (cfgM m hO).idle 8 ((cfgM m hO).grid.coords t) = false from idle0_first 8 t ht]; try rfl]
    exact Idealize.SL.BI.Entails.refl _
  · cases hf : ((cfgM m hO).win 8).flush t
    · rw [Pipeline.Dat.leavesExact_idle (vdats m hO 0 c) 8 t (show (cfgM m hO).idle 8 ((cfgM m hO).grid.coords t) = true from idle0_rest 8 t (by decide) ht) hf]
      iintro H
      iexists (fun _ => default)
      rw [before0_8 m hO c t ht]
      iexact H
    · rw [show (vdats m hO 0 c).leavesExact 8 t = owns (c : Thread nD τ) (ms0_8 m hO t) fullShare ((vdats m hO 0 c).after 8 t) from by
        unfold Dat.leavesExact; rw [show (cfgM m hO).idle 8 ((cfgM m hO).grid.coords t) = true from idle0_rest 8 t (by decide) ht, hf]; try rfl]
      exact Idealize.SL.BI.Entails.refl _

/-! ## The body obligation -/

/-- The half of the lengths' table that the body reads, as the body's memref holds it. -/
theorem PhiT1_eq (c : Dev nD) : (Pipeline.ΦT pre0 (tbl m) c : sProp 𝕄) = iprop(tbM0_0.view.loc (c : Thread nD τ) ↦[tbM0_0.view.set]{fullShare.right} (tbl m 0)) :=
  (PhiT0_eq m c).trans (by unfold tbPt0; simp only [Memref.view_whole, View.set_whole])

/-- What the body is called with at point `t`, -/
def vPre (hO : Ok m) (c : Dev nD) (t : Fin (cfgM m hO).N) : sProp 𝕄 :=
  iprop((vdats m hO 0 c).Φ t.castSucc ∗ (vdats m hO 0 c).owesAt () t.castSucc
    ∗ (∃ d, owns (c : Thread nD τ) (ms0_0 m hO t) fullShare ((vdats m hO 0 c).before 0 t d))
    ∗ (∃ d, owns (c : Thread nD τ) (ms0_1 m hO t) fullShare ((vdats m hO 0 c).before 1 t d))
    ∗ (∃ d, owns (c : Thread nD τ) (ms0_2 m hO t) fullShare ((vdats m hO 0 c).before 2 t d))
    ∗ (∃ d, owns (c : Thread nD τ) (ms0_3 m hO t) fullShare d)
    ∗ (∃ d, owns (c : Thread nD τ) (ms0_4 m hO t) fullShare ((vdats m hO 0 c).before 4 t d))
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare ((vdats m hO 0 c).before 7 t d))
    ∗ (∃ d, owns (c : Thread nD τ) (ms0_8 m hO t) fullShare ((vdats m hO 0 c).before 8 t d)))

/-- and what it returns. -/
def vPost (hO : Ok m) (c : Dev nD) (t : Fin (cfgM m hO).N) : sProp 𝕄 :=
  iprop((vdats m hO 0 c).Φ t.succ ∗ (vdats m hO 0 c).owesAt () t.succ
    ∗ (vdats m hO 0 c).leavesExact 0 t
    ∗ (vdats m hO 0 c).leavesExact 1 t
    ∗ (vdats m hO 0 c).leavesExact 2 t
    ∗ (vdats m hO 0 c).leavesExact 3 t
    ∗ (vdats m hO 0 c).leavesExact 4 t
    ∗ (vdats m hO 0 c).leavesExact 5 t
    ∗ (vdats m hO 0 c).leavesExact 6 t
    ∗ (vdats m hO 0 c).leavesExact 7 t
    ∗ (vdats m hO 0 c).leavesExact 8 t)

set_option maxHeartbeats 4000000 in
/-- The body at any point, at the contents above. -/
theorem vsound (hO : Ok m) (c : Dev nD) (t : Fin (cfgM m hO).N) :
    vPre m hO c t ⊢ wp frame (wpE (defs₀ (F := Ideal)) Variants.none c none) Set.univ (bodyAt0 (adm m hO) t) (fun _ => vPost m hO c t) := by
  unfold vPre vPost bodyAt0
  simp only [vbefore0_0, vbefore0_1, vbefore0_2]
  rw [show (vdats m hO 0 c).owesAt () t.succ = (vdats m hO 0 c).owesAt () t.castSucc from rfl]
  rw [show (vdats m hO 0 c).Φ t.succ = vPhi m hO c (t.val + 1) t.isLt from rfl, vPhi_succ, PhiT1_eq]
  have hN : t.val < 37 := lt_of_lt_of_eq t.isLt (show (cfgM m hO).N = 37 from N_0)
  by_cases hz : t.val = 0
  · obtain rfl : t = tFst m hO := Fin.ext hz
    rw [vPhi_castSucc m hO c _, vPhi_zero m hO c _ _ hz, PhiT1_eq, PhiA0_eq]
    iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r Idealize.ShloMosaic.frame (wpE (defs₀ (F := Ideal)) Variants.none (c : Thread nD τ) none) Set.univ)
    isplitl [HT0 H0 H1 H2 H3 H4 H5 H6 H7 H8 HS0 HS1 HS2 HS3 HS4]
    · iapply (first_run c Set.univ (grid0.coords (tFst m hO)) tbM0_0 (Memref.isWhole_whole _) (ms0_0 m hO (tFst m hO)) (hs0_0 m hO (tFst m hO)) (ms0_1 m hO (tFst m hO)) (hs0_1 m hO (tFst m hO)) (ms0_2 m hO (tFst m hO)) (hs0_2 m hO (tFst m hO)) (ms0_3 m hO (tFst m hO)) (hs0_3 m hO (tFst m hO)) (ms0_4 m hO (tFst m hO)) (hs0_4 m hO (tFst m hO)) (ms0_5 m hO (tFst m hO)) (hs0_5 m hO (tFst m hO)) (ms0_6 m hO (tFst m hO)) (hs0_6 m hO (tFst m hO)) (ms0_7 m hO (tFst m hO)) (hs0_7 m hO (tFst m hO)) (ms0_8 m hO (tFst m hO)) (hs0_8 m hO (tFst m hO)) scM0_0 (Memref.isWhole_whole _) scM0_1 (Memref.isWhole_whole _) scM0_2 (Memref.isWhole_whole _) scM0_3 (Memref.isWhole_whole _) scM0_4 (Memref.isWhole_whole _) ((hcond0_0 (tFst m hO)).mpr rfl) (iblk m hO c 0 (tFst m hO)) (iblk m hO c 1 (tFst m hO)) (iblk m hO c 2 (tFst m hO)) (tbl m 0))
      isplitl [HT0]; · iexact HT0
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iexact HS4
    iintro %r ⟨HT0, H0, H1, H2, H3, H4, H5, H6, H7, H8, HS0, HS1, HS2, HS3, HS4⟩
    isplitl [HS0 HS1 HS2 HS3 HS4 Hg HT0]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT0
    isplitl [Ho]; · iexact Ho
    isplitl [H0]; · iapply (leaves0_0 m hO c (tFst m hO)); iexact H0
    isplitl [H1]; · iapply (leaves0_1 m hO c (tFst m hO)); iexact H1
    isplitl [H2]; · iapply (leaves0_2 m hO c (tFst m hO)); iexact H2
    isplitl [H3]; · iapply (leaves0_3 m hO c (tFst m hO)); iexact H3
    isplitl [H4]; · iapply (leaves0_4 m hO c (tFst m hO)); iexact H4
    isplitl [H5]; · iapply (leaves0_5 m hO c (tFst m hO)); iexact H5
    isplitl [H6]; · iapply (leaves0_6 m hO c (tFst m hO)); iexact H6
    isplitl [H7]; · iapply (leaves0_7 m hO c (tFst m hO)); iexact H7
    iapply (leaves0_8 m hO c (tFst m hO)); iexact H8
  · rw [vPhi_castSucc m hO c t, vPhi_pos m hO c _ _ hz, PhiT1_eq]
    simp only [before0_4 m hO c t hz, before0_7 m hO c t hz, before0_8 m hO c t hz]
    iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r Idealize.ShloMosaic.frame (wpE (defs₀ (F := Ideal)) Variants.none (c : Thread nD τ) none) Set.univ)
    isplitl [H2 H3 H5 H6 HS0 HS1 HS2 HS3 HS4]
    · iapply (rest_run c Set.univ (grid0.coords t) tbM0_0 (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) scM0_4 (Memref.isWhole_whole _) (fun h => hz (by have := (hcond0_0 t).mp h; omega)) (iblk m hO c 2 t) (SC m hO c) (XCB m hO c) (XSB m hO c))
      isplitl [H2]; · iexact H2
      isplitl [H3]; · iexists _; iexact H3
      isplitl [H5]; · iexists _; iexact H5
      isplitl [H6]; · iexists _; iexact H6
      isplitl [HS0]; · iexact HS0
      isplitl [HS1]; · iexact HS1
      isplitl [HS2]; · iexact HS2
      isplitl [HS3]; · iexact HS3
      iexact HS4
    iintro %r ⟨H2, H3, H5, H6, HS0, HS1, HS2, HS3, HS4⟩
    isplitl [HS0 HS1 HS2 HS3 HS4 Hg HT0]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT0
    isplitl [Ho]; · iexact Ho
    isplitl [H0]; · iapply (leaves0_0 m hO c t); iexact H0
    isplitl [H1]; · iapply (leaves0_1 m hO c t); iexact H1
    isplitl [H2]; · iapply (leaves0_2 m hO c t); iexact H2
    isplitl [H3]; · iapply (leaves0_3 m hO c t); iexact H3
    isplitl [H4]; · iapply (leaves0_4 m hO c t); iexact H4
    isplitl [H5]; · iapply (leaves0_5 m hO c t); iexact H5
    isplitl [H6]; · iapply (leaves0_6 m hO c t); iexact H6
    isplitl [H7]; · iapply (leaves0_7 m hO c t); iexact H7
    iapply (leaves0_8 m hO c t); iexact H8

theorem vdefs_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The launch's body obligation. -/
theorem vobligation (hO : Ok m) (c : Dev nD) : BodyObligation (vdats m hO 0 c) (defs₀ (F := Ideal)) Variants.none () Set.univ := fun t => by
  rw [bigSep_W0, bigSep_W0, vdefs_row m hO]
  refine triple_restated (vsound m hO c t) rfl ?_ fun _ => .rfl
  unfold vPre
  iintro ⟨Hp, Ho, H0, H1, H2, ⟨%d3, H3⟩, H4, ⟨%d5, H5⟩, ⟨%d6, H6⟩, H7, H8⟩
  isplitl [Hp]; · iexact Hp
  isplitl [Ho]; · iexact Ho
  isplitl [H0]; · iexact H0
  isplitl [H1]; · iexact H1
  isplitl [H2]; · iexact H2
  isplitl [H3]; · iexists _; iexact H3
  isplitl [H4]; · iexact H4
  isplitl [H5]; · iexists _; iexact H5
  isplitl [H6]; · iexists _; iexact H6
  isplitl [H7]; · iexact H7
  iexact H8

theorem vhin (hO : Ok m) (c : Dev nD) : iprop(Pipeline.ΦA spec0 c ∗ Pipeline.ΦT pre0 (tbl m) c) ⊢ (vdats m hO 0 c).Φ 0 := by
  rw [show (vdats m hO 0 c).Φ 0 = vPhi m hO c 0 (Nat.zero_le _) from rfl, vPhi_zero m hO c 0 _ rfl]
  try exact Idealize.SL.BI.Entails.refl _

theorem vhout (hO : Ok m) (c : Dev nD) : (vdats m hO 0 c).Φ (Fin.last (cfgM m hO).N) ⊢ Pipeline.ΦA spec0 c := by
  rw [show (vdats m hO 0 c).Φ (Fin.last (cfgM m hO).N) = vPhi m hO c (Fin.last (cfgM m hO).N).val (Nat.le_of_lt_succ (Fin.last (cfgM m hO).N).isLt) from rfl,
    vPhi_pos m hO c _ _ (by rw [Fin.val_last]; have : (cfgM m hO).N = 37 := N_0; omega), PhiA0_eq]
  iintro ⟨⟨⟨HS0, HS1, HS2, HS3, HS4⟩, Hg⟩, -⟩
  isplitl [HS0 HS1 HS2 HS3 HS4]
  · isplitl [HS0]
    · iexists _; iexact HS0
    isplitl [HS1]
    · iexists _; iexact HS1
    isplitl [HS2]
    · iexists _; iexact HS2
    isplitl [HS3]
    · iexact HS3
    iexact HS4
  iexact Hg

/-! ## The run -/

set_option backward.isDefEq.respectTransparency.types false in
set_option maxHeartbeats 800000 in
/-- Every execution of the program ends, each pipelined array at the contents the points leave and every other buffer at the
    host lines' contents over them. -/
theorem vrun (hO : Ok m) : θ_run defs (onTc (τ := τ) (main (F := Ideal))) (s₀ m ρ)
    (Pipeline.FramePost (Pipeline.pin pcfgs fun _ => adm m hO) (vdats m hO) 0 (Pipeline.afterTail pcfgs (fun _ => adm m hO) (vdats m hO) 0 (V0 m) [hostOps1])) :=
  Pipeline.θ_run_frameP_around_track pcfgs (fun _ => adm m hO) (vdats m hO) (0 : Fin 1) launch0 defs₀ Variants.none m ρ main
    (hbody := fun c => (vobligation m hO c).loose) (hshare := fun c => (vdats m hO 0 c).share_full fun _ => rfl)
    (howed := fun _ _ => rfl) (V₀ := V0 m) (opss := [hostOps1]) (hsub := sfx_sub) (hfresh := sfx_fresh) (hkeep := sfx_keeps)
    (hmain := hmain m Variants.none) (hA := vA_eq m hO) (hpf := V_pre m) (hin := vhin m hO) (hout := vhout m hO)

end Cert.KernelIdeal.Gen

end
-- ==== Proof.Spec.lean ====
/- What the problem asks for, as plain functions over the extended reals: which rows are valid, the channel scales, and the codes and steps of
   weights and activations. -/
module

public import Idealize.ShloMosaic.Lib.Pointwise
public import Idealize.ShloMosaic.Lib.VecWindow

@[expose] public section

noncomputable section

namespace Cert.Spec

open Idealize.ShloMosaic

/-- The largest code, 127. -/
abbrev qHi : EReal := Ideal.ofBits FTy.f32 1123942400#32
/-- The smallest code, -127. -/
abbrev qLo : EReal := Ideal.ofBits FTy.f32 3271426048#32
/-- The floor below the channel maxima, 1e-5. -/
abbrev qEps : EReal := Ideal.ofBits FTy.f32 925353388#32
/-- One half. -/
abbrev qHalf : EReal := Ideal.ofBits FTy.f32 1056964608#32
/-- The magnitude of a value. -/
abbrev ab (x : EReal) : EReal := FloatOps.absf (F := Ideal) (φ := FTy.f32) x
/-- The quantization step of a group of values whose largest magnitude is `a`: `a / 127`, and `1` for a group of zeros. -/
def stepOf (a : EReal) : EReal := if a = 0 then 1 else Ideal.div a qHi
/-- A value rounded to the nearest integer (ties to even) and clipped to `[-127, 127]`. -/
def codeF (x : EReal) : EReal := min qHi (max qLo (Ideal.liftRound Ideal.roundHalfEven x))
/-- `codeF` as an 8-bit integer. -/
def codeI (x : EReal) : BitVec 8 := FloatOps.fptosi (F := Ideal) (φ := FTy.f32) 8 (codeF x)

section
variable (L : Fin 2 → BitVec 32) (X : Fin 2 → Fin 128 → Fin 3584 → EReal) (W : Fin 3584 → Fin 18944 → EReal) (A : Fin 3584 → EReal)

/-- Whether row `i` of sequence `b` is valid: `i` is below the sequence's length. -/
def okB (b : Fin 2) (i : Fin 128) : BitVec 1 := IntOp.cmpi .slt (BitVec.ofNat 32 i.val) (L b)
/-- The scale of channel `k`: the root of the activations' largest magnitude over the valid rows, over the root of the weights' maximum. -/
def chS (k : Fin 3584) : EReal :=
  Ideal.div (Ideal.pow (max (⨆ x : Fin 2, ⨆ y : Fin 128, Scalar.select (okB L x y) (ab (X x y k)) 0) qEps) qHalf) (Ideal.pow (max (A k) qEps) qHalf)
/-- A weight times its channel's scale. -/
def wSc (k : Fin 3584) (n : Fin 18944) : EReal := W k n * chS L X A k
/-- The step of the weights' column `n`. -/
def wStep (n : Fin 18944) : EReal := stepOf (⨆ k : Fin 3584, ab (wSc L X W A k n))
/-- A weight's code. -/
def wCode (k : Fin 3584) (n : Fin 18944) : BitVec 8 := codeI (Ideal.div (wSc L X W A k n) (wStep L X W A n))
/-- An activation over its channel's scale. -/
def xSc (b : Fin 2) (i : Fin 128) (k : Fin 3584) : EReal := Ideal.div (X b i k) (chS L X A k)
/-- The step of an activations' row, valid or not. -/
def xStep (b : Fin 2) (i : Fin 128) : EReal := stepOf (⨆ k : Fin 3584, ab (xSc L X A b i k))
/-- An activation's code, zero on rows that are not valid. -/
def xCode (b : Fin 2) (i : Fin 128) (k : Fin 3584) : BitVec 8 := Scalar.select (okB L b i) (codeI (Ideal.div (xSc L X A b i k) (xStep L X A b i))) 0#8
/-- The step of an activations' row, one on rows that are not valid. -/
def xSt (b : Fin 2) (i : Fin 128) : EReal := Scalar.select (okB L b i) (xStep L X A b i) 1
/-- The product of the codes, scaled back. -/
def yOut (b : Fin 2) (i : Fin 128) (n : Fin 18944) : EReal :=
  (∑ k : Fin 3584, FloatOps.sitofp (F := Ideal) FTy.bf16 (xCode L X A b i k) * FloatOps.sitofp (F := Ideal) FTy.bf16 (wCode L X W A k n)) * xSt L X A b i * wStep L X W A n
end

end Cert.Spec
-- ==== Proof.Scalar.lean ====
/- Scalar facts by which different ways of computing a scale, a step and a code agree. -/
module

public import proofs.«01_k».proof.Proof.Spec

@[expose] public section

noncomputable section

namespace Cert.Spec

open Idealize.ShloMosaic

/-- The largest code is the number 127. -/
theorem qHi_eq : qHi = ((127 : ℝ) : EReal) := by
  simp [Ideal.ofBits, Ideal.ieee]
  norm_num [← EReal.coe_mul, ← EReal.coe_neg]
/-- The smallest code is the number -127. -/
theorem qLo_eq : qLo = ((-127 : ℝ) : EReal) := by
  simp [Ideal.ofBits, Ideal.ieee]
  norm_num [← EReal.coe_mul, ← EReal.coe_neg]
/-- The exponent is the number one half. -/
theorem qHalf_eq : qHalf = ((1 / 2 : ℝ) : EReal) := by
  simp [Ideal.ofBits, Ideal.ieee]
  norm_num [← EReal.coe_mul, ← EReal.coe_neg]
/-- The floor is positive. -/
theorem qEps_pos : (0 : EReal) < qEps := by
  simp [Ideal.ofBits, Ideal.ieee]
  rw [← EReal.coe_mul]
  exact_mod_cast (by positivity : (0 : ℝ) < 10995116 * (2 ^ 40)⁻¹)

/-- The power one half is the square root, of what is not negative. -/
theorem pow_half (u : EReal) (h : 0 ≤ u) : Ideal.pow u qHalf = Ideal.sqrt u := by
  rw [qHalf_eq]
  induction u using EReal.rec with
  | bot => simp at h
  | top =>
    show (if (0 : EReal) < ((1 / 2 : ℝ) : EReal) then (⊤ : EReal) else _) = ⊤
    rw [if_pos (by exact_mod_cast (by norm_num : (0 : ℝ) < 1 / 2))]
  | coe r =>
    have hr : 0 ≤ r := by exact_mod_cast h
    show ((Real.rpow r (1 / 2) : ℝ) : EReal) = if r < 0 then (⊥ : EReal) else ((Real.sqrt r : ℝ) : EReal)
    rw [if_neg (not_lt.mpr hr), Real.sqrt_eq_rpow]
    rfl

/-- A step is not zero. -/
theorem stepOf_ne (a : EReal) : stepOf a ≠ 0 := by
  unfold stepOf
  split
  · exact one_ne_zero
  · rename_i h
    unfold Ideal.div
    rw [qHi_eq, if_neg (by exact_mod_cast (by norm_num : (127 : ℝ) ≠ 0)), ← EReal.coe_inv]
    exact mul_ne_zero h (by exact_mod_cast (by norm_num : ((127 : ℝ)⁻¹) ≠ 0))

/-- Multiplying by the reciprocal is dividing, off zero. -/
theorem mul_recip (x s : EReal) (h : s ≠ 0) : x * Ideal.div 1 s = Ideal.div x s := by
  unfold Ideal.div
  rw [if_neg h, if_neg h, one_mul]

/-- A code is an integer between -127 and 127. -/
theorem codeF_int (x : EReal) : ∃ z : ℤ, -127 ≤ z ∧ z ≤ 127 ∧ codeF x = (((z : ℤ) : ℝ) : EReal) := by
  unfold codeF
  rw [qHi_eq, qLo_eq]
  induction x using EReal.rec with
  | bot => exact ⟨-127, by norm_num, by norm_num, by
      show min ((127 : ℝ) : EReal) (max ((-127 : ℝ) : EReal) ⊥) = _
      rw [max_eq_left bot_le, min_eq_right (by exact_mod_cast (by norm_num : (-127 : ℝ) ≤ 127))]; norm_num⟩
  | top => exact ⟨127, by norm_num, by norm_num, by
      show min ((127 : ℝ) : EReal) (max ((-127 : ℝ) : EReal) ⊤) = _
      rw [max_eq_right le_top, min_eq_left le_top]; norm_num⟩
  | coe r => exact ⟨min 127 (max (-127) (Ideal.roundHalfEven r)), by omega, by omega, by
      show min ((127 : ℝ) : EReal) (max ((-127 : ℝ) : EReal) (((Ideal.roundHalfEven r : ℤ) : ℝ) : EReal)) = _
      have hm : Monotone (fun z : ℤ => ((z : ℝ) : EReal)) := fun a b h => EReal.coe_le_coe_iff.mpr (Int.cast_le.mpr h)
      have e1 := hm.map_min (a := 127) (b := max (-127) (Ideal.roundHalfEven r))
      have e2 := hm.map_max (a := -127) (b := Ideal.roundHalfEven r)
      refine Eq.trans ?_ (e1.trans (congrArg _ e2)).symm
      norm_num⟩

/-- An integer code survives the way through 8 bits. -/
theorem sitofp_fptosi (z : ℤ) (h0 : -127 ≤ z) (h1 : z ≤ 127) :
    FloatOps.sitofp (F := Ideal) FTy.bf16 (FloatOps.fptosi (F := Ideal) (φ := FTy.f32) 8 (((z : ℤ) : ℝ) : EReal)) = (((z : ℤ) : ℝ) : EReal) := by
  have e : FloatOps.fptosi (F := Ideal) (φ := FTy.f32) 8 (((z : ℤ) : ℝ) : EReal) = BitVec.ofInt 8 z := by
    show BitVec.ofInt 8 (Ideal.toIntClamped _ _ _) = _
    congr 1
    rw [Ideal.toIntClamped_coe, Int.floor_intCast, Int.ceil_intCast, ite_self]
    norm_num
    omega
  rw [e]
  show (((BitVec.ofInt 8 z).toInt : ℝ) : EReal) = _
  rw [BitVec.toInt_ofInt]
  have : z.bmod (2 ^ 8) = z := by
    rw [Int.bmod_eq_of_le] <;> norm_num <;> omega
  rw [this]

/-- A code's number, read back from its 8 bits. -/
theorem sitofp_codeI (x : EReal) : FloatOps.sitofp (F := Ideal) FTy.bf16 (codeI x) = codeF x := by
  obtain ⟨z, h0, h1, e⟩ := codeF_int x
  unfold codeI
  rw [e]
  exact sitofp_fptosi z h0 h1

/-- Zero's 8-bit integer. -/
theorem fptosi_zero : FloatOps.fptosi (F := Ideal) (φ := FTy.f32) 8 (0 : EReal) = 0#8 := by
  show BitVec.ofInt 8 (Ideal.toIntClamped _ _ ((0 : ℝ) : EReal)) = _
  rw [Ideal.toIntClamped_coe]
  simp

/-- Masking a code's number before the cast masks the code. -/
theorem select_code (b : BitVec 1) (x : EReal) :
    FloatOps.fptosi (F := Ideal) (φ := FTy.f32) 8 (Scalar.select b (codeF x) 0 : EReal) = Scalar.select b (codeI x) 0#8 := by
  unfold Scalar.select
  split
  · rfl
  · exact fptosi_zero

/-- A masked code's number, read back from its 8 bits. -/
theorem sitofp_select (b : BitVec 1) (x : EReal) :
    FloatOps.sitofp (F := Ideal) FTy.bf16 (Scalar.select b (codeI x) 0#8) = (Scalar.select b (codeF x) 0 : EReal) := by
  unfold Scalar.select
  split
  · exact sitofp_codeI x
  · show (((0#8 : BitVec 8).toInt : ℝ) : EReal) = 0
    simp

end Cert.Spec

end
-- ==== Proof.RI.Reds.lean ====
/- Maxima along axes, at an index: a maximum reduction from minus infinity is the supremum along the reduced axes. -/
module

public import proofs.«01_k».proof.Proof.Spec
public import Idealize.ShloMosaic.Lib.Pointwise

@[expose] public section

noncomputable section

namespace Cert.Spec

open Idealize.ShloMosaic

/-- The pattern of minus infinity. -/
theorem neg_inf : FloatOps.ofBits (F := Ideal) FTy.f32 0xFF800000#32 = (⊥ : EReal) := by
  show Ideal.ofBits FTy.f32 0xFF800000#32 = ⊥
  simp [Ideal.ofBits, Ideal.ieee]

/-- A maximum over a set of indices, from minus infinity, is below `z` when each of them is. -/
theorem fold_le {ι : Type} (s : Finset ι) (f : ι → EReal) (z : EReal) :
    s.fold max (FloatOps.ofBits (F := Ideal) FTy.f32 0xFF800000#32) f ≤ z ↔ ∀ i ∈ s, f i ≤ z := by
  rw [Finset.fold_max_le, neg_inf]; simp

/-- The maximum over the first axis of two. -/
theorem max_rows {a b : ℕ} (v : FVec Ideal ⟨2, ![a, b]⟩ .f32) (h : Shape.Reduces ⟨2, ![a, b]⟩ [0] ⟨1, ![b]⟩)
    (hφ : FKind.Formats .f32) (hacc : (0xFF800000#32 : BitVec 32) = FKind.maximumf.neutral .f32 hφ) (n : Fin b) :
    multiReduction .maximumf [0] ⟨1, ![b]⟩ v 0xFF800000#32 h hφ hacc (ix1 n) = (⨆ k : Fin a, (v (ix2 k n) : EReal)) := by
  rw [multiReduction_maximumf_eq_fold]
  refine eq_of_forall_ge_iff fun z => (fold_le _ _ z).trans ?_
  rw [iSup_le_iff]
  constructor
  · intro H k
    refine H _ (Finset.mem_filter.mpr ⟨Finset.mem_univ _, ?_⟩)
    funext t; fin_cases t; rfl
  · intro H i hi
    have e := congrFun (Finset.mem_filter.mp hi).2 0
    have : i = ix2 (i 0) n := by
      funext t
      match t with
      | ⟨0, _⟩ => rfl
      | ⟨1, _⟩ => exact Fin.ext (congrArg Fin.val e)
    rw [this]; exact H _

/-- The maximum over the last axis of three. -/
theorem max_last {a b d : ℕ} (v : FVec Ideal ⟨3, ![a, b, d]⟩ .f32) (h : Shape.Reduces ⟨3, ![a, b, d]⟩ [2] ⟨2, ![a, b]⟩)
    (hφ : FKind.Formats .f32) (hacc : (0xFF800000#32 : BitVec 32) = FKind.maximumf.neutral .f32 hφ) (x : Fin a) (y : Fin b) :
    multiReduction .maximumf [2] ⟨2, ![a, b]⟩ v 0xFF800000#32 h hφ hacc (ix2 x y) = (⨆ k : Fin d, (v (ix3 x y k) : EReal)) := by
  rw [multiReduction_maximumf_eq_fold]
  refine eq_of_forall_ge_iff fun z => (fold_le _ _ z).trans ?_
  rw [iSup_le_iff]
  constructor
  · intro H k
    refine H _ (Finset.mem_filter.mpr ⟨Finset.mem_univ _, ?_⟩)
    funext t; fin_cases t <;> rfl
  · intro H i hi
    have e0 := congrFun (Finset.mem_filter.mp hi).2 0
    have e1 := congrFun (Finset.mem_filter.mp hi).2 1
    have : i = ix3 x y (i 2) := by
      funext t
      match t with
      | ⟨0, _⟩ => exact Fin.ext (congrArg Fin.val e0)
      | ⟨1, _⟩ => exact Fin.ext (congrArg Fin.val e1)
      | ⟨2, _⟩ => rfl
    rw [this]; exact H _

/-- The maximum over the first two axes of three. -/
theorem max_first {a b d : ℕ} (v : FVec Ideal ⟨3, ![a, b, d]⟩ .f32) (h : Shape.Reduces ⟨3, ![a, b, d]⟩ [0, 1] ⟨1, ![d]⟩)
    (hφ : FKind.Formats .f32) (hacc : (0xFF800000#32 : BitVec 32) = FKind.maximumf.neutral .f32 hφ) (k : Fin d) :
    multiReduction .maximumf [0, 1] ⟨1, ![d]⟩ v 0xFF800000#32 h hφ hacc (ix1 k) = (⨆ x : Fin a, ⨆ y : Fin b, (v (ix3 x y k) : EReal)) := by
  rw [multiReduction_maximumf_eq_fold]
  refine eq_of_forall_ge_iff fun z => (fold_le _ _ z).trans ?_
  simp only [iSup_le_iff]
  constructor
  · intro H x y
    refine H _ (Finset.mem_filter.mpr ⟨Finset.mem_univ _, ?_⟩)
    funext t; fin_cases t; rfl
  · intro H i hi
    have e := congrFun (Finset.mem_filter.mp hi).2 0
    have : i = ix3 (i 0) (i 1) k := by
      funext t
      match t with
      | ⟨0, _⟩ => rfl
      | ⟨1, _⟩ => rfl
      | ⟨2, _⟩ => exact Fin.ext (congrArg Fin.val e)
    rw [this]; exact H _ _

end Cert.Spec
-- ==== Proof.KI.Eqs.lean ====
/- The kernel's quantities are the functions of the specification. -/
module

public import proofs.«01_k».proof.Proof.KI.HeadAcc
public import proofs.«01_k».proof.Proof.KI.Tail
public import proofs.«01_k».proof.Proof.Scalar
public import proofs.«01_k».proof.Proof.RI.Reds

@[expose] public section

set_option maxRecDepth 16384

noncomputable section

namespace Cert.KernelIdeal.Gen

open Idealize.ShloMosaic Idealize.ShloMosaic.TcCoe
open Cert.Spec (okB chS wSc wStep wCode xSc xStep xCode xSt yOut)

variable (L : Fin 2 → BitVec 32) (X : Fin 2 → Fin 128 → Fin 3584 → EReal) (W : Fin 3584 → Fin 18944 → EReal) (A : Fin 3584 → EReal)

/-- A block's column is a column. -/
theorem col_lt {o : ℕ} (ho : o + 512 ≤ 18944) (l : Fin 512) : o + l.val < 18944 := by have := l.isLt; omega

/-- A token's row is a row. -/
theorem row_lt (b : Fin 2) (i : Fin 128) : 128 * b.val + i.val < 256 := by have := b.isLt; have := i.isLt; omega

/-- The row of token `i` of sequence `b`. -/
abbrev rowOf (b : Fin 2) (i : Fin 128) : Fin 256 := ⟨128 * b.val + i.val, row_lt b i⟩

/-- Every row is a token of a sequence. -/
theorem row_split (r : Fin 256) : ∃ (b : Fin 2) (i : Fin 128), r = rowOf b i :=
  ⟨⟨r.val / 128, by omega⟩, ⟨r.val % 128, by omega⟩, Fin.ext (by show r.val = 128 * (r.val / 128) + r.val % 128; omega)⟩

section
variable (mk : IVec S256x1 1) (x : Vec Ideal S256x3584 .bf16) (wm : Vec Ideal S1x3584 .f32)
  (hm : ∀ b i, mk (ix2 (rowOf b i) 0) = okB L b i) (hx : ∀ b i k, (x (ix2 (rowOf b i) k) : EReal) = X b i k) (hw : ∀ k, (wm (ix2 0 k) : EReal) = A k)
include hm hx hw

/-- The channel scales. -/
theorem sV_eq (k : Fin 3584) : (sV mk x wm (ix2 0 k) : EReal) = chS L X A k := by
  show colS (fun r => mk (ix2 r 0)) (fun r => x (ix2 r k)) (wm (ix2 0 k)) = _
  unfold colS chS
  rw [hw, Cert.Spec.pow_half _ (Cert.Spec.qEps_pos.le.trans (le_max_right _ _)), Cert.Spec.pow_half _ (Cert.Spec.qEps_pos.le.trans (le_max_right _ _))]
  have e : Finset.fold max (Ideal.ofBits FTy.f32 4286578688#32) (fun r : Fin 256 => (Scalar.select (mk (ix2 r 0)) (ab (x (ix2 r k))) 0 : EReal)) Finset.univ
      = ⨆ b : Fin 2, ⨆ i : Fin 128, (Scalar.select (okB L b i) (Cert.Spec.ab (X b i k)) 0 : EReal) := by
    refine eq_of_forall_ge_iff fun z => ?_
    rw [Finset.fold_max_le, neg_inf_bits]
    simp only [iSup_le_iff]
    constructor
    · rintro ⟨-, h⟩ b i
      rw [← hm, ← hx]
      exact h (rowOf b i) (Finset.mem_univ _)
    · intro h
      refine ⟨bot_le, fun r _ => ?_⟩
      obtain ⟨b, i, rfl⟩ := row_split r
      rw [hm, hx]
      exact h b i
  rw [e]

/-- The scaled activations. -/
theorem x8V_eq (b : Fin 2) (i : Fin 128) (k : Fin 3584) : x8V mk x wm (rowOf b i) k = xSc L X A b i k := by
  unfold x8V xSc
  rw [hx, sV_eq L X A mk x wm hm hx hw]

/-- The rows' steps. -/
theorem qV_eq (b : Fin 2) (i : Fin 128) : qV mk x wm (rowOf b i) = xStep L X A b i := by
  unfold qV xStep
  simp only [x8V_eq L X A mk x wm hm hx hw]
  rfl

/-- The rows' steps, one on rows that are not valid. -/
theorem qmV_eq (b : Fin 2) (i : Fin 128) : qmV mk x wm (rowOf b i) = xSt L X A b i := by
  unfold qmV xSt
  rw [hm, qV_eq L X A mk x wm hm hx hw]

/-- The activations' codes. -/
theorem xcV_eq (b : Fin 2) (i : Fin 128) (k : Fin 3584) : xcV mk x wm (ix2 (rowOf b i) k) = xCode L X A b i k := by
  show FloatOps.fptosi (F := Ideal) (φ := FTy.f32) 8 (Scalar.select (mk (ix2 (rowOf b i) 0)) (codeF (Ideal.div (x8V mk x wm (rowOf b i) k) (qV mk x wm (rowOf b i)))) 0 : EReal) = _
  rw [hm, x8V_eq L X A mk x wm hm hx hw, qV_eq L X A mk x wm hm hx hw]
  exact Cert.Spec.select_code _ _

/-- The activations' codes as numbers. -/
theorem xcbV_eq (b : Fin 2) (i : Fin 128) (k : Fin 3584) : (xcbV mk x wm (ix2 (rowOf b i) k) : EReal) = FloatOps.sitofp (F := Ideal) FTy.bf16 (xCode L X A b i k) := by
  show (Scalar.select (mk (ix2 (rowOf b i) 0)) (codeF (Ideal.div (x8V mk x wm (rowOf b i) k) (qV mk x wm (rowOf b i)))) 0 : EReal) = _
  rw [hm, x8V_eq L X A mk x wm hm hx hw, qV_eq L X A mk x wm hm hx hw]
  exact (Cert.Spec.sitofp_select _ _).symm

/-- The rows' steps as they are handed back. -/
theorem xsV_eq (b : Fin 2) (i : Fin 128) : (xsV mk x wm (ix2 b i) : EReal) = xSt L X A b i :=
  qmV_eq L X A mk x wm hm hx hw b i

variable (w : Vec Ideal S3584x512 .bf16) (o : ℕ) (ho : o + 512 ≤ 18944) (hb : ∀ k (l : Fin 512), (w (ix2 k l) : EReal) = W k ⟨o + l.val, col_lt ho l⟩)
include hb

/-- The scaled weights of a block of columns. -/
theorem wsT_eq (k : Fin 3584) (l : Fin 512) : (wsT w (scT mk x wm) (ix2 k l) : EReal) = wSc L X W A k ⟨o + l.val, col_lt ho l⟩ := by
  show (w (ix2 k l) : EReal) * (sV mk x wm (ix2 0 k) : EReal) = _
  rw [hb, sV_eq L X A mk x wm hm hx hw]
  rfl

/-- The steps of a block's columns. -/
theorem step_eq (l : Fin 512) : stepOf (colAb (wsT w (scT mk x wm)) l) = wStep L X W A ⟨o + l.val, col_lt ho l⟩ := by
  unfold colAb wStep
  simp only [wsT_eq L X W A mk x wm hm hx hw w o ho hb]
  rfl

/-- The steps of a block's columns, as they are handed back. -/
theorem wscV_eq (l : Fin 512) : (wscV (wsT w (scT mk x wm)) (ix2 0 l) : EReal) = wStep L X W A ⟨o + l.val, col_lt ho l⟩ :=
  step_eq L X W A mk x wm hm hx hw w o ho hb l

/-- The weights' codes. -/
theorem wcI_eq (k : Fin 3584) (l : Fin 512) : wcI (wsT w (scT mk x wm)) (invS (wsT w (scT mk x wm))) (ix2 k l) = wCode L X W A k ⟨o + l.val, col_lt ho l⟩ := by
  show codeI ((wsT w (scT mk x wm) (ix2 k l) : EReal) * Ideal.div 1 (stepOf (colAb (wsT w (scT mk x wm)) l))) = _
  rw [wsT_eq L X W A mk x wm hm hx hw w o ho hb, step_eq L X W A mk x wm hm hx hw w o ho hb, Cert.Spec.mul_recip _ (wStep L X W A ⟨o + l.val, col_lt ho l⟩) (Cert.Spec.stepOf_ne _)]
  rfl

/-- The weights' codes as numbers. -/
theorem wcF_eq (k : Fin 3584) (l : Fin 512) : (wcF (wsT w (scT mk x wm)) (invS (wsT w (scT mk x wm))) (ix2 k l) : EReal)
    = FloatOps.sitofp (F := Ideal) FTy.bf16 (wCode L X W A k ⟨o + l.val, col_lt ho l⟩) :=
  congrArg (FloatOps.sitofp (F := Ideal) FTy.bf16) (wcI_eq L X W A mk x wm hm hx hw w o ho hb k l)

/-- The product. -/
theorem yV_eq (b : Fin 2) (i : Fin 128) (l : Fin 512) :
    (yV (xcbV mk x wm) (xsbV mk x wm) (wcF (wsT w (scT mk x wm)) (invS (wsT w (scT mk x wm)))) (wscV (wsT w (scT mk x wm))) (ix2 (rowOf b i) l) : EReal)
      = yOut L X W A b i ⟨o + l.val, col_lt ho l⟩ := by
  show dotC (xcbV mk x wm) (wcF (wsT w (scT mk x wm)) (invS (wsT w (scT mk x wm)))) (rowOf b i) l * qmV mk x wm (rowOf b i) * (wscV (wsT w (scT mk x wm)) (ix2 0 l) : EReal) = _
  rw [qmV_eq L X A mk x wm hm hx hw, wscV_eq L X W A mk x wm hm hx hw w o ho hb]
  unfold dotC yOut
  simp only [xcbV_eq L X A mk x wm hm hx hw, wcF_eq L X W A mk x wm hm hx hw w o ho hb]

end

end Cert.KernelIdeal.Gen

end
-- ==== Proof.KI.Result.lean ====
/- The result buffers after the run, at an index, are the functions of the specification of the argument buffers. -/
module

public import proofs.«01_k».proof.Proof.KI.Value
public import proofs.«01_k».proof.Proof.KI.Eqs
public import Idealize.ShloMosaic.Lib.Pipeline.ValueKit
public import Idealize.ShloMosaic.Lib.Pointwise
public import Idealize.ShloMosaic.Lib.ValueLayout

@[expose] public section

set_option maxRecDepth 16384

noncomputable section

namespace Cert.KernelIdeal.Gen

open Idealize.ShloMosaic Idealize.ShloMosaic.TcCoe Idealize.SL.Sem
open Idealize.ShloMosaic.Pipeline (Dat)
open Cert.Spec (okB chS wSc wStep wCode xSc xStep xCode xSt yOut)

variable (m : (ℓ : Loc nD τ sig) → Buf (Elt Ideal) ℓ)

/-- The block of window 0 at a point. -/
theorem kindex0 (hO : Ok m) : ∀ t : Fin (cfgM m hO).N, ((cfgM m hO).win 0).index t = ![0, 0] :=
  (by decide +kernel : ∀ t : Fin grid0.N, cc0_transform_0 (grid0.coords t) = ![0, 0])
/-- The block of window 1 at a point. -/
theorem kindex1 (hO : Ok m) : ∀ t : Fin (cfgM m hO).N, ((cfgM m hO).win 1).index t = ![0, 0] :=
  (by decide +kernel : ∀ t : Fin grid0.N, cc0_transform_1 (grid0.coords t) = ![0, 0])
/-- The block of window 2 at a point. -/
theorem kindex2 (hO : Ok m) : ∀ t : Fin (cfgM m hO).N, ((cfgM m hO).win 2).index t = ![0, t.val] :=
  (by decide +kernel : ∀ t : Fin grid0.N, cc0_transform_2 (grid0.coords t) = ![0, t.val])
/-- The block of window 3 at a point. -/
theorem kindex3 (hO : Ok m) : ∀ t : Fin (cfgM m hO).N, ((cfgM m hO).win 3).index t = ![0, t.val] :=
  (by decide +kernel : ∀ t : Fin grid0.N, cc0_transform_3 (grid0.coords t) = ![0, t.val])
/-- The block of window 4 at a point. -/
theorem kindex4 (hO : Ok m) : ∀ t : Fin (cfgM m hO).N, ((cfgM m hO).win 4).index t = ![0, 0] :=
  (by decide +kernel : ∀ t : Fin grid0.N, cc0_transform_4 (grid0.coords t) = ![0, 0])
/-- The block of window 5 at a point. -/
theorem kindex5 (hO : Ok m) : ∀ t : Fin (cfgM m hO).N, ((cfgM m hO).win 5).index t = ![0, t.val] :=
  (by decide +kernel : ∀ t : Fin grid0.N, cc0_transform_5 (grid0.coords t) = ![0, t.val])
/-- The block of window 6 at a point. -/
theorem kindex6 (hO : Ok m) : ∀ t : Fin (cfgM m hO).N, ((cfgM m hO).win 6).index t = ![0, t.val] :=
  (by decide +kernel : ∀ t : Fin grid0.N, cc0_transform_6 (grid0.coords t) = ![0, t.val])
/-- The block of window 7 at a point. -/
theorem kindex7 (hO : Ok m) : ∀ t : Fin (cfgM m hO).N, ((cfgM m hO).win 7).index t = ![0, 0] :=
  (by decide +kernel : ∀ t : Fin grid0.N, cc0_transform_7 (grid0.coords t) = ![0, 0])
/-- The block of window 8 at a point. -/
theorem kindex8 (hO : Ok m) : ∀ t : Fin (cfgM m hO).N, ((cfgM m hO).win 8).index t = ![0, 0] :=
  (by decide +kernel : ∀ t : Fin grid0.N, cc0_transform_8 (grid0.coords t) = ![0, 0])

/-- Two sequences of tokens as rows. -/
theorem cast_rows {α : Type} {C : ℕ} (v : (⟨3, ![2, 128, C]⟩ : Shape).Idx → α) (h : (⟨3, ![2, 128, C]⟩ : Shape).ShapeCasts ⟨2, ![256, C]⟩)
    (b : Fin 2) (i : Fin 128) (k : Fin C) : shapeCast ⟨2, ![256, C]⟩ v h (ix2 (rowOf b i) k) = v (ix3 b i k) := by
  refine shapeCast_apply _ _ _ _ ?_
  rw [Shape.rowMajor_val_two, Shape.rowMajor_val_three]
  show (b.val * 128 + i.val) * C + k.val = (128 * b.val + i.val) * C + k.val
  rw [Nat.mul_comm b.val]

/-- Rows as two sequences of tokens. -/
theorem cast_seqs {α : Type} {C : ℕ} (v : (⟨2, ![256, C]⟩ : Shape).Idx → α) (h : (⟨2, ![256, C]⟩ : Shape).ShapeCasts ⟨3, ![2, 128, C]⟩)
    (b : Fin 2) (i : Fin 128) (k : Fin C) : shapeCast ⟨3, ![2, 128, C]⟩ v h (ix3 b i k) = v (ix2 (rowOf b i) k) := by
  refine shapeCast_apply _ _ _ _ ?_
  rw [Shape.rowMajor_val_two, Shape.rowMajor_val_three]
  show (128 * b.val + i.val) * C + k.val = (b.val * 128 + i.val) * C + k.val
  rw [Nat.mul_comm b.val]

/-- The lengths. -/
abbrev kL (c : Dev nD) : Fin 2 → BitVec 32 := fun b => m (c.tc.loc main_arg1) (ix1 b)
/-- The activations. -/
abbrev kX (c : Dev nD) : Fin 2 → Fin 128 → Fin 3584 → EReal := fun b i k => m (c.tc.loc main_arg0) (ix3 b i k)
/-- The weights. -/
abbrev kW (c : Dev nD) : Fin 3584 → Fin 18944 → EReal := fun k n => m (c.tc.loc main_arg2) (ix2 k n)
/-- The weights' channel maxima. -/
abbrev kA (c : Dev nD) : Fin 3584 → EReal := fun k => m (c.tc.loc main_arg3) (ix1 k)

/-- The rows' mask. -/
theorem MK_at (c : Dev nD) (b : Fin 2) (i : Fin 128) : MK m (ix2 (rowOf b i) 0) = okB (kL m c) b i := by
  obtain rfl : c = 0 := Subsingleton.elim _ _
  have e0 : w0 tbM0_0 (tbl m 0) = m ((0 : Dev nD).tc.loc main_arg1) (ix1 0) :=
    (readAt_unit_apply tbM0_0.view _ inb_S2_S1_0 rfl _ (ix1 0) (fun a => by fin_cases a; rfl)).trans
      (congrFun (V_main_arg1 m (0 : Dev nD)) (ix1 0))
  have e1 : w1 tbM0_0 (tbl m 0) = m ((0 : Dev nD).tc.loc main_arg1) (ix1 1) :=
    (readAt_unit_apply tbM0_0.view _ inb_S2_S1_1 rfl _ (ix1 1) (fun a => by fin_cases a; rfl)).trans
      (congrFun (V_main_arg1 m (0 : Dev nD)) (ix1 1))
  show k0_pay1 (F := Ideal) (w0 tbM0_0 (tbl m 0)) (w1 tbM0_0 (tbl m 0)) (ix2 (rowOf b i) 0) = _
  rw [e0, e1]
  pointwise [k0_pay1]
  have hi := i.isLt
  fin_cases b
  · rw [dif_pos (by show 128 * 0 + i.val < 128; omega)]
    unfold okB
    congr 2
    show 128 * 0 + i.val = i.val
    omega
  · rw [dif_neg (by show ¬ 128 * 1 + i.val < 128; omega)]
    unfold okB
    congr 2
    show 128 * 1 + i.val - 128 = i.val
    omega

/-- The activations, one row per token. -/
theorem XV_at (hO : Ok m) (c : Dev nD) (b : Fin 2) (i : Fin 128) (k : Fin 3584) : XV m hO c (ix2 (rowOf b i) k) = kX m c b i k := by
  have e : V m c main_v0 = shapeCast S256x3584 (m (c.tc.loc main_arg0)) shapeCasts_S2x128x3584_S256x3584 := by
    entry_read
    rfl
  have ei : (((cfgM m hO).win 0).blk (tFst m hO)).view.emb (ix2 (rowOf b i) k) = ix2 (rowOf b i) k := by
    funext a; apply Fin.ext; blk_simp; rw [kindex0]; fin_cases a <;> simp
  refine (congrArg (V m c main_v0) ei).trans ?_
  rw [e]
  exact cast_rows _ _ b i k

/-- The weights' channel maxima, as a row. -/
theorem WM_at (hO : Ok m) (c : Dev nD) (k : Fin 3584) : WM m hO c (ix2 0 k) = kA m c k := by
  have e : V m c main_v1 = shapeCast S1x3584 (m (c.tc.loc main_arg3)) shapeCasts_S3584_S1x3584 := by
    entry_read
    rfl
  have ei : (((cfgM m hO).win 1).blk (tFst m hO)).view.emb (ix2 (0 : Fin 1) k) = ix2 (0 : Fin 1) k := by
    funext a; apply Fin.ext; blk_simp; rw [kindex1]; fin_cases a <;> simp
  refine (congrArg (V m c main_v1) ei).trans ?_
  rw [e]
  exact Idealize.ShloMosaic.ValueIdx.shapeCast_a_1a_apply _ _ _ k

/-- There are 37 points. -/
theorem pt_lt (hO : Ok m) (t : Fin (cfgM m hO).N) : t.val < 37 := Nat.lt_of_lt_of_eq t.isLt (show (cfgM m hO).N = 37 from N_0)

/-- A point's block of the weights' columns. -/
theorem W_at (hO : Ok m) (c : Dev nD) (t : Fin (cfgM m hO).N) (k : Fin 3584) (l : Fin 512) :
    iblk m hO c 2 t (ix2 k l) = kW m c k ⟨512 * t.val + l.val, by have := pt_lt m hO t; omega⟩ := by
  have ei : (((cfgM m hO).win 2).blk t).view.emb (ix2 k l) = ix2 k (⟨512 * t.val + l.val, by have := pt_lt m hO t; omega⟩ : Fin 18944) := by
    funext a; apply Fin.ext; blk_simp; rw [kindex2]; fin_cases a <;> simp <;> omega
  exact (congrArg (V m c main_arg2) ei).trans (congrFun (V_main_arg2 m c) _)

/-- Window 3's blocks cover its array. -/
theorem kcov3 (hO : Ok m) : ((cfgM m hO).win 3).Covers := by
  refine ⟨(by decide : ∀ a : Fin 2, 0 < (![256, 512] : Fin 2 → ℕ) a), fun β => ?_⟩
  have h0 : (β (0 : Fin 2)).val < (256 + 256 - 1) / 256 := (β (0 : Fin 2)).isLt
  have h1 : (β (1 : Fin 2)).val < (18944 + 512 - 1) / 512 := (β (1 : Fin 2)).isLt
  refine ⟨⟨(β (1 : Fin 2)).val, lt_of_lt_of_eq (by omega : _ < 37) (show (cfgM m hO).N = 37 from N_0).symm⟩, flush0_3 (adm m hO) _, fun a => ⟨?_, Or.inl rfl⟩⟩
  rw [kindex3]
  fin_cases a
  · show 0 = (β (0 : Fin 2)).val
    omega
  · show (β (1 : Fin 2)).val = (β (1 : Fin 2)).val
    omega

/-- Window 3's array after the run, from what its blocks hold. -/
theorem karr3 (hO : Ok m) (c : Dev nD) (G : Vec Ideal S256x18944 .bf16)
    (hG : ∀ (t : Fin (cfgM m hO).N) (k : Fin 256) (l : Fin 512), yT m hO c t (ix2 k l) = G (ix2 k ⟨512 * t.val + l.val, by have := pt_lt m hO t; omega⟩)) :
    (vdats m hO 0 c).arrAt 3 (cfgM m hO).N = G := by
  refine (vdats m hO 0 c).arrAt_eq_of_covers 3 _ (kcov3 m hO) fun t hf y => ?_
  blk_simp
  rw [vafter0_3]
  obtain ⟨k, l, rfl⟩ : ∃ (k : Fin 256) (l : Fin 512), y = ix2 k l := ⟨y (0 : Fin 2), y (1 : Fin 2), by funext z; fin_cases z <;> rfl⟩
  refine (hG t k l).trans (congrArg G ?_)
  funext a; apply Fin.ext; blk_simp; rw [kindex3]; fin_cases a <;> simp <;> omega

/-- Window 4's blocks cover its array. -/
theorem kcov4 (hO : Ok m) : ((cfgM m hO).win 4).Covers := by
  refine ⟨(by decide : ∀ a : Fin 2, 0 < (![1, 3584] : Fin 2 → ℕ) a), fun β => ?_⟩
  have h0 : (β (0 : Fin 2)).val < (1 + 1 - 1) / 1 := (β (0 : Fin 2)).isLt
  have h1 : (β (1 : Fin 2)).val < (3584 + 3584 - 1) / 3584 := (β (1 : Fin 2)).isLt
  refine ⟨⟨36, lt_of_lt_of_eq (by omega : _ < 37) (show (cfgM m hO).N = 37 from N_0).symm⟩, (flush0_4 (adm m hO) _).mpr rfl, fun a => ⟨?_, Or.inl rfl⟩⟩
  rw [kindex4]
  fin_cases a
  · show 0 = (β (0 : Fin 2)).val
    omega
  · show 0 = (β (1 : Fin 2)).val
    omega

/-- Window 4's array after the run, from what its blocks hold. -/
theorem karr4 (hO : Ok m) (c : Dev nD) (G : Vec Ideal S1x3584 .f32)
    (hG : ∀ (t : Fin (cfgM m hO).N) (k : Fin 1) (l : Fin 3584), sT m hO c (ix2 k l) = G (ix2 k l)) :
    (vdats m hO 0 c).arrAt 4 (cfgM m hO).N = G := by
  refine (vdats m hO 0 c).arrAt_eq_of_covers 4 _ (kcov4 m hO) fun t hf y => ?_
  blk_simp
  rw [vafter0_4]
  obtain ⟨k, l, rfl⟩ : ∃ (k : Fin 1) (l : Fin 3584), y = ix2 k l := ⟨y (0 : Fin 2), y (1 : Fin 2), by funext z; fin_cases z <;> rfl⟩
  refine (hG t k l).trans (congrArg G ?_)
  funext a; apply Fin.ext; blk_simp; rw [kindex4]; fin_cases a <;> simp <;> omega

/-- Window 5's blocks cover its array. -/
theorem kcov5 (hO : Ok m) : ((cfgM m hO).win 5).Covers := by
  refine ⟨(by decide : ∀ a : Fin 2, 0 < (![3584, 512] : Fin 2 → ℕ) a), fun β => ?_⟩
  have h0 : (β (0 : Fin 2)).val < (3584 + 3584 - 1) / 3584 := (β (0 : Fin 2)).isLt
  have h1 : (β (1 : Fin 2)).val < (18944 + 512 - 1) / 512 := (β (1 : Fin 2)).isLt
  refine ⟨⟨(β (1 : Fin 2)).val, lt_of_lt_of_eq (by omega : _ < 37) (show (cfgM m hO).N = 37 from N_0).symm⟩, flush0_5 (adm m hO) _, fun a => ⟨?_, Or.inl rfl⟩⟩
  rw [kindex5]
  fin_cases a
  · show 0 = (β (0 : Fin 2)).val
    omega
  · show (β (1 : Fin 2)).val = (β (1 : Fin 2)).val
    omega

/-- Window 5's array after the run, from what its blocks hold. -/
theorem karr5 (hO : Ok m) (c : Dev nD) (G : Vec Ideal S3584x18944 .i8)
    (hG : ∀ (t : Fin (cfgM m hO).N) (k : Fin 3584) (l : Fin 512), wcT m hO c t (ix2 k l) = G (ix2 k ⟨512 * t.val + l.val, by have := pt_lt m hO t; omega⟩)) :
    (vdats m hO 0 c).arrAt 5 (cfgM m hO).N = G := by
  refine (vdats m hO 0 c).arrAt_eq_of_covers 5 _ (kcov5 m hO) fun t hf y => ?_
  blk_simp
  rw [vafter0_5]
  obtain ⟨k, l, rfl⟩ : ∃ (k : Fin 3584) (l : Fin 512), y = ix2 k l := ⟨y (0 : Fin 2), y (1 : Fin 2), by funext z; fin_cases z <;> rfl⟩
  refine (hG t k l).trans (congrArg G ?_)
  funext a; apply Fin.ext; blk_simp; rw [kindex5]; fin_cases a <;> simp <;> omega

/-- Window 6's blocks cover its array. -/
theorem kcov6 (hO : Ok m) : ((cfgM m hO).win 6).Covers := by
  refine ⟨(by decide : ∀ a : Fin 2, 0 < (![1, 512] : Fin 2 → ℕ) a), fun β => ?_⟩
  have h0 : (β (0 : Fin 2)).val < (1 + 1 - 1) / 1 := (β (0 : Fin 2)).isLt
  have h1 : (β (1 : Fin 2)).val < (18944 + 512 - 1) / 512 := (β (1 : Fin 2)).isLt
  refine ⟨⟨(β (1 : Fin 2)).val, lt_of_lt_of_eq (by omega : _ < 37) (show (cfgM m hO).N = 37 from N_0).symm⟩, flush0_6 (adm m hO) _, fun a => ⟨?_, Or.inl rfl⟩⟩
  rw [kindex6]
  fin_cases a
  · show 0 = (β (0 : Fin 2)).val
    omega
  · show (β (1 : Fin 2)).val = (β (1 : Fin 2)).val
    omega

/-- Window 6's array after the run, from what its blocks hold. -/
theorem karr6 (hO : Ok m) (c : Dev nD) (G : Vec Ideal S1x18944 .f32)
    (hG : ∀ (t : Fin (cfgM m hO).N) (k : Fin 1) (l : Fin 512), wscT m hO c t (ix2 k l) = G (ix2 k ⟨512 * t.val + l.val, by have := pt_lt m hO t; omega⟩)) :
    (vdats m hO 0 c).arrAt 6 (cfgM m hO).N = G := by
  refine (vdats m hO 0 c).arrAt_eq_of_covers 6 _ (kcov6 m hO) fun t hf y => ?_
  blk_simp
  rw [vafter0_6]
  obtain ⟨k, l, rfl⟩ : ∃ (k : Fin 1) (l : Fin 512), y = ix2 k l := ⟨y (0 : Fin 2), y (1 : Fin 2), by funext z; fin_cases z <;> rfl⟩
  refine (hG t k l).trans (congrArg G ?_)
  funext a; apply Fin.ext; blk_simp; rw [kindex6]; fin_cases a <;> simp <;> omega

/-- Window 7's blocks cover its array. -/
theorem kcov7 (hO : Ok m) : ((cfgM m hO).win 7).Covers := by
  refine ⟨(by decide : ∀ a : Fin 2, 0 < (![256, 3584] : Fin 2 → ℕ) a), fun β => ?_⟩
  have h0 : (β (0 : Fin 2)).val < (256 + 256 - 1) / 256 := (β (0 : Fin 2)).isLt
  have h1 : (β (1 : Fin 2)).val < (3584 + 3584 - 1) / 3584 := (β (1 : Fin 2)).isLt
  refine ⟨⟨36, lt_of_lt_of_eq (by omega : _ < 37) (show (cfgM m hO).N = 37 from N_0).symm⟩, (flush0_7 (adm m hO) _).mpr rfl, fun a => ⟨?_, Or.inl rfl⟩⟩
  rw [kindex7]
  fin_cases a
  · show 0 = (β (0 : Fin 2)).val
    omega
  · show 0 = (β (1 : Fin 2)).val
    omega

/-- Window 7's array after the run, from what its blocks hold. -/
theorem karr7 (hO : Ok m) (c : Dev nD) (G : Vec Ideal S256x3584 .i8)
    (hG : ∀ (t : Fin (cfgM m hO).N) (k : Fin 256) (l : Fin 3584), xcT m hO c (ix2 k l) = G (ix2 k l)) :
    (vdats m hO 0 c).arrAt 7 (cfgM m hO).N = G := by
  refine (vdats m hO 0 c).arrAt_eq_of_covers 7 _ (kcov7 m hO) fun t hf y => ?_
  blk_simp
  rw [vafter0_7]
  obtain ⟨k, l, rfl⟩ : ∃ (k : Fin 256) (l : Fin 3584), y = ix2 k l := ⟨y (0 : Fin 2), y (1 : Fin 2), by funext z; fin_cases z <;> rfl⟩
  refine (hG t k l).trans (congrArg G ?_)
  funext a; apply Fin.ext; blk_simp; rw [kindex7]; fin_cases a <;> simp <;> omega

/-- Window 8's blocks cover its array. -/
theorem kcov8 (hO : Ok m) : ((cfgM m hO).win 8).Covers := by
  refine ⟨(by decide : ∀ a : Fin 2, 0 < (![2, 128] : Fin 2 → ℕ) a), fun β => ?_⟩
  have h0 : (β (0 : Fin 2)).val < (2 + 2 - 1) / 2 := (β (0 : Fin 2)).isLt
  have h1 : (β (1 : Fin 2)).val < (128 + 128 - 1) / 128 := (β (1 : Fin 2)).isLt
  refine ⟨⟨36, lt_of_lt_of_eq (by omega : _ < 37) (show (cfgM m hO).N = 37 from N_0).symm⟩, (flush0_8 (adm m hO) _).mpr rfl, fun a => ⟨?_, Or.inl rfl⟩⟩
  rw [kindex8]
  fin_cases a
  · show 0 = (β (0 : Fin 2)).val
    omega
  · show 0 = (β (1 : Fin 2)).val
    omega

/-- Window 8's array after the run, from what its blocks hold. -/
theorem karr8 (hO : Ok m) (c : Dev nD) (G : Vec Ideal S2x128 .f32)
    (hG : ∀ (t : Fin (cfgM m hO).N) (k : Fin 2) (l : Fin 128), xsT m hO c (ix2 k l) = G (ix2 k l)) :
    (vdats m hO 0 c).arrAt 8 (cfgM m hO).N = G := by
  refine (vdats m hO 0 c).arrAt_eq_of_covers 8 _ (kcov8 m hO) fun t hf y => ?_
  blk_simp
  rw [vafter0_8]
  obtain ⟨k, l, rfl⟩ : ∃ (k : Fin 2) (l : Fin 128), y = ix2 k l := ⟨y (0 : Fin 2), y (1 : Fin 2), by funext z; fin_cases z <;> rfl⟩
  refine (hG t k l).trans (congrArg G ?_)
  funext a; apply Fin.ext; blk_simp; rw [kindex8]; fin_cases a <;> simp <;> omega

/-- Result buffer `main_v3` after the run. -/
theorem kres3 (hO : Ok m) (c : Dev nD) : Pipeline.afterTail pcfgs (fun _ => adm m hO) (vdats m hO) 0 (V0 m) [hostOps1] c main_v3
    = shapeCast S2x128x18944 ((vdats m hO 0 c).arrAt 3 (cfgM m hO).N) shapeCasts_S256x18944_S2x128x18944 := by
  unfold Pipeline.afterTail
  generalize e : (Pipeline.withArrays _ c (V0 m c) _) = σ
  have h3 : σ (Proc.devRef .tc main_v2_0) = (vdats m hO 0 c).arrAt 3 (cfgM m hO).N := by
    subst e
    exact Pipeline.withArrays_arr spec0 (by decide) c (V0 m c) _ 3
  rw [← h3]
  clear e h3
  simp only [List.flatten_cons, List.flatten_nil, List.append_nil, hostOps1, StableHlo.after_cons, StableHlo.after_nil]
  after_results_simp
  rfl

/-- Result buffer `main_v4` after the run. -/
theorem kres4 (hO : Ok m) (c : Dev nD) : Pipeline.afterTail pcfgs (fun _ => adm m hO) (vdats m hO) 0 (V0 m) [hostOps1] c main_v4
    = shapeCast S3584 ((vdats m hO 0 c).arrAt 4 (cfgM m hO).N) shapeCasts_S1x3584_S3584 := by
  unfold Pipeline.afterTail
  generalize e : (Pipeline.withArrays _ c (V0 m c) _) = σ
  have h3 : σ (Proc.devRef .tc main_v2_1) = (vdats m hO 0 c).arrAt 4 (cfgM m hO).N := by
    subst e
    exact Pipeline.withArrays_arr spec0 (by decide) c (V0 m c) _ 4
  rw [← h3]
  clear e h3
  simp only [List.flatten_cons, List.flatten_nil, List.append_nil, hostOps1, StableHlo.after_cons, StableHlo.after_nil]
  after_results_simp
  rfl

/-- Result buffer `main_v5` after the run. -/
theorem kres6 (hO : Ok m) (c : Dev nD) : Pipeline.afterTail pcfgs (fun _ => adm m hO) (vdats m hO) 0 (V0 m) [hostOps1] c main_v5
    = shapeCast S18944 ((vdats m hO 0 c).arrAt 6 (cfgM m hO).N) shapeCasts_S1x18944_S18944 := by
  unfold Pipeline.afterTail
  generalize e : (Pipeline.withArrays _ c (V0 m c) _) = σ
  have h3 : σ (Proc.devRef .tc main_v2_3) = (vdats m hO 0 c).arrAt 6 (cfgM m hO).N := by
    subst e
    exact Pipeline.withArrays_arr spec0 (by decide) c (V0 m c) _ 6
  rw [← h3]
  clear e h3
  simp only [List.flatten_cons, List.flatten_nil, List.append_nil, hostOps1, StableHlo.after_cons, StableHlo.after_nil]
  after_results_simp
  rfl

/-- Result buffer `main_v6` after the run. -/
theorem kres7 (hO : Ok m) (c : Dev nD) : Pipeline.afterTail pcfgs (fun _ => adm m hO) (vdats m hO) 0 (V0 m) [hostOps1] c main_v6
    = shapeCast S2x128x3584 ((vdats m hO 0 c).arrAt 7 (cfgM m hO).N) shapeCasts_S256x3584_S2x128x3584 := by
  unfold Pipeline.afterTail
  generalize e : (Pipeline.withArrays _ c (V0 m c) _) = σ
  have h3 : σ (Proc.devRef .tc main_v2_4) = (vdats m hO 0 c).arrAt 7 (cfgM m hO).N := by
    subst e
    exact Pipeline.withArrays_arr spec0 (by decide) c (V0 m c) _ 7
  rw [← h3]
  clear e h3
  simp only [List.flatten_cons, List.flatten_nil, List.append_nil, hostOps1, StableHlo.after_cons, StableHlo.after_nil]
  after_results_simp
  rfl

end Cert.KernelIdeal.Gen

end
-- ==== Proof.KI.ResultAt.lean ====
/- Result buffers equal any buffers that hold the functions of the specification. -/
module

public import proofs.«01_k».proof.Proof.KI.Result
public import proofs.«01_k».proof.Proof.KI.Eqs
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.SL.Sem
open Idealize.ShloMosaic.Pipeline (Dat)
open Cert.Spec (okB chS wSc wStep wCode xSc xStep xCode xSt yOut)

variable (m : (ℓ : Loc nD τ sig) → Buf (Elt Ideal) ℓ)

/-! ## The results at an index -/

variable (hO : Ok m) (c : Dev nD)

theorem blk_ok (t : Fin (cfgM m hO).N) : 512 * t.val + 512 ≤ 18944 := by have := pt_lt m hO t; omega

/-- The product. -/
theorem ky_arr (G : Vec Ideal S256x18944 .bf16) (hG : ∀ b i n, (G (ix2 (rowOf b i) n) : EReal) = yOut (kL m c) (kX m c) (kW m c) (kA m c) b i n) :
    (vdats m hO 0 c).arrAt 3 (cfgM m hO).N = G :=
  karr3 m hO c G fun t k l => by
    obtain ⟨b, i, rfl⟩ := row_split k
    refine Eq.trans ?_ (hG b i _).symm
    exact yV_eq (kL m c) (kX m c) (kW m c) (kA m c) (MK m) (XV m hO c) (WM m hO c) (MK_at m c) (XV_at m hO c) (WM_at m hO c)
      (iblk m hO c 2 t) (512 * t.val) (blk_ok m hO t) (W_at m hO c t) b i l
/-- The channel scales. -/
theorem ks_arr (G : Vec Ideal S1x3584 .f32) (hG : ∀ k, (G (ix2 0 k) : EReal) = chS (kL m c) (kX m c) (kA m c) k) :
    (vdats m hO 0 c).arrAt 4 (cfgM m hO).N = G :=
  karr4 m hO c G fun t k l => by
    obtain rfl : k = 0 := Subsingleton.elim _ _
    refine Eq.trans ?_ (hG l).symm
    exact sV_eq (kL m c) (kX m c) (kA m c) (MK m) (XV m hO c) (WM m hO c) (MK_at m c) (XV_at m hO c) (WM_at m hO c) l
/-- The weights' codes. -/
theorem kwc_arr (G : Vec Ideal S3584x18944 .i8) (hG : ∀ k n, G (ix2 k n) = wCode (kL m c) (kX m c) (kW m c) (kA m c) k n) :
    (vdats m hO 0 c).arrAt 5 (cfgM m hO).N = G :=
  karr5 m hO c G fun t k l => by
    refine Eq.trans ?_ (hG k _).symm
    exact wcI_eq (kL m c) (kX m c) (kW m c) (kA m c) (MK m) (XV m hO c) (WM m hO c) (MK_at m c) (XV_at m hO c) (WM_at m hO c)
      (iblk m hO c 2 t) (512 * t.val) (blk_ok m hO t) (W_at m hO c t) k l
/-- The weights' steps. -/
theorem kws_arr (G : Vec Ideal S1x18944 .f32) (hG : ∀ n, (G (ix2 0 n) : EReal) = wStep (kL m c) (kX m c) (kW m c) (kA m c) n) :
    (vdats m hO 0 c).arrAt 6 (cfgM m hO).N = G :=
  karr6 m hO c G fun t k l => by
    obtain rfl : k = 0 := Subsingleton.elim _ _
    refine Eq.trans ?_ (hG _).symm
    exact wscV_eq (kL m c) (kX m c) (kW m c) (kA m c) (MK m) (XV m hO c) (WM m hO c) (MK_at m c) (XV_at m hO c) (WM_at m hO c)
      (iblk m hO c 2 t) (512 * t.val) (blk_ok m hO t) (W_at m hO c t) l
/-- The activations' codes. -/
theorem kxc_arr (G : Vec Ideal S256x3584 .i8) (hG : ∀ b i k, G (ix2 (rowOf b i) k) = xCode (kL m c) (kX m c) (kA m c) b i k) :
    (vdats m hO 0 c).arrAt 7 (cfgM m hO).N = G :=
  karr7 m hO c G fun t k l => by
    obtain ⟨b, i, rfl⟩ := row_split k
    refine Eq.trans ?_ (hG b i l).symm
    exact xcV_eq (kL m c) (kX m c) (kA m c) (MK m) (XV m hO c) (WM m hO c) (MK_at m c) (XV_at m hO c) (WM_at m hO c) b i l
/-- The rows' steps. -/
theorem kxs_arr (G : Vec Ideal S2x128 .f32) (hG : ∀ b i, (G (ix2 b i) : EReal) = xSt (kL m c) (kX m c) (kA m c) b i) :
    (vdats m hO 0 c).arrAt 8 (cfgM m hO).N = G :=
  karr8 m hO c G fun t k l => by
    refine Eq.trans ?_ (hG k l).symm
    exact xsV_eq (kL m c) (kX m c) (kA m c) (MK m) (XV m hO c) (WM m hO c) (MK_at m c) (XV_at m hO c) (WM_at m hO c) k l

/-- The product, as it is returned. -/
theorem ky_res (G : Vec Ideal S2x128x18944 .bf16) (hG : ∀ b i n, (G (ix3 b i n) : EReal) = yOut (kL m c) (kX m c) (kW m c) (kA m c) b i n) :
    Pipeline.afterTail pcfgs (fun _ => adm m hO) (vdats m hO) 0 (V0 m) [hostOps1] c main_v3 = G := by
  rw [kres3, ky_arr m hO c (fun y => G (ix3 (⟨(y 0).val / 128, by have : (y 0).val < 256 := (y 0).isLt; omega⟩ : Fin 2) (⟨(y 0).val % 128, Nat.mod_lt _ (by decide)⟩ : Fin 128) (y 1)))
    (fun b i n => by
      refine Eq.trans (congrArg G ?_) (hG b i n)
      have hi := i.isLt
      exact congrArg₂ (fun b i => ix3 b i n) (Fin.ext (by show (128 * b.val + i.val) / 128 = b.val; omega)) (Fin.ext (by show (128 * b.val + i.val) % 128 = i.val; omega)))]
  funext y
  obtain ⟨b, i, n, rfl⟩ : ∃ (b : Fin 2) (i : Fin 128) (n : Fin 18944), y = ix3 b i n := ⟨y 0, y 1, y 2, by funext z; fin_cases z <;> rfl⟩
  refine (cast_seqs _ _ b i n).trans (congrArg G ?_)
  have hi := i.isLt
  exact congrArg₂ (fun b i => ix3 b i n) (Fin.ext (by show (128 * b.val + i.val) / 128 = b.val; omega)) (Fin.ext (by show (128 * b.val + i.val) % 128 = i.val; omega))
/-- The channel scales, as they are returned. -/
theorem ks_res (G : Vec Ideal S3584 .f32) (hG : ∀ k, (G (ix1 k) : EReal) = chS (kL m c) (kX m c) (kA m c) k) :
    Pipeline.afterTail pcfgs (fun _ => adm m hO) (vdats m hO) 0 (V0 m) [hostOps1] c main_v4 = G := by
  rw [kres4, ks_arr m hO c (fun y => G (ix1 (y 1))) hG]
  funext y
  obtain ⟨k, rfl⟩ : ∃ (k : Fin 3584), y = ix1 k := ⟨y 0, by funext z; fin_cases z; rfl⟩
  exact Idealize.ShloMosaic.ValueIdx.shapeCast_1a_a_apply _ _ k
/-- The weights' steps, as they are returned. -/
theorem kws_res (G : Vec Ideal S18944 .f32) (hG : ∀ n, (G (ix1 n) : EReal) = wStep (kL m c) (kX m c) (kW m c) (kA m c) n) :
    Pipeline.afterTail pcfgs (fun _ => adm m hO) (vdats m hO) 0 (V0 m) [hostOps1] c main_v5 = G := by
  rw [kres6, kws_arr m hO c (fun y => G (ix1 (y 1))) hG]
  funext y
  obtain ⟨k, rfl⟩ : ∃ (k : Fin 18944), y = ix1 k := ⟨y 0, by funext z; fin_cases z; rfl⟩
  exact Idealize.ShloMosaic.ValueIdx.shapeCast_1a_a_apply _ _ k
/-- The activations' codes, as they are returned. -/
theorem kxc_res (G : Vec Ideal S2x128x3584 .i8) (hG : ∀ b i n, G (ix3 b i n) = xCode (kL m c) (kX m c) (kA m c) b i n) :
    Pipeline.afterTail pcfgs (fun _ => adm m hO) (vdats m hO) 0 (V0 m) [hostOps1] c main_v6 = G := by
  rw [kres7, kxc_arr m hO c (fun y => G (ix3 (⟨(y 0).val / 128, by have : (y 0).val < 256 := (y 0).isLt; omega⟩ : Fin 2) (⟨(y 0).val % 128, Nat.mod_lt _ (by decide)⟩ : Fin 128) (y 1)))
    (fun b i n => by
      refine Eq.trans (congrArg G ?_) (hG b i n)
      have hi := i.isLt
      exact congrArg₂ (fun b i => ix3 b i n) (Fin.ext (by show (128 * b.val + i.val) / 128 = b.val; omega)) (Fin.ext (by show (128 * b.val + i.val) % 128 = i.val; omega)))]
  funext y
  obtain ⟨b, i, n, rfl⟩ : ∃ (b : Fin 2) (i : Fin 128) (n : Fin 3584), y = ix3 b i n := ⟨y 0, y 1, y 2, by funext z; fin_cases z <;> rfl⟩
  refine (cast_seqs _ _ b i n).trans (congrArg G ?_)
  have hi := i.isLt
  exact congrArg₂ (fun b i => ix3 b i n) (Fin.ext (by show (128 * b.val + i.val) / 128 = b.val; omega)) (Fin.ext (by show (128 * b.val + i.val) % 128 = i.val; omega))

end Cert.KernelIdeal.Gen

end
-- ==== Proof.RI.Ref.lean ====
/- The reference's result arrays as the plain terms its one body stores. -/
module

public import proofs.«01_k».proof.Proof.Gen.ReferenceIdeal.Value
public import Idealize.ShloMosaic.Lib.Pipeline.ValueKit

@[expose] public section

set_option maxRecDepth 16384

noncomputable section

namespace Cert.ReferenceIdeal.Gen

open Idealize.ShloMosaic Idealize.ShloMosaic.TcCoe Idealize.SL.Sem
open Idealize.ShloMosaic.Pipeline (Dat)

variable (m : (ℓ : Loc nD τ sig) → Buf (Elt Ideal) ℓ)

/-- The activations. -/
abbrev RX (c : Dev nD) : Vec Ideal S2x128x3584 .bf16 := m (c.tc.loc main_arg0)
/-- The two lengths. -/
abbrev RL (c : Dev nD) : Vec Ideal S2 .i32 := m (c.tc.loc main_arg1)
/-- The weights. -/
abbrev RW (c : Dev nD) : Vec Ideal S3584x18944 .bf16 := m (c.tc.loc main_arg2)
/-- The weights' channel maxima. -/
abbrev RA (c : Dev nD) : Vec Ideal S3584 .f32 := m (c.tc.loc main_arg3)
/-- Which rows are valid, as the reference computes it. -/
abbrev RM (c : Dev nD) : IVec S2x128x1 1 := k0_pay3 (F := Ideal) (RL m c (ix1 0)) (RL m c (ix1 1))
/-- The channel scales. -/
abbrev RS (c : Dev nD) : FVec Ideal S3584 .f32 := k0_pay4 (RX m c) (RL m c (ix1 0)) (RL m c (ix1 1)) (RA m c)
/-- The weight scales. -/
abbrev RWS (c : Dev nD) : FVec Ideal S18944 .f32 := k0_pay6 (RX m c) (RL m c (ix1 0)) (RL m c (ix1 1)) (RA m c) (RW m c)
/-- The weight codes. -/
abbrev RWC (c : Dev nD) : IVec S3584x18944 8 := k0_pay7 (k0_pay5 (RX m c) (RL m c (ix1 0)) (RL m c (ix1 1)) (RA m c) (RW m c)) (RWS m c)
/-- The activation codes. -/
abbrev RXC (c : Dev nD) : IVec S2x128x3584 8 := k0_pay10 (k0_pay2 (RX m c)) (RM m c) (RS m c)
/-- The activation scales. -/
abbrev RXS (c : Dev nD) : FVec Ideal S2x128 .f32 := k0_pay11 (k0_pay2 (RX m c)) (RM m c) (RS m c)

/-- The first length, as the body loads it. -/
theorem word0 (x : Vec Ideal S2 .i32) (j : (Rect.unit (s := S2) ![0] ![1] inb_S2_S1_0).shape.Idx) : View.ld x (Rect.unit ![0] ![1] inb_S2_S1_0) j = x (ix1 0) :=
  congrArg x (by funext a; fin_cases a; apply Fin.ext; have := (j 0).isLt; simp [Rect.emb, ix1] at this ⊢)
/-- The second length, as the body loads it. -/
theorem word1 (x : Vec Ideal S2 .i32) (j : (Rect.unit (s := S2) ![1] ![1] inb_S2_S1_1).shape.Idx) : View.ld x (Rect.unit ![1] ![1] inb_S2_S1_1) j = x (ix1 1) :=
  congrArg x (by funext a; fin_cases a; apply Fin.ext; have := (j 0).isLt; simp [Rect.emb, ix1] at this ⊢)

theorem index0 : ∀ t : Fin cfg0.N, win0_0.index t = ![0] := (by decide +kernel : ∀ t : Fin grid0.N, win0_0.index t = ![0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![0] := (by decide +kernel : ∀ t : Fin grid0.N, win0_3.index t = ![0])

theorem blk0 (c : Dev nD) (t : Fin cfg0.N) : iblk m c 0 t = RL m c := by
  funext y; blk_simp [iblk]; exact congrArg (RL m c) (by funext a; apply Fin.ext; blk_simp; rw [index0]; fin_cases a <;> simp)
theorem blk1 (c : Dev nD) (t : Fin cfg0.N) : iblk m c 1 t = RX m c := by
  funext y; blk_simp [iblk]; exact congrArg (RX m c) (by funext a; apply Fin.ext; blk_simp; rw [index1]; fin_cases a <;> simp)
theorem blk2 (c : Dev nD) (t : Fin cfg0.N) : iblk m c 2 t = RW m c := by
  funext y; blk_simp [iblk]; exact congrArg (RW m c) (by funext a; apply Fin.ext; blk_simp; rw [index2]; fin_cases a <;> simp)
theorem blk3 (c : Dev nD) (t : Fin cfg0.N) : iblk m c 3 t = RA m c := by
  funext y; blk_simp [iblk]; exact congrArg (RA m c) (by funext a; apply Fin.ext; blk_simp; rw [index3]; fin_cases a <;> simp)

theorem rindex4 : ∀ t : Fin cfg0.N, win0_4.index t = ![0, 0, 0] := (by decide +kernel : ∀ t : Fin grid0.N, win0_4.index t = ![0, 0, 0])
theorem rarr4 (c : Dev nD) : (dats m 0 c).arrAt 4 cfg0.N = (k0_pay1 (RWS m c) (RWC m c) (RXC m c) (RXS m c) : Vec Ideal S2x128x18944 .bf16) := by
  refine (dats m 0 c).arrAt_eq_of_covers 4 _ (by decide +kernel) fun t hf y => ?_
  blk_simp
  rw [after0_4]
  unfold outsAt0
  dsimp only
  frame_out
  simp only [blk0, blk1, blk2, blk3]
  have e : ((View.whole main_v0_0).slice (win0_4.rect t)).emb y = y := by
    funext a; apply Fin.ext; blk_simp; rw [rindex4]; fin_cases a <;> simp
  have r0 : View.read (Elt Ideal) (View.whole cc0_stg0_0) ((hs0_0 t).unread (RL m c)) = RL m c := (hs0_0 t).read_unread _
  have r1 : View.read (Elt Ideal) (View.whole cc0_stg1_0) ((hs0_1 t).unread (RX m c)) = RX m c := (hs0_1 t).read_unread _
  have r2 : View.read (Elt Ideal) (View.whole cc0_stg2_0) ((hs0_2 t).unread (RW m c)) = RW m c := (hs0_2 t).read_unread _
  have r3 : View.read (Elt Ideal) (View.whole cc0_stg3_0) ((hs0_3 t).unread (RA m c)) = RA m c := (hs0_3 t).read_unread _
  simp only [r0, r1, r2, r3]
  rw [e]
  dsimp only [RWC, RXC, RXS, RWS, RS, RM]
  rw [← word0 (RL m c) (Shape.Idx.first (by decide)), ← word1 (RL m c) (Shape.Idx.first (by decide))]

theorem rindex5 : ∀ t : Fin cfg0.N, win0_5.index t = ![0] := (by decide +kernel : ∀ t : Fin grid0.N, win0_5.index t = ![0])
theorem rarr5 (c : Dev nD) : (dats m 0 c).arrAt 5 cfg0.N = (RS m c : Vec Ideal S3584 .f32) := by
  refine (dats m 0 c).arrAt_eq_of_covers 5 _ (by decide +kernel) fun t hf y => ?_
  blk_simp
  rw [after0_5]
  unfold outsAt0
  dsimp only
  frame_out
  simp only [blk0, blk1, blk2, blk3]
  have e : ((View.whole main_v0_1).slice (win0_5.rect t)).emb y = y := by
    funext a; apply Fin.ext; blk_simp; rw [rindex5]; fin_cases a <;> simp
  have r0 : View.read (Elt Ideal) (View.whole cc0_stg0_0) ((hs0_0 t).unread (RL m c)) = RL m c := (hs0_0 t).read_unread _
  have r1 : View.read (Elt Ideal) (View.whole cc0_stg1_0) ((hs0_1 t).unread (RX m c)) = RX m c := (hs0_1 t).read_unread _
  have r2 : View.read (Elt Ideal) (View.whole cc0_stg2_0) ((hs0_2 t).unread (RW m c)) = RW m c := (hs0_2 t).read_unread _
  have r3 : View.read (Elt Ideal) (View.whole cc0_stg3_0) ((hs0_3 t).unread (RA m c)) = RA m c := (hs0_3 t).read_unread _
  simp only [r0, r1, r2, r3]
  rw [e]
  dsimp only [RWC, RXC, RXS, RWS, RS, RM]
  rw [← word0 (RL m c) (Shape.Idx.first (by decide)), ← word1 (RL m c) (Shape.Idx.first (by decide))]

theorem rindex6 : ∀ t : Fin cfg0.N, win0_6.index t = ![0, 0] := (by decide +kernel : ∀ t : Fin grid0.N, win0_6.index t = ![0, 0])
theorem rarr6 (c : Dev nD) : (dats m 0 c).arrAt 6 cfg0.N = (RWC m c : Vec Ideal S3584x18944 .i8) := by
  refine (dats m 0 c).arrAt_eq_of_covers 6 _ (by decide +kernel) fun t hf y => ?_
  blk_simp
  rw [after0_6]
  unfold outsAt0
  dsimp only
  frame_out
  simp only [blk0, blk1, blk2, blk3]
  have e : ((View.whole main_v0_2).slice (win0_6.rect t)).emb y = y := by
    funext a; apply Fin.ext; blk_simp; rw [rindex6]; fin_cases a <;> simp
  have r0 : View.read (Elt Ideal) (View.whole cc0_stg0_0) ((hs0_0 t).unread (RL m c)) = RL m c := (hs0_0 t).read_unread _
  have r1 : View.read (Elt Ideal) (View.whole cc0_stg1_0) ((hs0_1 t).unread (RX m c)) = RX m c := (hs0_1 t).read_unread _
  have r2 : View.read (Elt Ideal) (View.whole cc0_stg2_0) ((hs0_2 t).unread (RW m c)) = RW m c := (hs0_2 t).read_unread _
  have r3 : View.read (Elt Ideal) (View.whole cc0_stg3_0) ((hs0_3 t).unread (RA m c)) = RA m c := (hs0_3 t).read_unread _
  simp only [r0, r1, r2, r3]
  rw [e]
  dsimp only [RWC, RXC, RXS, RWS, RS, RM]
  rw [← word0 (RL m c) (Shape.Idx.first (by decide)), ← word1 (RL m c) (Shape.Idx.first (by decide))]

theorem rindex7 : ∀ t : Fin cfg0.N, win0_7.index t = ![0] := (by decide +kernel : ∀ t : Fin grid0.N, win0_7.index t = ![0])
theorem rarr7 (c : Dev nD) : (dats m 0 c).arrAt 7 cfg0.N = (RWS m c : Vec Ideal S18944 .f32) := by
  refine (dats m 0 c).arrAt_eq_of_covers 7 _ (by decide +kernel) fun t hf y => ?_
  blk_simp
  rw [after0_7]
  unfold outsAt0
  dsimp only
  frame_out
  simp only [blk0, blk1, blk2, blk3]
  have e : ((View.whole main_v0_3).slice (win0_7.rect t)).emb y = y := by
    funext a; apply Fin.ext; blk_simp; rw [rindex7]; fin_cases a <;> simp
  have r0 : View.read (Elt Ideal) (View.whole cc0_stg0_0) ((hs0_0 t).unread (RL m c)) = RL m c := (hs0_0 t).read_unread _
  have r1 : View.read (Elt Ideal) (View.whole cc0_stg1_0) ((hs0_1 t).unread (RX m c)) = RX m c := (hs0_1 t).read_unread _
  have r2 : View.read (Elt Ideal) (View.whole cc0_stg2_0) ((hs0_2 t).unread (RW m c)) = RW m c := (hs0_2 t).read_unread _
  have r3 : View.read (Elt Ideal) (View.whole cc0_stg3_0) ((hs0_3 t).unread (RA m c)) = RA m c := (hs0_3 t).read_unread _
  simp only [r0, r1, r2, r3]
  rw [e]
  dsimp only [RWC, RXC, RXS, RWS, RS, RM]
  rw [← word0 (RL m c) (Shape.Idx.first (by decide)), ← word1 (RL m c) (Shape.Idx.first (by decide))]

theorem rindex8 : ∀ t : Fin cfg0.N, win0_8.index t = ![0, 0, 0] := (by decide +kernel : ∀ t : Fin grid0.N, win0_8.index t = ![0, 0, 0])
theorem rarr8 (c : Dev nD) : (dats m 0 c).arrAt 8 cfg0.N = (RXC m c : Vec Ideal S2x128x3584 .i8) := by
  refine (dats m 0 c).arrAt_eq_of_covers 8 _ (by decide +kernel) fun t hf y => ?_
  blk_simp
  rw [after0_8]
  unfold outsAt0
  dsimp only
  frame_out
  simp only [blk0, blk1, blk2, blk3]
  have e : ((View.whole main_v0_4).slice (win0_8.rect t)).emb y = y := by
    funext a; apply Fin.ext; blk_simp; rw [rindex8]; fin_cases a <;> simp
  have r0 : View.read (Elt Ideal) (View.whole cc0_stg0_0) ((hs0_0 t).unread (RL m c)) = RL m c := (hs0_0 t).read_unread _
  have r1 : View.read (Elt Ideal) (View.whole cc0_stg1_0) ((hs0_1 t).unread (RX m c)) = RX m c := (hs0_1 t).read_unread _
  have r2 : View.read (Elt Ideal) (View.whole cc0_stg2_0) ((hs0_2 t).unread (RW m c)) = RW m c := (hs0_2 t).read_unread _
  have r3 : View.read (Elt Ideal) (View.whole cc0_stg3_0) ((hs0_3 t).unread (RA m c)) = RA m c := (hs0_3 t).read_unread _
  simp only [r0, r1, r2, r3]
  rw [e]
  dsimp only [RWC, RXC, RXS, RWS, RS, RM]
  rw [← word0 (RL m c) (Shape.Idx.first (by decide)), ← word1 (RL m c) (Shape.Idx.first (by decide))]

theorem rindex9 : ∀ t : Fin cfg0.N, win0_9.index t = ![0, 0] := (by decide +kernel : ∀ t : Fin grid0.N, win0_9.index t = ![0, 0])
theorem rarr9 (c : Dev nD) : (dats m 0 c).arrAt 9 cfg0.N = (RXS m c : Vec Ideal S2x128 .f32) := by
  refine (dats m 0 c).arrAt_eq_of_covers 9 _ (by decide +kernel) fun t hf y => ?_
  blk_simp
  rw [after0_9]
  unfold outsAt0
  dsimp only
  frame_out
  simp only [blk0, blk1, blk2, blk3]
  have e : ((View.whole main_v0_5).slice (win0_9.rect t)).emb y = y := by
    funext a; apply Fin.ext; blk_simp; rw [rindex9]; fin_cases a <;> simp
  have r0 : View.read (Elt Ideal) (View.whole cc0_stg0_0) ((hs0_0 t).unread (RL m c)) = RL m c := (hs0_0 t).read_unread _
  have r1 : View.read (Elt Ideal) (View.whole cc0_stg1_0) ((hs0_1 t).unread (RX m c)) = RX m c := (hs0_1 t).read_unread _
  have r2 : View.read (Elt Ideal) (View.whole cc0_stg2_0) ((hs0_2 t).unread (RW m c)) = RW m c := (hs0_2 t).read_unread _
  have r3 : View.read (Elt Ideal) (View.whole cc0_stg3_0) ((hs0_3 t).unread (RA m c)) = RA m c := (hs0_3 t).read_unread _
  simp only [r0, r1, r2, r3]
  rw [e]
  dsimp only [RWC, RXC, RXS, RWS, RS, RM]
  rw [← word0 (RL m c) (Shape.Idx.first (by decide)), ← word1 (RL m c) (Shape.Idx.first (by decide))]

end Cert.ReferenceIdeal.Gen
-- ==== Proof.RI.RefVal.lean ====
/- The reference's result terms, at an index, are the functions of the specification. -/
module

public import proofs.«01_k».proof.Proof.RI.Ref
public import proofs.«01_k».proof.Proof.RI.Reds
public import Idealize.ShloMosaic.Lib.Pointwise
public import Idealize.ShloMosaic.Lib.VecWindow
public import Idealize.ShloMosaic.Lib.ValueIdxCore

@[expose] public section

set_option maxRecDepth 16384

noncomputable section

namespace Cert.ReferenceIdeal.Gen

open Idealize.ShloMosaic Idealize.ShloMosaic.TcCoe Idealize.SL.Sem
open Cert.Spec
open Idealize.ShloMosaic.ValueIdx (select_apply cmpf_apply)

/-- The maximum of the masked magnitudes of a channel, over both sequences and all rows. -/
theorem red01 (v : FVec Ideal S2x128x3584 .f32) (k : Fin 3584) :
    multiReduction .maximumf [0, 1] S3584 v 0xFF800000#32 reduces_S2x128x3584_S3584 (.inl rfl) rfl (ix1 k) = (⨆ x : Fin 2, ⨆ y : Fin 128, (v (ix3 x y k) : EReal)) :=
  max_first v _ _ _ k
/-- The maximum of a weight column. -/
theorem red0 (v : FVec Ideal S3584x18944 .f32) (n : Fin 18944) :
    multiReduction .maximumf [0] S18944 v 0xFF800000#32 reduces_S3584x18944_S18944 (.inl rfl) rfl (ix1 n) = (⨆ k : Fin 3584, (v (ix2 k n) : EReal)) :=
  max_rows v _ _ _ n
/-- The maximum of an activation row. -/
theorem red2 (v : FVec Ideal S2x128x3584 .f32) (x : Fin 2) (y : Fin 128) :
    multiReduction .maximumf [2] S2x128 v 0xFF800000#32 reduces_S2x128x3584_S2x128 (.inl rfl) rfl (ix2 x y) = (⨆ k : Fin 3584, (v (ix3 x y k) : EReal)) :=
  max_last v _ _ _ x y

variable (L : Fin 2 → BitVec 32) (X : Fin 2 → Fin 128 → Fin 3584 → EReal) (W : Fin 3584 → Fin 18944 → EReal) (A : Fin 3584 → EReal)

/-- The rows' mask. -/
theorem mask_at (b : Fin 2) (i : Fin 128) : k0_pay3 (F := Ideal) (L 0) (L 1) (ix3 b i 0) = okB L b i := by
  pointwise [k0_pay3]
  fin_cases b <;> rfl

/-- The channel scales. -/
theorem s_at (x : Vec Ideal S2x128x3584 .bf16) (a : Vec Ideal S3584 .f32) (hx : ∀ b i k, (x (ix3 b i k) : EReal) = X b i k) (ha : ∀ k, (a (ix1 k) : EReal) = A k)
    (k : Fin 3584) : k0_pay4 (F := Ideal) x (L 0) (L 1) a (ix1 k) = chS L X A k := by
  unfold k0_pay4
  dsimp only
  rw [divf_apply, powf_apply, maximumf_apply, red01]
  pointwise [k0_pay2]
  unfold chS
  simp only [mask_at, hx, ha]

/-- The scaled weights. -/
theorem w5_at (x : Vec Ideal S2x128x3584 .bf16) (a : Vec Ideal S3584 .f32) (w : Vec Ideal S3584x18944 .bf16)
    (hx : ∀ b i k, (x (ix3 b i k) : EReal) = X b i k) (ha : ∀ k, (a (ix1 k) : EReal) = A k) (hw : ∀ k n, (w (ix2 k n) : EReal) = W k n)
    (k : Fin 3584) (n : Fin 18944) : k0_pay5 (F := Ideal) x (L 0) (L 1) a w (ix2 k n) = wSc L X W A k n := by
  pointwise [k0_pay5]
  rw [s_at L X A x a hx ha, hw]; rfl

/-- The weight steps. -/
theorem ws_at (x : Vec Ideal S2x128x3584 .bf16) (a : Vec Ideal S3584 .f32) (w : Vec Ideal S3584x18944 .bf16)
    (hx : ∀ b i k, (x (ix3 b i k) : EReal) = X b i k) (ha : ∀ k, (a (ix1 k) : EReal) = A k) (hw : ∀ k n, (w (ix2 k n) : EReal) = W k n)
    (n : Fin 18944) : k0_pay6 (F := Ideal) x (L 0) (L 1) a w (ix1 n) = wStep L X W A n := by
  unfold k0_pay6
  dsimp only
  rw [select_apply, cmpf_apply, divf_apply, red0]
  pointwise
  simp only [w5_at L X W A x a w hx ha hw]; rfl

/-- The weight codes. -/
theorem wc_at (v5 : FVec Ideal S3584x18944 .f32) (v6 : FVec Ideal S18944 .f32)
    (h5 : ∀ k n, (v5 (ix2 k n) : EReal) = wSc L X W A k n) (h6 : ∀ n, (v6 (ix1 n) : EReal) = wStep L X W A n)
    (k : Fin 3584) (n : Fin 18944) : k0_pay7 (F := Ideal) v5 v6 (ix2 k n) = wCode L X W A k n := by
  pointwise [k0_pay7]
  simp only [h5, h6]
  unfold wCode codeI codeF
  with_reducible rfl

/-- The scaled activations. -/
theorem x8_at (x : Vec Ideal S2x128x3584 .bf16) (s : FVec Ideal S3584 .f32) (hx : ∀ b i k, (x (ix3 b i k) : EReal) = X b i k) (hs : ∀ k, (s (ix1 k) : EReal) = chS L X A k)
    (b : Fin 2) (i : Fin 128) (k : Fin 3584) : k0_pay8 (F := Ideal) (k0_pay2 x) s (ix3 b i k) = xSc L X A b i k := by
  pointwise [k0_pay8, k0_pay2]
  rw [hx, hs]; rfl

/-- The activation steps, valid rows or not. -/
theorem xs_at (x : Vec Ideal S2x128x3584 .bf16) (s : FVec Ideal S3584 .f32) (hx : ∀ b i k, (x (ix3 b i k) : EReal) = X b i k) (hs : ∀ k, (s (ix1 k) : EReal) = chS L X A k)
    (b : Fin 2) (i : Fin 128) : k0_pay9 (F := Ideal) (k0_pay2 x) s (ix2 b i) = xStep L X A b i := by
  unfold k0_pay9
  dsimp only
  rw [select_apply, cmpf_apply, divf_apply, red2]
  pointwise
  simp only [x8_at L X A x s hx hs]; rfl

/-- The activation codes. -/
theorem xc_at (x : Vec Ideal S2x128x3584 .bf16) (s : FVec Ideal S3584 .f32) (hx : ∀ b i k, (x (ix3 b i k) : EReal) = X b i k) (hs : ∀ k, (s (ix1 k) : EReal) = chS L X A k)
    (b : Fin 2) (i : Fin 128) (k : Fin 3584) : k0_pay10 (F := Ideal) (k0_pay2 x) (k0_pay3 (F := Ideal) (L 0) (L 1)) s (ix3 b i k) = xCode L X A b i k := by
  have h8 := x8_at L X A x s hx hs
  have h9 := xs_at L X A x s hx hs
  have hm := mask_at L
  unfold k0_pay10
  generalize k0_pay9 (F := Ideal) (k0_pay2 x) s = q at *
  generalize k0_pay8 (F := Ideal) (k0_pay2 x) s = v at *
  generalize k0_pay3 (F := Ideal) (L 0) (L 1) = mk at *
  pointwise
  rw [hm, h9, h8]
  unfold xCode codeI codeF
  with_reducible rfl

/-- The activation steps. -/
theorem xsm_at (x : Vec Ideal S2x128x3584 .bf16) (s : FVec Ideal S3584 .f32) (hx : ∀ b i k, (x (ix3 b i k) : EReal) = X b i k) (hs : ∀ k, (s (ix1 k) : EReal) = chS L X A k)
    (b : Fin 2) (i : Fin 128) : k0_pay11 (F := Ideal) (k0_pay2 x) (k0_pay3 (F := Ideal) (L 0) (L 1)) s (ix2 b i) = xSt L X A b i := by
  pointwise [k0_pay11]
  rw [mask_at, xs_at L X A x s hx hs]; rfl

/-- The product. -/
theorem y_at (sw : FVec Ideal S18944 .f32) (wc : IVec S3584x18944 8) (xc : IVec S2x128x3584 8) (sx : FVec Ideal S2x128 .f32)
    (h1 : ∀ n, (sw (ix1 n) : EReal) = wStep L X W A n) (h2 : ∀ k n, wc (ix2 k n) = wCode L X W A k n) (h3 : ∀ b i k, xc (ix3 b i k) = xCode L X A b i k)
    (h4 : ∀ b i, (sx (ix2 b i) : EReal) = xSt L X A b i)
    (b : Fin 2) (i : Fin 128) (n : Fin 18944) : k0_pay1 (F := Ideal) sw wc xc sx (ix3 b i n) = yOut L X W A b i n := by
  pointwise [k0_pay1]
  simp only [h1, h2, h3, h4]; rfl

variable (m : (ℓ : Loc nD τ sig) → Buf (Elt Ideal) ℓ) (c : Dev nD)

/-- The lengths. -/
abbrev sL : Fin 2 → BitVec 32 := fun b => RL m c (ix1 b)
/-- The activations. -/
abbrev sX : Fin 2 → Fin 128 → Fin 3584 → EReal := fun b i k => RX m c (ix3 b i k)
/-- The weights. -/
abbrev sW : Fin 3584 → Fin 18944 → EReal := fun k n => RW m c (ix2 k n)
/-- The weights' channel maxima. -/
abbrev sA : Fin 3584 → EReal := fun k => RA m c (ix1 k)

/-- The reference's channel scales. -/
theorem rs_at (k : Fin 3584) : RS m c (ix1 k) = chS (sL m c) (sX m c) (sA m c) k :=
  s_at (sL m c) (sX m c) (sA m c) (RX m c) (RA m c) (fun _ _ _ => rfl) (fun _ => rfl) k
/-- The reference's weight steps. -/
theorem rws_at (n : Fin 18944) : RWS m c (ix1 n) = wStep (sL m c) (sX m c) (sW m c) (sA m c) n :=
  ws_at (sL m c) (sX m c) (sW m c) (sA m c) (RX m c) (RA m c) (RW m c) (fun _ _ _ => rfl) (fun _ => rfl) (fun _ _ => rfl) n
/-- The reference's weight codes. -/
theorem rwc_at (k : Fin 3584) (n : Fin 18944) : RWC m c (ix2 k n) = wCode (sL m c) (sX m c) (sW m c) (sA m c) k n :=
  wc_at (sL m c) (sX m c) (sW m c) (sA m c) _ _
    (w5_at (sL m c) (sX m c) (sW m c) (sA m c) (RX m c) (RA m c) (RW m c) (fun _ _ _ => rfl) (fun _ => rfl) (fun _ _ => rfl)) (rws_at m c) k n
/-- The reference's activation codes. -/
theorem rxc_at (b : Fin 2) (i : Fin 128) (k : Fin 3584) : RXC m c (ix3 b i k) = xCode (sL m c) (sX m c) (sA m c) b i k :=
  xc_at (sL m c) (sX m c) (sA m c) (RX m c) (RS m c) (fun _ _ _ => rfl) (rs_at m c) b i k
/-- The reference's activation steps. -/
theorem rxs_at (b : Fin 2) (i : Fin 128) : RXS m c (ix2 b i) = xSt (sL m c) (sX m c) (sA m c) b i :=
  xsm_at (sL m c) (sX m c) (sA m c) (RX m c) (RS m c) (fun _ _ _ => rfl) (rs_at m c) b i
/-- The reference's product. -/
theorem ry_at (b : Fin 2) (i : Fin 128) (n : Fin 18944) :
    k0_pay1 (F := Ideal) (RWS m c) (RWC m c) (RXC m c) (RXS m c) (ix3 b i n) = yOut (sL m c) (sX m c) (sW m c) (sA m c) b i n :=
  y_at (sL m c) (sX m c) (sW m c) (sA m c) _ _ _ _ (rws_at m c) (rwc_at m c) (rxc_at m c) (rxs_at m c) b i n

end Cert.ReferenceIdeal.Gen
-- ==== Proof.Algebraic.lean ====
/- The kernel and the reference return the same six results, over the extended reals, from the same arguments. -/
module

public import proofs.«01_k».proof.Defs
public import proofs.«01_k».proof.Proof.KI.ResultAt
public import proofs.«01_k».proof.Proof.RI.RefVal

@[expose] public section

set_option maxRecDepth 16384
set_option maxHeartbeats 4000000

noncomputable section

namespace Cert.Proof

open Idealize.ShloMosaic Idealize.ShloMosaic.TcCoe Idealize.SL.Sem
open Cert.KernelIdeal.Gen (kL kX kW kA)
open Cert.ReferenceIdeal.Gen (sL sX sW sA RWS RWC RXC RXS RS)

/-- From the same arguments, every execution of the kernel and every execution of the reference end with the same six results, and with their
    arguments as they were. -/
theorem algebraic : Cert.algebraic_KernelIdeal_ReferenceIdeal (hKernelIdeal := Cert.KernelIdeal.Gen.facts) (hReferenceIdeal := Cert.ReferenceIdeal.Gen.facts) := by
  intro m g m' g' _ ha
  have hL : ∀ c, sL m' c = kL m c := fun c => funext fun b => congrFun (ha c).2.1 (ix1 b)
  have hX : ∀ c, sX m' c = kX m c := fun c => funext fun b => funext fun i => funext fun k => congrFun (ha c).1 (ix3 b i k)
  have hW : ∀ c, sW m' c = kW m c := fun c => funext fun k => funext fun n => congrFun (ha c).2.2.1 (ix2 k n)
  have hA : ∀ c, sA m' c = kA m c := fun c => funext fun k => congrFun (ha c).2.2.2 (ix1 k)
  refine ⟨fun c => Cert.ReferenceIdeal.Gen.k0_pay1 (F := Ideal) (RWS m' c) (RWC m' c) (RXC m' c) (RXS m' c), fun c => RS m' c, fun c => RWC m' c,
    fun c => RWS m' c, fun c => RXC m' c, fun c => RXS m' c, ?_, ?_⟩
  · refine (θ_run _ _ _).mono (fun r hr c => ?_) (Cert.KernelIdeal.Gen.vrun m g trivial)
    refine ⟨?_, ?_, ?_, ?_, ?_, ?_, ?_, ?_, ?_, ?_⟩
    · exact ((hr c).2 Cert.KernelIdeal.main_v3 (by decide : Cert.KernelIdeal.main_v3 ∈ Pipeline.restRefs Cert.KernelIdeal.sig Cert.KernelIdeal.spec0)).trans
        (Cert.KernelIdeal.Gen.ky_res m trivial c _ fun b i n => (Cert.ReferenceIdeal.Gen.ry_at m' c b i n).trans (by rw [hL, hX, hW, hA]))
    · exact ((hr c).2 Cert.KernelIdeal.main_v4 (by decide : Cert.KernelIdeal.main_v4 ∈ Pipeline.restRefs Cert.KernelIdeal.sig Cert.KernelIdeal.spec0)).trans
        (Cert.KernelIdeal.Gen.ks_res m trivial c _ fun k => (Cert.ReferenceIdeal.Gen.rs_at m' c k).trans (by rw [hL, hX, hA]))
    · exact ((hr c).1 5).trans
        (Cert.KernelIdeal.Gen.kwc_arr m trivial c _ fun k n => (Cert.ReferenceIdeal.Gen.rwc_at m' c k n).trans (by rw [hL, hX, hW, hA]))
    · exact ((hr c).2 Cert.KernelIdeal.main_v5 (by decide : Cert.KernelIdeal.main_v5 ∈ Pipeline.restRefs Cert.KernelIdeal.sig Cert.KernelIdeal.spec0)).trans
        (Cert.KernelIdeal.Gen.kws_res m trivial c _ fun n => (Cert.ReferenceIdeal.Gen.rws_at m' c n).trans (by rw [hL, hX, hW, hA]))
    · exact ((hr c).2 Cert.KernelIdeal.main_v6 (by decide : Cert.KernelIdeal.main_v6 ∈ Pipeline.restRefs Cert.KernelIdeal.sig Cert.KernelIdeal.spec0)).trans
        (Cert.KernelIdeal.Gen.kxc_res m trivial c _ fun b i k => (Cert.ReferenceIdeal.Gen.rxc_at m' c b i k).trans (by rw [hL, hX, hA]))
    · exact ((hr c).1 8).trans
        (Cert.KernelIdeal.Gen.kxs_arr m trivial c _ fun b i => (Cert.ReferenceIdeal.Gen.rxs_at m' c b i).trans (by rw [hL, hX, hA]))
    · exact ((hr c).2 Cert.KernelIdeal.main_arg0 (by decide : Cert.KernelIdeal.main_arg0 ∈ Pipeline.restRefs Cert.KernelIdeal.sig Cert.KernelIdeal.spec0)).trans
        (Cert.KernelIdeal.Gen.W_main_arg0 m trivial _ c)
    · exact ((hr c).2 Cert.KernelIdeal.main_arg1 (by decide : Cert.KernelIdeal.main_arg1 ∈ Pipeline.restRefs Cert.KernelIdeal.sig Cert.KernelIdeal.spec0)).trans
        (Cert.KernelIdeal.Gen.W_main_arg1 m trivial _ c)
    · exact ((hr c).1 2).trans (((Cert.KernelIdeal.Gen.vdats m trivial 0 c).arrAt_in 2 rfl _).trans
        ((Cert.KernelIdeal.Gen.vA_eq m trivial c 2).trans (Cert.KernelIdeal.Gen.V_main_arg2 m c)))
    · exact ((hr c).2 Cert.KernelIdeal.main_arg3 (by decide : Cert.KernelIdeal.main_arg3 ∈ Pipeline.restRefs Cert.KernelIdeal.sig Cert.KernelIdeal.spec0)).trans
        (Cert.KernelIdeal.Gen.W_main_arg3 m trivial _ c)
  · refine (θ_run _ _ _).mono (fun r hr c => ?_) (Cert.ReferenceIdeal.Value.run_blocks m' g')
    obtain ⟨h0, h1, h2, h3, h4, h5, h6, h7, h8, h9⟩ := hr c
    exact ⟨h0.trans (Cert.ReferenceIdeal.Gen.rarr4 m' c), h1.trans (Cert.ReferenceIdeal.Gen.rarr5 m' c), h2.trans (Cert.ReferenceIdeal.Gen.rarr6 m' c),
      h3.trans (Cert.ReferenceIdeal.Gen.rarr7 m' c), h4.trans (Cert.ReferenceIdeal.Gen.rarr8 m' c), h5.trans (Cert.ReferenceIdeal.Gen.rarr9 m' c), h6, h7, h8, h9⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.K.ForgetFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.KI.ForgetFrame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The programs' frames, the idealised program's preservation, and the kernel's results equal to the reference's. -/
theorem claim : Cert.Claim := ⟨Cert.Kernel.Gen.facts, Cert.KernelIdeal.Gen.facts, Cert.ReferenceIdeal.Gen.facts,
  fun m ρ _ => Cert.Kernel.Gen.frame m ρ trivial,
  fun m ρ _ => Cert.KernelIdeal.Gen.frame m ρ trivial,
  fun m ρ _ => Cert.ReferenceIdeal.Gen.frame m ρ,
  trivial, algebraic⟩

end Cert.Proof

end
